-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_values_in_range [hPre_values_in_range : Cert.Pre_values_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_values_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_values_in_range [hPre_values_in_range : Cert.Pre_values_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_values_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_values_in_range [hKernelIdeal : Cert.KernelIdeal.Facts] [hPre_values_in_range : Cert.Pre_values_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_values_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_values_in_range [hReferenceIdeal : Cert.ReferenceIdeal.Facts] [hPre_values_in_range : Cert.Pre_values_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_values_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_values_in_range [hKernelIdeal : Cert.KernelIdeal.Facts] [hReferenceIdeal : Cert.ReferenceIdeal.Facts] [hPre_values_in_range : Cert.Pre_values_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_values_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)) (v1 : (c : Dev Cert.KernelIdeal.nD) → Buf (Elt Ideal) ((c.tc : Thread Cert.KernelIdeal.nD Cert.KernelIdeal.τ).loc Cert.KernelIdeal.main_v4)) (v2 : (c : Dev Cert.KernelIdeal.nD) → Buf (Elt Ideal) ((c.tc : Thread Cert.KernelIdeal.nD Cert.KernelIdeal.τ).loc Cert.KernelIdeal.main_v2_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_v4) = v1 c
          ∧ r.2.mem ((c.tc : Thread Cert.KernelIdeal.nD Cert.KernelIdeal.τ).loc Cert.KernelIdeal.main_v2_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31_0) = v0 c
          ∧ r.2.mem ((c.tc : Thread Cert.ReferenceIdeal.nD Cert.ReferenceIdeal.τ).loc Cert.ReferenceIdeal.main_v31_1) = v1 c
          ∧ r.2.mem ((c.tc : Thread Cert.ReferenceIdeal.nD Cert.ReferenceIdeal.τ).loc Cert.ReferenceIdeal.main_v31_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_values_in_range : Cert.Pre_values_in_range.Facts),
    quiescent_Kernel (hKernel := hKernel)
    ∧ quiescent_KernelIdeal (hKernelIdeal := hKernelIdeal)
    ∧ quiescent_KernelIdeal_pre_values_in_range (hKernelIdeal := hKernelIdeal) (hPre_values_in_range := hPre_values_in_range)
    ∧ quiescent_ReferenceIdeal (hReferenceIdeal := hReferenceIdeal)
    ∧ quiescent_ReferenceIdeal_pre_values_in_range (hReferenceIdeal := hReferenceIdeal) (hPre_values_in_range := hPre_values_in_range)
    ∧ preserves_Kernel_KernelIdeal
    ∧ algebraic_KernelIdeal_ReferenceIdeal_pre_values_in_range (hKernelIdeal := hKernelIdeal) (hReferenceIdeal := hReferenceIdeal) (hPre_values_in_range := hPre_values_in_range)
-- ==== Pre_values_in_range.lean ====
abbrev S1x128x18944 : Shape := ⟨3, ![1, 128, 18944]⟩
abbrev S18944x3584 : Shape := ⟨2, ![18944, 3584]⟩
abbrev S3584 : Shape := ⟨1, ![3584]⟩
abbrev S_ : Shape := ⟨0, ![]⟩

class Facts : Prop where
  bitsLt_bf16_f32 : FTy.bits .bf16 < FTy.bits .f32
  bcast_S_S1x128x18944 : S_.BroadcastsInDim S1x128x18944 (![] : Fin 0 → Fin S1x128x18944.rank)
  reducesTo_S1x128x18944_S_d0_1_2 : S1x128x18944.ReducesTo [0, 1, 2] S_
  h_S_ : 0 < S_.numel

variable [Facts]

def fn {F : FTy → Type} [FloatOps F] (main_arg0 : FVec F S1x128x18944 .bf16) (main_arg1 : FVec F S18944x3584 .fp8e4m3) (main_arg2 : FVec F S3584 .f32) : IVec S_ 1 :=
  let main_v0 : FVec F S1x128x18944 .f32 := (extf .f32 · bitsLt_bf16_f32) main_arg0
  let main_cst : FVec F S_ .f32 := constant S_ .f32 0x5F800000#32
  let main_v1 : FVec F S1x128x18944 .f32 := broadcastInDim S1x128x18944 ![] bcast_S_S1x128x18944 main_cst
  let main_v2 : IVec S1x128x18944 1 := cmpf .ole main_v0 main_v1
  let main_c : IVec S_ 1 := constantI S_ 1 1#1
  let main_v3 : IVec S_ 1 := (fun x v => Host.reduce IntOp.andi x v reducesTo_S1x128x18944_S_d0_1_2 h_S_) main_v2 main_c
  main_v3
-- ==== Kernel.lean ====
abbrev S1x128x18944 : Shape := ⟨3, ![1, 128, 18944]⟩
abbrev S18944x3584 : Shape := ⟨2, ![18944, 3584]⟩
abbrev S3584 : Shape := ⟨1, ![3584]⟩
abbrev S128x18944 : Shape := ⟨2, ![128, 18944]⟩
abbrev S1x3584 : Shape := ⟨2, ![1, 3584]⟩
abbrev S128x3584 : Shape := ⟨2, ![128, 3584]⟩
abbrev S1x128 : Shape := ⟨2, ![1, 128]⟩
abbrev S5x18944x512 : Shape := ⟨3, ![5, 18944, 512]⟩
abbrev S128x128 : Shape := ⟨2, ![128, 128]⟩
abbrev S4 : Shape := ⟨1, ![4]⟩
abbrev S5x2 : Shape := ⟨2, ![5, 2]⟩
abbrev S_ : Shape := ⟨0, ![]⟩
abbrev S1 : Shape := ⟨1, ![1]⟩
abbrev S32x18944 : Shape := ⟨2, ![32, 18944]⟩
abbrev S1x1 : Shape := ⟨2, ![1, 1]⟩
abbrev S1x9472x512 : Shape := ⟨3, ![1, 9472, 512]⟩
abbrev S9472x512 : Shape := ⟨2, ![9472, 512]⟩
abbrev S32x128 : Shape := ⟨2, ![32, 128]⟩
abbrev S32 : Shape := ⟨1, ![32]⟩
abbrev S32x1 : Shape := ⟨2, ![32, 1]⟩
abbrev S32x128x1 : Shape := ⟨3, ![32, 128, 1]⟩
abbrev S128x512 : Shape := ⟨2, ![128, 512]⟩
abbrev S1x512x512 : Shape := ⟨3, ![1, 512, 512]⟩
abbrev S512x512 : Shape := ⟨2, ![512, 512]⟩
abbrev S128x256 : Shape := ⟨2, ![128, 256]⟩
abbrev S1x256x512 : Shape := ⟨3, ![1, 256, 512]⟩
abbrev S256x512 : Shape := ⟨2, ![256, 512]⟩
abbrev S1x128x3584 : Shape := ⟨3, ![1, 128, 3584]⟩

abbrev nBuf : Space → Nat
  | .hbm => 10
  | .vmem => 7
  | .smem => 0
  | _ => 0

abbrev bufTy : (tb : Table) → Fin (tcTables nBuf tb) → BufTy
  | .hbm, ⟨0, _⟩ => ⟨S1x128x18944, .bf16⟩
  | .hbm, ⟨1, _⟩ => ⟨S18944x3584, .fp8e4m3⟩
  | .hbm, ⟨2, _⟩ => ⟨S3584, .f32⟩
  | .hbm, ⟨3, _⟩ => ⟨S128x18944, .bf16⟩
  | .hbm, ⟨4, _⟩ => ⟨S1x3584, .f32⟩
  | .hbm, ⟨5, _⟩ => ⟨S128x3584, .bf16⟩
  | .hbm, ⟨6, _⟩ => ⟨S128x18944, .fp8e4m3⟩
  | .hbm, ⟨7, _⟩ => ⟨S1x128, .f32⟩
  | .hbm, ⟨8, _⟩ => ⟨S1x128x3584, .bf16⟩
  | .hbm, ⟨9, _⟩ => ⟨S1x128x18944, .fp8e4m3⟩
  | .local _ .vmem, ⟨0, _⟩ => ⟨S128x18944, .bf16⟩
  | .local _ .vmem, ⟨1, _⟩ => ⟨S128x18944, .fp8e4m3⟩
  | .local _ .vmem, ⟨2, _⟩ => ⟨S5x18944x512, .fp8e4m3⟩
  | .local _ .vmem, ⟨3, _⟩ => ⟨S128x3584, .bf16⟩
  | .local _ .vmem, ⟨4, _⟩ => ⟨S1x3584, .f32⟩
  | .local _ .vmem, ⟨5, _⟩ => ⟨S128x128, .f32⟩
  | .local _ .vmem, ⟨6, _⟩ => ⟨S1x128, .f32⟩
  | _, _ => ⟨S1x128x18944, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev main_v3 : Ref sig .tc := ⟨.hbm, 8, rfl⟩
abbrev main_v4 : Ref sig .tc := ⟨.hbm, 9, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev cc0_scratch5 : Ref sig .tc := ⟨.vmem, 5, rfl⟩
abbrev cc0_scratch6 : Ref sig .tc := ⟨.vmem, 6, rfl⟩

abbrev nD : Nat := 1
abbrev τ : Topo := Topo.v7x

variable {F : FTy → Type} [FloatOps F]

abbrev grid0 : Pipeline.Grid := .none

def k0_mult1 : BitVec 32 :=
  let c0_i32_13 : BitVec 32 := 0#32
  c0_i32_13
def k0_mult2 : BitVec 32 :=
  let c0_i32_20 : BitVec 32 := 0#32
  c0_i32_20
def k0_mult3 : BitVec 32 :=
  let c512_i32 : BitVec 32 := 512#32
  c512_i32
def k0_mult4 : BitVec 32 :=
  let c512_i32_32 : BitVec 32 := 512#32
  c512_i32_32
def k0_mult5 : BitVec 32 :=
  let c1024_i32 : BitVec 32 := 1024#32
  c1024_i32
def k0_mult6 : BitVec 32 :=
  let c1024_i32_45 : BitVec 32 := 1024#32
  c1024_i32_45
def k0_mult7 : BitVec 32 :=
  let c1536_i32 : BitVec 32 := 1536#32
  c1536_i32
def k0_mult8 : BitVec 32 :=
  let c1536_i32_58 : BitVec 32 := 1536#32
  c1536_i32_58
def k0_mult9 : BitVec 32 :=
  let c2048_i32 : BitVec 32 := 2048#32
  c2048_i32
def k0_mult10 : BitVec 32 :=
  let c2048_i32_70 : BitVec 32 := 2048#32
  c2048_i32_70
@[reducible] def k0_t1_loop : Scf.Loop 32 :=
  let c0_i32_87 : BitVec 32 := 0#32
  let c4_i32_88 : BitVec 32 := 4#32
  let v97 : BitVec 32 := Scalar.addi c0_i32_87 c4_i32_88
  let c1_i32_89 : BitVec 32 := 1#32
  ⟨c0_i32_87, v97, c1_i32_89⟩
def k0_off1 (k0_t1 : Fin k0_t1_loop.trips) : Fin 1 → Nat :=
  let c0_i32_122 : BitVec 32 := 0#32
  let c0_i32_87 : BitVec 32 := 0#32
  let c1_i32_89 : BitVec 32 := 1#32
  let arg19 : BitVec 32 := Scf.iv c0_i32_87 c1_i32_89 k0_t1
  let c1_i32_121 : BitVec 32 := 1#32
  let v122 : BitVec 32 := Scalar.muli arg19 c1_i32_121
  let v123 : BitVec 32 := Scalar.addi c0_i32_122 v122
  ![v123.toNat]
def k0_off2 (k0_t1 : Fin k0_t1_loop.trips) : Fin 2 → Nat :=
  let c0_i32_122 : BitVec 32 := 0#32
  let c0_i32_87 : BitVec 32 := 0#32
  let c1_i32_89 : BitVec 32 := 1#32
  let arg19 : BitVec 32 := Scf.iv c0_i32_87 c1_i32_89 k0_t1
  let c1_i32_121 : BitVec 32 := 1#32
  let v122 : BitVec 32 := Scalar.muli arg19 c1_i32_121
  let v123 : BitVec 32 := Scalar.addi c0_i32_122 v122
  let c32_i32_123 : BitVec 32 := 32#32
  let v124 : BitVec 32 := Scalar.muli v123 c32_i32_123
  let c0_i32_124 : BitVec 32 := 0#32
  ![v124.toNat, 0]
def k0_mult11 (k0_t1 : Fin k0_t1_loop.trips) : BitVec 32 :=
  let c0_i32_122 : BitVec 32 := 0#32
  let c0_i32_87 : BitVec 32 := 0#32
  let c1_i32_89 : BitVec 32 := 1#32
  let arg19 : BitVec 32 := Scf.iv c0_i32_87 c1_i32_89 k0_t1
  let c1_i32_121 : BitVec 32 := 1#32
  let v122 : BitVec 32 := Scalar.muli arg19 c1_i32_121
  let v123 : BitVec 32 := Scalar.addi c0_i32_122 v122
  let c32_i32_126 : BitVec 32 := 32#32
  let v129 : BitVec 32 := Scalar.muli v123 c32_i32_126
  v129
@[reducible] def k0_t2_loop : Scf.Loop 32 :=
  let c0_i32_127 : BitVec 32 := 0#32
  let c4_i32_128 : BitVec 32 := 4#32
  let v132 : BitVec 32 := Scalar.addi c0_i32_127 c4_i32_128
  let c1_i32_129 : BitVec 32 := 1#32
  ⟨c0_i32_127, v132, c1_i32_129⟩
def k0_mult12 (k0_t2 : Fin k0_t2_loop.trips) : BitVec 32 :=
  let c0_i32_127 : BitVec 32 := 0#32
  let c1_i32_129 : BitVec 32 := 1#32
  let arg20 : BitVec 32 := Scf.iv c0_i32_127 c1_i32_129 k0_t2
  let c4736_i32 : BitVec 32 := 4736#32
  let v246 : BitVec 32 := Scalar.muli arg20 c4736_i32
  v246
def k0_off3 (k0_t1 : Fin k0_t1_loop.trips) (k0_t2 : Fin k0_t2_loop.trips) (c0_i32_168 : BitVec 32) : Fin 2 → Nat :=
  let c0_i32_122 : BitVec 32 := 0#32
  let c0_i32_87 : BitVec 32 := 0#32
  let c1_i32_89 : BitVec 32 := 1#32
  let arg19 : BitVec 32 := Scf.iv c0_i32_87 c1_i32_89 k0_t1
  let c1_i32_121 : BitVec 32 := 1#32
  let v122 : BitVec 32 := Scalar.muli arg19 c1_i32_121
  let v123 : BitVec 32 := Scalar.addi c0_i32_122 v122
  let c32_i32_126 : BitVec 32 := 32#32
  let v129 : BitVec 32 := Scalar.muli v123 c32_i32_126
  let v130 : BitVec 32 := v129
  let v249 : Index := Scalar.indexCast v130
  let c0_i32_127 : BitVec 32 := 0#32
  let c1_i32_129 : BitVec 32 := 1#32
  let arg20 : BitVec 32 := Scf.iv c0_i32_127 c1_i32_129 k0_t2
  let c4736_i32 : BitVec 32 := 4736#32
  let v246 : BitVec 32 := Scalar.muli arg20 c4736_i32
  let v247 : BitVec 32 := v246
  let v248 : BitVec 32 := Scalar.addi v247 c0_i32_168
  let v250 : Index := Scalar.indexCast v248
  ![v249.toNat, v250.toNat]
def k0_off4 (k0_t1 : Fin k0_t1_loop.trips) : Fin 2 → Nat :=
  let c0_i32_122 : BitVec 32 := 0#32
  let c0_i32_87 : BitVec 32 := 0#32
  let c1_i32_89 : BitVec 32 := 1#32
  let arg19 : BitVec 32 := Scf.iv c0_i32_87 c1_i32_89 k0_t1
  let c1_i32_121 : BitVec 32 := 1#32
  let v122 : BitVec 32 := Scalar.muli arg19 c1_i32_121
  let v123 : BitVec 32 := Scalar.addi c0_i32_122 v122
  let c32_i32_126 : BitVec 32 := 32#32
  let v129 : BitVec 32 := Scalar.muli v123 c32_i32_126
  let v130 : BitVec 32 := v129
  let v236 : Index := Scalar.indexCast v130
  let c0_160 : Index := 0#32
  ![v236.toNat, 0]
@[reducible] def k0_t3_loop : Scf.Loop 32 :=
  let c0_i32_161 : BitVec 32 := 0#32
  let c4_i32_162 : BitVec 32 := 4#32
  let v240 : BitVec 32 := Scalar.addi c0_i32_161 c4_i32_162
  let c1_i32_163 : BitVec 32 := 1#32
  ⟨c0_i32_161, v240, c1_i32_163⟩
def k0_mult13 (k0_t3 : Fin k0_t3_loop.trips) : BitVec 32 :=
  let c0_i32_169 : BitVec 32 := 0#32
  let c0_i32_161 : BitVec 32 := 0#32
  let c1_i32_163 : BitVec 32 := 1#32
  let arg20 : BitVec 32 := Scf.iv c0_i32_161 c1_i32_163 k0_t3
  let c1_i32_168 : BitVec 32 := 1#32
  let v246 : BitVec 32 := Scalar.muli arg20 c1_i32_168
  let v247 : BitVec 32 := Scalar.addi c0_i32_169 v246
  let c4736_i32 : BitVec 32 := 4736#32
  let v248 : BitVec 32 := Scalar.muli v247 c4736_i32
  v248
def k0_off5 (k0_t1 : Fin k0_t1_loop.trips) (k0_t3 : Fin k0_t3_loop.trips) (c0_i32_170 : BitVec 32) : Fin 2 → Nat :=
  let c0_i32_122 : BitVec 32 := 0#32
  let c0_i32_87 : BitVec 32 := 0#32
  let c1_i32_89 : BitVec 32 := 1#32
  let arg19 : BitVec 32 := Scf.iv c0_i32_87 c1_i32_89 k0_t1
  let c1_i32_121 : BitVec 32 := 1#32
  let v122 : BitVec 32 := Scalar.muli arg19 c1_i32_121
  let v123 : BitVec 32 := Scalar.addi c0_i32_122 v122
  let c32_i32_126 : BitVec 32 := 32#32
  let v129 : BitVec 32 := Scalar.muli v123 c32_i32_126
  let v130 : BitVec 32 := v129
  let v251 : Index := Scalar.indexCast v130
  let c0_i32_169 : BitVec 32 := 0#32
  let c0_i32_161 : BitVec 32 := 0#32
  let c1_i32_163 : BitVec 32 := 1#32
  let arg20 : BitVec 32 := Scf.iv c0_i32_161 c1_i32_163 k0_t3
  let c1_i32_168 : BitVec 32 := 1#32
  let v246 : BitVec 32 := Scalar.muli arg20 c1_i32_168
  let v247 : BitVec 32 := Scalar.addi c0_i32_169 v246
  let c4736_i32 : BitVec 32 := 4736#32
  let v248 : BitVec 32 := Scalar.muli v247 c4736_i32
  let v249 : BitVec 32 := v248
  let v250 : BitVec 32 := Scalar.addi v249 c0_i32_170
  let v252 : Index := Scalar.indexCast v250
  ![v251.toNat, v252.toNat]
@[reducible] def k0_t4_loop : Scf.Loop 32 :=
  let c0_i32_94 : BitVec 32 := 0#32
  let c7_i32 : BitVec 32 := 7#32
  let v104 : BitVec 32 := Scalar.addi c0_i32_94 c7_i32
  let c1_i32_95 : BitVec 32 := 1#32
  ⟨c0_i32_94, v104, c1_i32_95⟩
def k0_mult14 (k0_t4 : Fin k0_t4_loop.trips) : BitVec 32 :=
  let c0_i32_122 : BitVec 32 := 0#32
  let c0_i32_94 : BitVec 32 := 0#32
  let c1_i32_95 : BitVec 32 := 1#32
  let arg19 : BitVec 32 := Scf.iv c0_i32_94 c1_i32_95 k0_t4
  let c1_i32_121 : BitVec 32 := 1#32
  let v122 : BitVec 32 := Scalar.muli arg19 c1_i32_121
  let v123 : BitVec 32 := Scalar.addi c0_i32_122 v122
  let c512_i32_123 : BitVec 32 := 512#32
  let v126 : BitVec 32 := Scalar.muli v123 c512_i32_123
  v126
def k0_off6 (k0_t4 : Fin k0_t4_loop.trips) : Fin 2 → Nat :=
  let c0_i32_122 : BitVec 32 := 0#32
  let c0_i32_94 : BitVec 32 := 0#32
  let c1_i32_95 : BitVec 32 := 1#32
  let arg19 : BitVec 32 := Scf.iv c0_i32_94 c1_i32_95 k0_t4
  let c1_i32_121 : BitVec 32 := 1#32
  let v122 : BitVec 32 := Scalar.muli arg19 c1_i32_121
  let v123 : BitVec 32 := Scalar.addi c0_i32_122 v122
  let c5_i32 : BitVec 32 := 5#32
  let v124 : BitVec 32 := Scalar.remsi v123 c5_i32
  let c0_i32_124 : BitVec 32 := 0#32
  ![v124.toNat, 0]
def k0_off7 (k0_t4 : Fin k0_t4_loop.trips) : Fin 3 → Nat :=
  let c0_i32_122 : BitVec 32 := 0#32
  let c0_i32_94 : BitVec 32 := 0#32
  let c1_i32_95 : BitVec 32 := 1#32
  let arg19 : BitVec 32 := Scf.iv c0_i32_94 c1_i32_95 k0_t4
  let c1_i32_121 : BitVec 32 := 1#32
  let v122 : BitVec 32 := Scalar.muli arg19 c1_i32_121
  let v123 : BitVec 32 := Scalar.addi c0_i32_122 v122
  let c5_i32 : BitVec 32 := 5#32
  let v124 : BitVec 32 := Scalar.remsi v123 c5_i32
  let c0_i32_125 : BitVec 32 := 0#32
  let c0_i32_126 : BitVec 32 := 0#32
  ![v124.toNat, 0, 0]
def k0_off8 (k0_t4 : Fin k0_t4_loop.trips) : Fin 2 → Nat :=
  let c0_i32_127 : BitVec 32 := 0#32
  let c0_i32_122 : BitVec 32 := 0#32
  let c0_i32_94 : BitVec 32 := 0#32
  let c1_i32_95 : BitVec 32 := 1#32
  let arg19 : BitVec 32 := Scf.iv c0_i32_94 c1_i32_95 k0_t4
  let c1_i32_121 : BitVec 32 := 1#32
  let v122 : BitVec 32 := Scalar.muli arg19 c1_i32_121
  let v123 : BitVec 32 := Scalar.addi c0_i32_122 v122
  let c512_i32_123 : BitVec 32 := 512#32
  let v126 : BitVec 32 := Scalar.muli v123 c512_i32_123
  let v127 : BitVec 32 := v126
  ![0, v127.toNat]
def k0_off9 (k0_t4 : Fin k0_t4_loop.trips) : Fin 3 → Nat :=
  let c0_i32_122 : BitVec 32 := 0#32
  let c0_i32_94 : BitVec 32 := 0#32
  let c1_i32_95 : BitVec 32 := 1#32
  let arg19 : BitVec 32 := Scf.iv c0_i32_94 c1_i32_95 k0_t4
  let c1_i32_121 : BitVec 32 := 1#32
  let v122 : BitVec 32 := Scalar.muli arg19 c1_i32_121
  let v123 : BitVec 32 := Scalar.addi c0_i32_122 v122
  let c5_i32 : BitVec 32 := 5#32
  let v124 : BitVec 32 := Scalar.remsi v123 c5_i32
  let v134 : Index := Scalar.indexCast v124
  let c0_130 : Index := 0#32
  let c0_131 : Index := 0#32
  ![v134.toNat, 0, 0]
def k0_off10 (k0_t4 : Fin k0_t4_loop.trips) : Fin 3 → Nat :=
  let c0_i32_122 : BitVec 32 := 0#32
  let c0_i32_94 : BitVec 32 := 0#32
  let c1_i32_95 : BitVec 32 := 1#32
  let arg19 : BitVec 32 := Scf.iv c0_i32_94 c1_i32_95 k0_t4
  let c1_i32_121 : BitVec 32 := 1#32
  let v122 : BitVec 32 := Scalar.muli arg19 c1_i32_121
  let v123 : BitVec 32 := Scalar.addi c0_i32_122 v122
  let c5_i32 : BitVec 32 := 5#32
  let v124 : BitVec 32 := Scalar.remsi v123 c5_i32
  let v140 : Index := Scalar.indexCast v124
  let c512_134 : Index := 512#32
  let c0_135 : Index := 0#32
  ![v140.toNat, 512, 0]
def k0_off11 (k0_t4 : Fin k0_t4_loop.trips) : Fin 3 → Nat :=
  let c0_i32_122 : BitVec 32 := 0#32
  let c0_i32_94 : BitVec 32 := 0#32
  let c1_i32_95 : BitVec 32 := 1#32
  let arg19 : BitVec 32 := Scf.iv c0_i32_94 c1_i32_95 k0_t4
  let c1_i32_121 : BitVec 32 := 1#32
  let v122 : BitVec 32 := Scalar.muli arg19 c1_i32_121
  let v123 : BitVec 32 := Scalar.addi c0_i32_122 v122
  let c5_i32 : BitVec 32 := 5#32
  let v124 : BitVec 32 := Scalar.remsi v123 c5_i32
  let v146 : Index := Scalar.indexCast v124
  let c1024_138 : Index := 1024#32
  let c0_139 : Index := 0#32
  ![v146.toNat, 1024, 0]
def k0_off12 (k0_t4 : Fin k0_t4_loop.trips) : Fin 3 → Nat :=
  let c0_i32_122 : BitVec 32 := 0#32
  let c0_i32_94 : BitVec 32 := 0#32
  let c1_i32_95 : BitVec 32 := 1#32
  let arg19 : BitVec 32 := Scf.iv c0_i32_94 c1_i32_95 k0_t4
  let c1_i32_121 : BitVec 32 := 1#32
  let v122 : BitVec 32 := Scalar.muli arg19 c1_i32_121
  let v123 : BitVec 32 := Scalar.addi c0_i32_122 v122
  let c5_i32 : BitVec 32 := 5#32
  let v124 : BitVec 32 := Scalar.remsi v123 c5_i32
  let v152 : Index := Scalar.indexCast v124
  let c1536_142 : Index := 1536#32
  let c0_143 : Index := 0#32
  ![v152.toNat, 1536, 0]
def k0_off13 (k0_t4 : Fin k0_t4_loop.trips) : Fin 3 → Nat :=
  let c0_i32_122 : BitVec 32 := 0#32
  let c0_i32_94 : BitVec 32 := 0#32
  let c1_i32_95 : BitVec 32 := 1#32
  let arg19 : BitVec 32 := Scf.iv c0_i32_94 c1_i32_95 k0_t4
  let c1_i32_121 : BitVec 32 := 1#32
  let v122 : BitVec 32 := Scalar.muli arg19 c1_i32_121
  let v123 : BitVec 32 := Scalar.addi c0_i32_122 v122
  let c5_i32 : BitVec 32 := 5#32
  let v124 : BitVec 32 := Scalar.remsi v123 c5_i32
  let v158 : Index := Scalar.indexCast v124
  let c2048_146 : Index := 2048#32
  let c0_147 : Index := 0#32
  ![v158.toNat, 2048, 0]
def k0_off14 (k0_t4 : Fin k0_t4_loop.trips) : Fin 3 → Nat :=
  let c0_i32_122 : BitVec 32 := 0#32
  let c0_i32_94 : BitVec 32 := 0#32
  let c1_i32_95 : BitVec 32 := 1#32
  let arg19 : BitVec 32 := Scf.iv c0_i32_94 c1_i32_95 k0_t4
  let c1_i32_121 : BitVec 32 := 1#32
  let v122 : BitVec 32 := Scalar.muli arg19 c1_i32_121
  let v123 : BitVec 32 := Scalar.addi c0_i32_122 v122
  let c5_i32 : BitVec 32 := 5#32
  let v124 : BitVec 32 := Scalar.remsi v123 c5_i32
  let v164 : Index := Scalar.indexCast v124
  let c2560_150 : Index := 2560#32
  let c0_151 : Index := 0#32
  ![v164.toNat, 2560, 0]
def k0_off15 (k0_t4 : Fin k0_t4_loop.trips) : Fin 3 → Nat :=
  let c0_i32_122 : BitVec 32 := 0#32
  let c0_i32_94 : BitVec 32 := 0#32
  let c1_i32_95 : BitVec 32 := 1#32
  let arg19 : BitVec 32 := Scf.iv c0_i32_94 c1_i32_95 k0_t4
  let c1_i32_121 : BitVec 32 := 1#32
  let v122 : BitVec 32 := Scalar.muli arg19 c1_i32_121
  let v123 : BitVec 32 := Scalar.addi c0_i32_122 v122
  let c5_i32 : BitVec 32 := 5#32
  let v124 : BitVec 32 := Scalar.remsi v123 c5_i32
  let v170 : Index := Scalar.indexCast v124
  let c3072_154 : Index := 3072#32
  let c0_155 : Index := 0#32
  ![v170.toNat, 3072, 0]
def k0_off16 (k0_t4 : Fin k0_t4_loop.trips) : Fin 3 → Nat :=
  let c0_i32_122 : BitVec 32 := 0#32
  let c0_i32_94 : BitVec 32 := 0#32
  let c1_i32_95 : BitVec 32 := 1#32
  let arg19 : BitVec 32 := Scf.iv c0_i32_94 c1_i32_95 k0_t4
  let c1_i32_121 : BitVec 32 := 1#32
  let v122 : BitVec 32 := Scalar.muli arg19 c1_i32_121
  let v123 : BitVec 32 := Scalar.addi c0_i32_122 v122
  let c5_i32 : BitVec 32 := 5#32
  let v124 : BitVec 32 := Scalar.remsi v123 c5_i32
  let v176 : Index := Scalar.indexCast v124
  let c3584_158 : Index := 3584#32
  let c0_159 : Index := 0#32
  ![v176.toNat, 3584, 0]
def k0_off17 (k0_t4 : Fin k0_t4_loop.trips) : Fin 3 → Nat :=
  let c0_i32_122 : BitVec 32 := 0#32
  let c0_i32_94 : BitVec 32 := 0#32
  let c1_i32_95 : BitVec 32 := 1#32
  let arg19 : BitVec 32 := Scf.iv c0_i32_94 c1_i32_95 k0_t4
  let c1_i32_121 : BitVec 32 := 1#32
  let v122 : BitVec 32 := Scalar.muli arg19 c1_i32_121
  let v123 : BitVec 32 := Scalar.addi c0_i32_122 v122
  let c5_i32 : BitVec 32 := 5#32
  let v124 : BitVec 32 := Scalar.remsi v123 c5_i32
  let v182 : Index := Scalar.indexCast v124
  let c4096_162 : Index := 4096#32
  let c0_163 : Index := 0#32
  ![v182.toNat, 4096, 0]
def k0_off18 (k0_t4 : Fin k0_t4_loop.trips) : Fin 3 → Nat :=
  let c0_i32_122 : BitVec 32 := 0#32
  let c0_i32_94 : BitVec 32 := 0#32
  let c1_i32_95 : BitVec 32 := 1#32
  let arg19 : BitVec 32 := Scf.iv c0_i32_94 c1_i32_95 k0_t4
  let c1_i32_121 : BitVec 32 := 1#32
  let v122 : BitVec 32 := Scalar.muli arg19 c1_i32_121
  let v123 : BitVec 32 := Scalar.addi c0_i32_122 v122
  let c5_i32 : BitVec 32 := 5#32
  let v124 : BitVec 32 := Scalar.remsi v123 c5_i32
  let v188 : Index := Scalar.indexCast v124
  let c4608_166 : Index := 4608#32
  let c0_167 : Index := 0#32
  ![v188.toNat, 4608, 0]
def k0_off19 (k0_t4 : Fin k0_t4_loop.trips) : Fin 3 → Nat :=
  let c0_i32_122 : BitVec 32 := 0#32
  let c0_i32_94 : BitVec 32 := 0#32
  let c1_i32_95 : BitVec 32 := 1#32
  let arg19 : BitVec 32 := Scf.iv c0_i32_94 c1_i32_95 k0_t4
  let c1_i32_121 : BitVec 32 := 1#32
  let v122 : BitVec 32 := Scalar.muli arg19 c1_i32_121
  let v123 : BitVec 32 := Scalar.addi c0_i32_122 v122
  let c5_i32 : BitVec 32 := 5#32
  let v124 : BitVec 32 := Scalar.remsi v123 c5_i32
  let v194 : Index := Scalar.indexCast v124
  let c5120_170 : Index := 5120#32
  let c0_171 : Index := 0#32
  ![v194.toNat, 5120, 0]
def k0_off20 (k0_t4 : Fin k0_t4_loop.trips) : Fin 3 → Nat :=
  let c0_i32_122 : BitVec 32 := 0#32
  let c0_i32_94 : BitVec 32 := 0#32
  let c1_i32_95 : BitVec 32 := 1#32
  let arg19 : BitVec 32 := Scf.iv c0_i32_94 c1_i32_95 k0_t4
  let c1_i32_121 : BitVec 32 := 1#32
  let v122 : BitVec 32 := Scalar.muli arg19 c1_i32_121
  let v123 : BitVec 32 := Scalar.addi c0_i32_122 v122
  let c5_i32 : BitVec 32 := 5#32
  let v124 : BitVec 32 := Scalar.remsi v123 c5_i32
  let v200 : Index := Scalar.indexCast v124
  let c5632_174 : Index := 5632#32
  let c0_175 : Index := 0#32
  ![v200.toNat, 5632, 0]
def k0_off21 (k0_t4 : Fin k0_t4_loop.trips) : Fin 3 → Nat :=
  let c0_i32_122 : BitVec 32 := 0#32
  let c0_i32_94 : BitVec 32 := 0#32
  let c1_i32_95 : BitVec 32 := 1#32
  let arg19 : BitVec 32 := Scf.iv c0_i32_94 c1_i32_95 k0_t4
  let c1_i32_121 : BitVec 32 := 1#32
  let v122 : BitVec 32 := Scalar.muli arg19 c1_i32_121
  let v123 : BitVec 32 := Scalar.addi c0_i32_122 v122
  let c5_i32 : BitVec 32 := 5#32
  let v124 : BitVec 32 := Scalar.remsi v123 c5_i32
  let v206 : Index := Scalar.indexCast v124
  let c6144_178 : Index := 6144#32
  let c0_179 : Index := 0#32
  ![v206.toNat, 6144, 0]
def k0_off22 (k0_t4 : Fin k0_t4_loop.trips) : Fin 3 → Nat :=
  let c0_i32_122 : BitVec 32 := 0#32
  let c0_i32_94 : BitVec 32 := 0#32
  let c1_i32_95 : BitVec 32 := 1#32
  let arg19 : BitVec 32 := Scf.iv c0_i32_94 c1_i32_95 k0_t4
  let c1_i32_121 : BitVec 32 := 1#32
  let v122 : BitVec 32 := Scalar.muli arg19 c1_i32_121
  let v123 : BitVec 32 := Scalar.addi c0_i32_122 v122
  let c5_i32 : BitVec 32 := 5#32
  let v124 : BitVec 32 := Scalar.remsi v123 c5_i32
  let v212 : Index := Scalar.indexCast v124
  let c6656_182 : Index := 6656#32
  let c0_183 : Index := 0#32
  ![v212.toNat, 6656, 0]
def k0_off23 (k0_t4 : Fin k0_t4_loop.trips) : Fin 3 → Nat :=
  let c0_i32_122 : BitVec 32 := 0#32
  let c0_i32_94 : BitVec 32 := 0#32
  let c1_i32_95 : BitVec 32 := 1#32
  let arg19 : BitVec 32 := Scf.iv c0_i32_94 c1_i32_95 k0_t4
  let c1_i32_121 : BitVec 32 := 1#32
  let v122 : BitVec 32 := Scalar.muli arg19 c1_i32_121
  let v123 : BitVec 32 := Scalar.addi c0_i32_122 v122
  let c5_i32 : BitVec 32 := 5#32
  let v124 : BitVec 32 := Scalar.remsi v123 c5_i32
  let v218 : Index := Scalar.indexCast v124
  let c7168_186 : Index := 7168#32
  let c0_187 : Index := 0#32
  ![v218.toNat, 7168, 0]
def k0_off24 (k0_t4 : Fin k0_t4_loop.trips) : Fin 3 → Nat :=
  let c0_i32_122 : BitVec 32 := 0#32
  let c0_i32_94 : BitVec 32 := 0#32
  let c1_i32_95 : BitVec 32 := 1#32
  let arg19 : BitVec 32 := Scf.iv c0_i32_94 c1_i32_95 k0_t4
  let c1_i32_121 : BitVec 32 := 1#32
  let v122 : BitVec 32 := Scalar.muli arg19 c1_i32_121
  let v123 : BitVec 32 := Scalar.addi c0_i32_122 v122
  let c5_i32 : BitVec 32 := 5#32
  let v124 : BitVec 32 := Scalar.remsi v123 c5_i32
  let v224 : Index := Scalar.indexCast v124
  let c7680_190 : Index := 7680#32
  let c0_191 : Index := 0#32
  ![v224.toNat, 7680, 0]
def k0_off25 (k0_t4 : Fin k0_t4_loop.trips) : Fin 3 → Nat :=
  let c0_i32_122 : BitVec 32 := 0#32
  let c0_i32_94 : BitVec 32 := 0#32
  let c1_i32_95 : BitVec 32 := 1#32
  let arg19 : BitVec 32 := Scf.iv c0_i32_94 c1_i32_95 k0_t4
  let c1_i32_121 : BitVec 32 := 1#32
  let v122 : BitVec 32 := Scalar.muli arg19 c1_i32_121
  let v123 : BitVec 32 := Scalar.addi c0_i32_122 v122
  let c5_i32 : BitVec 32 := 5#32
  let v124 : BitVec 32 := Scalar.remsi v123 c5_i32
  let v230 : Index := Scalar.indexCast v124
  let c8192_194 : Index := 8192#32
  let c0_195 : Index := 0#32
  ![v230.toNat, 8192, 0]
def k0_off26 (k0_t4 : Fin k0_t4_loop.trips) : Fin 3 → Nat :=
  let c0_i32_122 : BitVec 32 := 0#32
  let c0_i32_94 : BitVec 32 := 0#32
  let c1_i32_95 : BitVec 32 := 1#32
  let arg19 : BitVec 32 := Scf.iv c0_i32_94 c1_i32_95 k0_t4
  let c1_i32_121 : BitVec 32 := 1#32
  let v122 : BitVec 32 := Scalar.muli arg19 c1_i32_121
  let v123 : BitVec 32 := Scalar.addi c0_i32_122 v122
  let c5_i32 : BitVec 32 := 5#32
  let v124 : BitVec 32 := Scalar.remsi v123 c5_i32
  let v236 : Index := Scalar.indexCast v124
  let c8704_198 : Index := 8704#32
  let c0_199 : Index := 0#32
  ![v236.toNat, 8704, 0]
def k0_off27 (k0_t4 : Fin k0_t4_loop.trips) : Fin 3 → Nat :=
  let c0_i32_122 : BitVec 32 := 0#32
  let c0_i32_94 : BitVec 32 := 0#32
  let c1_i32_95 : BitVec 32 := 1#32
  let arg19 : BitVec 32 := Scf.iv c0_i32_94 c1_i32_95 k0_t4
  let c1_i32_121 : BitVec 32 := 1#32
  let v122 : BitVec 32 := Scalar.muli arg19 c1_i32_121
  let v123 : BitVec 32 := Scalar.addi c0_i32_122 v122
  let c5_i32 : BitVec 32 := 5#32
  let v124 : BitVec 32 := Scalar.remsi v123 c5_i32
  let v242 : Index := Scalar.indexCast v124
  let c9216_202 : Index := 9216#32
  let c0_203 : Index := 0#32
  ![v242.toNat, 9216, 0]
def k0_mult15 (k0_t4 : Fin k0_t4_loop.trips) : BitVec 32 :=
  let c0_i32_122 : BitVec 32 := 0#32
  let c0_i32_94 : BitVec 32 := 0#32
  let c1_i32_95 : BitVec 32 := 1#32
  let arg19 : BitVec 32 := Scf.iv c0_i32_94 c1_i32_95 k0_t4
  let c1_i32_121 : BitVec 32 := 1#32
  let v122 : BitVec 32 := Scalar.muli arg19 c1_i32_121
  let v123 : BitVec 32 := Scalar.addi c0_i32_122 v122
  let c512_i32_205 : BitVec 32 := 512#32
  let v247 : BitVec 32 := Scalar.muli v123 c512_i32_205
  v247
def k0_off28 (k0_t4 : Fin k0_t4_loop.trips) : Fin 2 → Nat :=
  let c0_i32_122 : BitVec 32 := 0#32
  let c0_i32_94 : BitVec 32 := 0#32
  let c1_i32_95 : BitVec 32 := 1#32
  let arg19 : BitVec 32 := Scf.iv c0_i32_94 c1_i32_95 k0_t4
  let c1_i32_121 : BitVec 32 := 1#32
  let v122 : BitVec 32 := Scalar.muli arg19 c1_i32_121
  let v123 : BitVec 32 := Scalar.addi c0_i32_122 v122
  let c5_i32 : BitVec 32 := 5#32
  let v124 : BitVec 32 := Scalar.remsi v123 c5_i32
  let c1_i32_206 : BitVec 32 := 1#32
  ![v124.toNat, 1]
def k0_off29 (k0_t4 : Fin k0_t4_loop.trips) : Fin 3 → Nat :=
  let c0_i32_122 : BitVec 32 := 0#32
  let c0_i32_94 : BitVec 32 := 0#32
  let c1_i32_95 : BitVec 32 := 1#32
  let arg19 : BitVec 32 := Scf.iv c0_i32_94 c1_i32_95 k0_t4
  let c1_i32_121 : BitVec 32 := 1#32
  let v122 : BitVec 32 := Scalar.muli arg19 c1_i32_121
  let v123 : BitVec 32 := Scalar.addi c0_i32_122 v122
  let c5_i32 : BitVec 32 := 5#32
  let v124 : BitVec 32 := Scalar.remsi v123 c5_i32
  let c9472_i32_207 : BitVec 32 := 9472#32
  let c0_i32_208 : BitVec 32 := 0#32
  ![v124.toNat, 9472, 0]
def k0_off30 (k0_t4 : Fin k0_t4_loop.trips) : Fin 2 → Nat :=
  let c9472_i32_209 : BitVec 32 := 9472#32
  let c0_i32_122 : BitVec 32 := 0#32
  let c0_i32_94 : BitVec 32 := 0#32
  let c1_i32_95 : BitVec 32 := 1#32
  let arg19 : BitVec 32 := Scf.iv c0_i32_94 c1_i32_95 k0_t4
  let c1_i32_121 : BitVec 32 := 1#32
  let v122 : BitVec 32 := Scalar.muli arg19 c1_i32_121
  let v123 : BitVec 32 := Scalar.addi c0_i32_122 v122
  let c512_i32_205 : BitVec 32 := 512#32
  let v247 : BitVec 32 := Scalar.muli v123 c512_i32_205
  let v248 : BitVec 32 := v247
  ![9472, v248.toNat]
def k0_off31 (k0_t4 : Fin k0_t4_loop.trips) : Fin 3 → Nat :=
  let c0_i32_122 : BitVec 32 := 0#32
  let c0_i32_94 : BitVec 32 := 0#32
  let c1_i32_95 : BitVec 32 := 1#32
  let arg19 : BitVec 32 := Scf.iv c0_i32_94 c1_i32_95 k0_t4
  let c1_i32_121 : BitVec 32 := 1#32
  let v122 : BitVec 32 := Scalar.muli arg19 c1_i32_121
  let v123 : BitVec 32 := Scalar.addi c0_i32_122 v122
  let c5_i32 : BitVec 32 := 5#32
  let v124 : BitVec 32 := Scalar.remsi v123 c5_i32
  let v255 : Index := Scalar.indexCast v124
  let c9472_211 : Index := 9472#32
  let c0_212 : Index := 0#32
  ![v255.toNat, 9472, 0]
def k0_off32 (k0_t4 : Fin k0_t4_loop.trips) : Fin 3 → Nat :=
  let c0_i32_122 : BitVec 32 := 0#32
  let c0_i32_94 : BitVec 32 := 0#32
  let c1_i32_95 : BitVec 32 := 1#32
  let arg19 : BitVec 32 := Scf.iv c0_i32_94 c1_i32_95 k0_t4
  let c1_i32_121 : BitVec 32 := 1#32
  let v122 : BitVec 32 := Scalar.muli arg19 c1_i32_121
  let v123 : BitVec 32 := Scalar.addi c0_i32_122 v122
  let c5_i32 : BitVec 32 := 5#32
  let v124 : BitVec 32 := Scalar.remsi v123 c5_i32
  let v261 : Index := Scalar.indexCast v124
  let c9984_215 : Index := 9984#32
  let c0_216 : Index := 0#32
  ![v261.toNat, 9984, 0]
def k0_off33 (k0_t4 : Fin k0_t4_loop.trips) : Fin 3 → Nat :=
  let c0_i32_122 : BitVec 32 := 0#32
  let c0_i32_94 : BitVec 32 := 0#32
  let c1_i32_95 : BitVec 32 := 1#32
  let arg19 : BitVec 32 := Scf.iv c0_i32_94 c1_i32_95 k0_t4
  let c1_i32_121 : BitVec 32 := 1#32
  let v122 : BitVec 32 := Scalar.muli arg19 c1_i32_121
  let v123 : BitVec 32 := Scalar.addi c0_i32_122 v122
  let c5_i32 : BitVec 32 := 5#32
  let v124 : BitVec 32 := Scalar.remsi v123 c5_i32
  let v267 : Index := Scalar.indexCast v124
  let c10496_219 : Index := 10496#32
  let c0_220 : Index := 0#32
  ![v267.toNat, 10496, 0]
def k0_off34 (k0_t4 : Fin k0_t4_loop.trips) : Fin 3 → Nat :=
  let c0_i32_122 : BitVec 32 := 0#32
  let c0_i32_94 : BitVec 32 := 0#32
  let c1_i32_95 : BitVec 32 := 1#32
  let arg19 : BitVec 32 := Scf.iv c0_i32_94 c1_i32_95 k0_t4
  let c1_i32_121 : BitVec 32 := 1#32
  let v122 : BitVec 32 := Scalar.muli arg19 c1_i32_121
  let v123 : BitVec 32 := Scalar.addi c0_i32_122 v122
  let c5_i32 : BitVec 32 := 5#32
  let v124 : BitVec 32 := Scalar.remsi v123 c5_i32
  let v273 : Index := Scalar.indexCast v124
  let c11008_223 : Index := 11008#32
  let c0_224 : Index := 0#32
  ![v273.toNat, 11008, 0]
def k0_off35 (k0_t4 : Fin k0_t4_loop.trips) : Fin 3 → Nat :=
  let c0_i32_122 : BitVec 32 := 0#32
  let c0_i32_94 : BitVec 32 := 0#32
  let c1_i32_95 : BitVec 32 := 1#32
  let arg19 : BitVec 32 := Scf.iv c0_i32_94 c1_i32_95 k0_t4
  let c1_i32_121 : BitVec 32 := 1#32
  let v122 : BitVec 32 := Scalar.muli arg19 c1_i32_121
  let v123 : BitVec 32 := Scalar.addi c0_i32_122 v122
  let c5_i32 : BitVec 32 := 5#32
  let v124 : BitVec 32 := Scalar.remsi v123 c5_i32
  let v279 : Index := Scalar.indexCast v124
  let c11520_227 : Index := 11520#32
  let c0_228 : Index := 0#32
  ![v279.toNat, 11520, 0]
def k0_off36 (k0_t4 : Fin k0_t4_loop.trips) : Fin 3 → Nat :=
  let c0_i32_122 : BitVec 32 := 0#32
  let c0_i32_94 : BitVec 32 := 0#32
  let c1_i32_95 : BitVec 32 := 1#32
  let arg19 : BitVec 32 := Scf.iv c0_i32_94 c1_i32_95 k0_t4
  let c1_i32_121 : BitVec 32 := 1#32
  let v122 : BitVec 32 := Scalar.muli arg19 c1_i32_121
  let v123 : BitVec 32 := Scalar.addi c0_i32_122 v122
  let c5_i32 : BitVec 32 := 5#32
  let v124 : BitVec 32 := Scalar.remsi v123 c5_i32
  let v285 : Index := Scalar.indexCast v124
  let c12032_231 : Index := 12032#32
  let c0_232 : Index := 0#32
  ![v285.toNat, 12032, 0]
def k0_off37 (k0_t4 : Fin k0_t4_loop.trips) : Fin 3 → Nat :=
  let c0_i32_122 : BitVec 32 := 0#32
  let c0_i32_94 : BitVec 32 := 0#32
  let c1_i32_95 : BitVec 32 := 1#32
  let arg19 : BitVec 32 := Scf.iv c0_i32_94 c1_i32_95 k0_t4
  let c1_i32_121 : BitVec 32 := 1#32
  let v122 : BitVec 32 := Scalar.muli arg19 c1_i32_121
  let v123 : BitVec 32 := Scalar.addi c0_i32_122 v122
  let c5_i32 : BitVec 32 := 5#32
  let v124 : BitVec 32 := Scalar.remsi v123 c5_i32
  let v291 : Index := Scalar.indexCast v124
  let c12544_235 : Index := 12544#32
  let c0_236 : Index := 0#32
  ![v291.toNat, 12544, 0]
def k0_off38 (k0_t4 : Fin k0_t4_loop.trips) : Fin 3 → Nat :=
  let c0_i32_122 : BitVec 32 := 0#32
  let c0_i32_94 : BitVec 32 := 0#32
  let c1_i32_95 : BitVec 32 := 1#32
  let arg19 : BitVec 32 := Scf.iv c0_i32_94 c1_i32_95 k0_t4
  let c1_i32_121 : BitVec 32 := 1#32
  let v122 : BitVec 32 := Scalar.muli arg19 c1_i32_121
  let v123 : BitVec 32 := Scalar.addi c0_i32_122 v122
  let c5_i32 : BitVec 32 := 5#32
  let v124 : BitVec 32 := Scalar.remsi v123 c5_i32
  let v297 : Index := Scalar.indexCast v124
  let c13056_239 : Index := 13056#32
  let c0_240 : Index := 0#32
  ![v297.toNat, 13056, 0]
def k0_off39 (k0_t4 : Fin k0_t4_loop.trips) : Fin 3 → Nat :=
  let c0_i32_122 : BitVec 32 := 0#32
  let c0_i32_94 : BitVec 32 := 0#32
  let c1_i32_95 : BitVec 32 := 1#32
  let arg19 : BitVec 32 := Scf.iv c0_i32_94 c1_i32_95 k0_t4
  let c1_i32_121 : BitVec 32 := 1#32
  let v122 : BitVec 32 := Scalar.muli arg19 c1_i32_121
  let v123 : BitVec 32 := Scalar.addi c0_i32_122 v122
  let c5_i32 : BitVec 32 := 5#32
  let v124 : BitVec 32 := Scalar.remsi v123 c5_i32
  let v303 : Index := Scalar.indexCast v124
  let c13568_243 : Index := 13568#32
  let c0_244 : Index := 0#32
  ![v303.toNat, 13568, 0]
def k0_off40 (k0_t4 : Fin k0_t4_loop.trips) : Fin 3 → Nat :=
  let c0_i32_122 : BitVec 32 := 0#32
  let c0_i32_94 : BitVec 32 := 0#32
  let c1_i32_95 : BitVec 32 := 1#32
  let arg19 : BitVec 32 := Scf.iv c0_i32_94 c1_i32_95 k0_t4
  let c1_i32_121 : BitVec 32 := 1#32
  let v122 : BitVec 32 := Scalar.muli arg19 c1_i32_121
  let v123 : BitVec 32 := Scalar.addi c0_i32_122 v122
  let c5_i32 : BitVec 32 := 5#32
  let v124 : BitVec 32 := Scalar.remsi v123 c5_i32
  let v309 : Index := Scalar.indexCast v124
  let c14080_247 : Index := 14080#32
  let c0_248 : Index := 0#32
  ![v309.toNat, 14080, 0]
def k0_off41 (k0_t4 : Fin k0_t4_loop.trips) : Fin 3 → Nat :=
  let c0_i32_122 : BitVec 32 := 0#32
  let c0_i32_94 : BitVec 32 := 0#32
  let c1_i32_95 : BitVec 32 := 1#32
  let arg19 : BitVec 32 := Scf.iv c0_i32_94 c1_i32_95 k0_t4
  let c1_i32_121 : BitVec 32 := 1#32
  let v122 : BitVec 32 := Scalar.muli arg19 c1_i32_121
  let v123 : BitVec 32 := Scalar.addi c0_i32_122 v122
  let c5_i32 : BitVec 32 := 5#32
  let v124 : BitVec 32 := Scalar.remsi v123 c5_i32
  let v315 : Index := Scalar.indexCast v124
  let c14592_251 : Index := 14592#32
  let c0_252 : Index := 0#32
  ![v315.toNat, 14592, 0]
def k0_off42 (k0_t4 : Fin k0_t4_loop.trips) : Fin 3 → Nat :=
  let c0_i32_122 : BitVec 32 := 0#32
  let c0_i32_94 : BitVec 32 := 0#32
  let c1_i32_95 : BitVec 32 := 1#32
  let arg19 : BitVec 32 := Scf.iv c0_i32_94 c1_i32_95 k0_t4
  let c1_i32_121 : BitVec 32 := 1#32
  let v122 : BitVec 32 := Scalar.muli arg19 c1_i32_121
  let v123 : BitVec 32 := Scalar.addi c0_i32_122 v122
  let c5_i32 : BitVec 32 := 5#32
  let v124 : BitVec 32 := Scalar.remsi v123 c5_i32
  let v321 : Index := Scalar.indexCast v124
  let c15104_255 : Index := 15104#32
  let c0_256 : Index := 0#32
  ![v321.toNat, 15104, 0]
def k0_off43 (k0_t4 : Fin k0_t4_loop.trips) : Fin 3 → Nat :=
  let c0_i32_122 : BitVec 32 := 0#32
  let c0_i32_94 : BitVec 32 := 0#32
  let c1_i32_95 : BitVec 32 := 1#32
  let arg19 : BitVec 32 := Scf.iv c0_i32_94 c1_i32_95 k0_t4
  let c1_i32_121 : BitVec 32 := 1#32
  let v122 : BitVec 32 := Scalar.muli arg19 c1_i32_121
  let v123 : BitVec 32 := Scalar.addi c0_i32_122 v122
  let c5_i32 : BitVec 32 := 5#32
  let v124 : BitVec 32 := Scalar.remsi v123 c5_i32
  let v327 : Index := Scalar.indexCast v124
  let c15616_259 : Index := 15616#32
  let c0_260 : Index := 0#32
  ![v327.toNat, 15616, 0]
def k0_off44 (k0_t4 : Fin k0_t4_loop.trips) : Fin 3 → Nat :=
  let c0_i32_122 : BitVec 32 := 0#32
  let c0_i32_94 : BitVec 32 := 0#32
  let c1_i32_95 : BitVec 32 := 1#32
  let arg19 : BitVec 32 := Scf.iv c0_i32_94 c1_i32_95 k0_t4
  let c1_i32_121 : BitVec 32 := 1#32
  let v122 : BitVec 32 := Scalar.muli arg19 c1_i32_121
  let v123 : BitVec 32 := Scalar.addi c0_i32_122 v122
  let c5_i32 : BitVec 32 := 5#32
  let v124 : BitVec 32 := Scalar.remsi v123 c5_i32
  let v333 : Index := Scalar.indexCast v124
  let c16128_263 : Index := 16128#32
  let c0_264 : Index := 0#32
  ![v333.toNat, 16128, 0]
def k0_off45 (k0_t4 : Fin k0_t4_loop.trips) : Fin 3 → Nat :=
  let c0_i32_122 : BitVec 32 := 0#32
  let c0_i32_94 : BitVec 32 := 0#32
  let c1_i32_95 : BitVec 32 := 1#32
  let arg19 : BitVec 32 := Scf.iv c0_i32_94 c1_i32_95 k0_t4
  let c1_i32_121 : BitVec 32 := 1#32
  let v122 : BitVec 32 := Scalar.muli arg19 c1_i32_121
  let v123 : BitVec 32 := Scalar.addi c0_i32_122 v122
  let c5_i32 : BitVec 32 := 5#32
  let v124 : BitVec 32 := Scalar.remsi v123 c5_i32
  let v339 : Index := Scalar.indexCast v124
  let c16640_267 : Index := 16640#32
  let c0_268 : Index := 0#32
  ![v339.toNat, 16640, 0]
def k0_off46 (k0_t4 : Fin k0_t4_loop.trips) : Fin 3 → Nat :=
  let c0_i32_122 : BitVec 32 := 0#32
  let c0_i32_94 : BitVec 32 := 0#32
  let c1_i32_95 : BitVec 32 := 1#32
  let arg19 : BitVec 32 := Scf.iv c0_i32_94 c1_i32_95 k0_t4
  let c1_i32_121 : BitVec 32 := 1#32
  let v122 : BitVec 32 := Scalar.muli arg19 c1_i32_121
  let v123 : BitVec 32 := Scalar.addi c0_i32_122 v122
  let c5_i32 : BitVec 32 := 5#32
  let v124 : BitVec 32 := Scalar.remsi v123 c5_i32
  let v345 : Index := Scalar.indexCast v124
  let c17152_271 : Index := 17152#32
  let c0_272 : Index := 0#32
  ![v345.toNat, 17152, 0]
def k0_off47 (k0_t4 : Fin k0_t4_loop.trips) : Fin 3 → Nat :=
  let c0_i32_122 : BitVec 32 := 0#32
  let c0_i32_94 : BitVec 32 := 0#32
  let c1_i32_95 : BitVec 32 := 1#32
  let arg19 : BitVec 32 := Scf.iv c0_i32_94 c1_i32_95 k0_t4
  let c1_i32_121 : BitVec 32 := 1#32
  let v122 : BitVec 32 := Scalar.muli arg19 c1_i32_121
  let v123 : BitVec 32 := Scalar.addi c0_i32_122 v122
  let c5_i32 : BitVec 32 := 5#32
  let v124 : BitVec 32 := Scalar.remsi v123 c5_i32
  let v351 : Index := Scalar.indexCast v124
  let c17664_275 : Index := 17664#32
  let c0_276 : Index := 0#32
  ![v351.toNat, 17664, 0]
def k0_off48 (k0_t4 : Fin k0_t4_loop.trips) : Fin 3 → Nat :=
  let c0_i32_122 : BitVec 32 := 0#32
  let c0_i32_94 : BitVec 32 := 0#32
  let c1_i32_95 : BitVec 32 := 1#32
  let arg19 : BitVec 32 := Scf.iv c0_i32_94 c1_i32_95 k0_t4
  let c1_i32_121 : BitVec 32 := 1#32
  let v122 : BitVec 32 := Scalar.muli arg19 c1_i32_121
  let v123 : BitVec 32 := Scalar.addi c0_i32_122 v122
  let c5_i32 : BitVec 32 := 5#32
  let v124 : BitVec 32 := Scalar.remsi v123 c5_i32
  let v357 : Index := Scalar.indexCast v124
  let c18176_279 : Index := 18176#32
  let c0_280 : Index := 0#32
  ![v357.toNat, 18176, 0]
def k0_off49 (k0_t4 : Fin k0_t4_loop.trips) : Fin 3 → Nat :=
  let c0_i32_122 : BitVec 32 := 0#32
  let c0_i32_94 : BitVec 32 := 0#32
  let c1_i32_95 : BitVec 32 := 1#32
  let arg19 : BitVec 32 := Scf.iv c0_i32_94 c1_i32_95 k0_t4
  let c1_i32_121 : BitVec 32 := 1#32
  let v122 : BitVec 32 := Scalar.muli arg19 c1_i32_121
  let v123 : BitVec 32 := Scalar.addi c0_i32_122 v122
  let c5_i32 : BitVec 32 := 5#32
  let v124 : BitVec 32 := Scalar.remsi v123 c5_i32
  let v363 : Index := Scalar.indexCast v124
  let c18688_283 : Index := 18688#32
  let c0_284 : Index := 0#32
  ![v363.toNat, 18688, 0]
def k0_cond1 (k0_t4 : Fin k0_t4_loop.trips) : BitVec 1 :=
  let c0_i32_122 : BitVec 32 := 0#32
  let c0_i32_94 : BitVec 32 := 0#32
  let c1_i32_95 : BitVec 32 := 1#32
  let arg19 : BitVec 32 := Scf.iv c0_i32_94 c1_i32_95 k0_t4
  let c1_i32_121 : BitVec 32 := 1#32
  let v122 : BitVec 32 := Scalar.muli arg19 c1_i32_121
  let v123 : BitVec 32 := Scalar.addi c0_i32_122 v122
  let c5_i32_286 : BitVec 32 := 5#32
  let v368 : BitVec 32 := Scalar.addi v123 c5_i32_286
  let c7_i32_287 : BitVec 32 := 7#32
  let v369 : BitVec 1 := Scalar.cmpi .slt v368 c7_i32_287
  let v370 : BitVec 32 := Scalar.extui v369
  let c0_i32_288 : BitVec 32 := 0#32
  let v371 : BitVec 1 := Scalar.cmpi .ne v370 c0_i32_288
  v371

def k0_mult16 (k0_t4 : Fin k0_t4_loop.trips) : BitVec 32 :=
  let c0_i32_122 : BitVec 32 := 0#32
  let c0_i32_94 : BitVec 32 := 0#32
  let c1_i32_95 : BitVec 32 := 1#32
  let arg19 : BitVec 32 := Scf.iv c0_i32_94 c1_i32_95 k0_t4
  let c1_i32_121 : BitVec 32 := 1#32
  let v122 : BitVec 32 := Scalar.muli arg19 c1_i32_121
  let v123 : BitVec 32 := Scalar.addi c0_i32_122 v122
  let c5_i32_307 : BitVec 32 := 5#32
  let v433 : BitVec 32 := Scalar.addi v123 c5_i32_307
  let c512_i32_308 : BitVec 32 := 512#32
  let v434 : BitVec 32 := Scalar.muli v433 c512_i32_308
  v434
def k0_off50 (k0_t4 : Fin k0_t4_loop.trips) : Fin 2 → Nat :=
  let c0_i32_122 : BitVec 32 := 0#32
  let c0_i32_94 : BitVec 32 := 0#32
  let c1_i32_95 : BitVec 32 := 1#32
  let arg19 : BitVec 32 := Scf.iv c0_i32_94 c1_i32_95 k0_t4
  let c1_i32_121 : BitVec 32 := 1#32
  let v122 : BitVec 32 := Scalar.muli arg19 c1_i32_121
  let v123 : BitVec 32 := Scalar.addi c0_i32_122 v122
  let c5_i32 : BitVec 32 := 5#32
  let v124 : BitVec 32 := Scalar.remsi v123 c5_i32
  let c0_i32_309 : BitVec 32 := 0#32
  ![v124.toNat, 0]
def k0_off51 (k0_t4 : Fin k0_t4_loop.trips) : Fin 3 → Nat :=
  let c0_i32_122 : BitVec 32 := 0#32
  let c0_i32_94 : BitVec 32 := 0#32
  let c1_i32_95 : BitVec 32 := 1#32
  let arg19 : BitVec 32 := Scf.iv c0_i32_94 c1_i32_95 k0_t4
  let c1_i32_121 : BitVec 32 := 1#32
  let v122 : BitVec 32 := Scalar.muli arg19 c1_i32_121
  let v123 : BitVec 32 := Scalar.addi c0_i32_122 v122
  let c5_i32 : BitVec 32 := 5#32
  let v124 : BitVec 32 := Scalar.remsi v123 c5_i32
  let c0_i32_310 : BitVec 32 := 0#32
  let c0_i32_311 : BitVec 32 := 0#32
  ![v124.toNat, 0, 0]
def k0_off52 (k0_t4 : Fin k0_t4_loop.trips) : Fin 2 → Nat :=
  let c0_i32_312 : BitVec 32 := 0#32
  let c0_i32_122 : BitVec 32 := 0#32
  let c0_i32_94 : BitVec 32 := 0#32
  let c1_i32_95 : BitVec 32 := 1#32
  let arg19 : BitVec 32 := Scf.iv c0_i32_94 c1_i32_95 k0_t4
  let c1_i32_121 : BitVec 32 := 1#32
  let v122 : BitVec 32 := Scalar.muli arg19 c1_i32_121
  let v123 : BitVec 32 := Scalar.addi c0_i32_122 v122
  let c5_i32_307 : BitVec 32 := 5#32
  let v433 : BitVec 32 := Scalar.addi v123 c5_i32_307
  let c512_i32_308 : BitVec 32 := 512#32
  let v434 : BitVec 32 := Scalar.muli v433 c512_i32_308
  let v435 : BitVec 32 := v434
  ![0, v435.toNat]
def k0_mult17 (k0_t4 : Fin k0_t4_loop.trips) : BitVec 32 :=
  let c0_i32_122 : BitVec 32 := 0#32
  let c0_i32_94 : BitVec 32 := 0#32
  let c1_i32_95 : BitVec 32 := 1#32
  let arg19 : BitVec 32 := Scf.iv c0_i32_94 c1_i32_95 k0_t4
  let c1_i32_121 : BitVec 32 := 1#32
  let v122 : BitVec 32 := Scalar.muli arg19 c1_i32_121
  let v123 : BitVec 32 := Scalar.addi c0_i32_122 v122
  let c5_i32_313 : BitVec 32 := 5#32
  let v441 : BitVec 32 := Scalar.addi v123 c5_i32_313
  let c512_i32_314 : BitVec 32 := 512#32
  let v442 : BitVec 32 := Scalar.muli v441 c512_i32_314
  v442
def k0_off53 (k0_t4 : Fin k0_t4_loop.trips) : Fin 2 → Nat :=
  let c0_i32_122 : BitVec 32 := 0#32
  let c0_i32_94 : BitVec 32 := 0#32
  let c1_i32_95 : BitVec 32 := 1#32
  let arg19 : BitVec 32 := Scf.iv c0_i32_94 c1_i32_95 k0_t4
  let c1_i32_121 : BitVec 32 := 1#32
  let v122 : BitVec 32 := Scalar.muli arg19 c1_i32_121
  let v123 : BitVec 32 := Scalar.addi c0_i32_122 v122
  let c5_i32 : BitVec 32 := 5#32
  let v124 : BitVec 32 := Scalar.remsi v123 c5_i32
  let c1_i32_315 : BitVec 32 := 1#32
  ![v124.toNat, 1]
def k0_off54 (k0_t4 : Fin k0_t4_loop.trips) : Fin 3 → Nat :=
  let c0_i32_122 : BitVec 32 := 0#32
  let c0_i32_94 : BitVec 32 := 0#32
  let c1_i32_95 : BitVec 32 := 1#32
  let arg19 : BitVec 32 := Scf.iv c0_i32_94 c1_i32_95 k0_t4
  let c1_i32_121 : BitVec 32 := 1#32
  let v122 : BitVec 32 := Scalar.muli arg19 c1_i32_121
  let v123 : BitVec 32 := Scalar.addi c0_i32_122 v122
  let c5_i32 : BitVec 32 := 5#32
  let v124 : BitVec 32 := Scalar.remsi v123 c5_i32
  let c9472_i32_316 : BitVec 32 := 9472#32
  let c0_i32_317 : BitVec 32 := 0#32
  ![v124.toNat, 9472, 0]
def k0_off55 (k0_t4 : Fin k0_t4_loop.trips) : Fin 2 → Nat :=
  let c9472_i32_318 : BitVec 32 := 9472#32
  let c0_i32_122 : BitVec 32 := 0#32
  let c0_i32_94 : BitVec 32 := 0#32
  let c1_i32_95 : BitVec 32 := 1#32
  let arg19 : BitVec 32 := Scf.iv c0_i32_94 c1_i32_95 k0_t4
  let c1_i32_121 : BitVec 32 := 1#32
  let v122 : BitVec 32 := Scalar.muli arg19 c1_i32_121
  let v123 : BitVec 32 := Scalar.addi c0_i32_122 v122
  let c5_i32_313 : BitVec 32 := 5#32
  let v441 : BitVec 32 := Scalar.addi v123 c5_i32_313
  let c512_i32_314 : BitVec 32 := 512#32
  let v442 : BitVec 32 := Scalar.muli v441 c512_i32_314
  let v443 : BitVec 32 := v442
  ![9472, v443.toNat]
def k0_mult18 (k0_t4 : Fin k0_t4_loop.trips) : BitVec 32 :=
  let c0_i32_122 : BitVec 32 := 0#32
  let c0_i32_94 : BitVec 32 := 0#32
  let c1_i32_95 : BitVec 32 := 1#32
  let arg19 : BitVec 32 := Scf.iv c0_i32_94 c1_i32_95 k0_t4
  let c1_i32_121 : BitVec 32 := 1#32
  let v122 : BitVec 32 := Scalar.muli arg19 c1_i32_121
  let v123 : BitVec 32 := Scalar.addi c0_i32_122 v122
  let c512_i32_291 : BitVec 32 := 512#32
  let v373 : BitVec 32 := Scalar.muli v123 c512_i32_291
  v373
def k0_off56 (k0_t4 : Fin k0_t4_loop.trips) (c0_i32_292 : BitVec 32) : Fin 2 → Nat :=
  let c0_293 : Index := 0#32
  let c0_i32_122 : BitVec 32 := 0#32
  let c0_i32_94 : BitVec 32 := 0#32
  let c1_i32_95 : BitVec 32 := 1#32
  let arg19 : BitVec 32 := Scf.iv c0_i32_94 c1_i32_95 k0_t4
  let c1_i32_121 : BitVec 32 := 1#32
  let v122 : BitVec 32 := Scalar.muli arg19 c1_i32_121
  let v123 : BitVec 32 := Scalar.addi c0_i32_122 v122
  let c512_i32_291 : BitVec 32 := 512#32
  let v373 : BitVec 32 := Scalar.muli v123 c512_i32_291
  let v374 : BitVec 32 := v373
  let v375 : BitVec 32 := Scalar.addi v374 c0_i32_292
  let v378 : Index := Scalar.indexCast v375
  ![0, v378.toNat]
def k0_off57 (k0_t4 : Fin k0_t4_loop.trips) (c0_i32_292 : BitVec 32) : Fin 2 → Nat :=
  let c0_294 : Index := 0#32
  let c0_i32_122 : BitVec 32 := 0#32
  let c0_i32_94 : BitVec 32 := 0#32
  let c1_i32_95 : BitVec 32 := 1#32
  let arg19 : BitVec 32 := Scf.iv c0_i32_94 c1_i32_95 k0_t4
  let c1_i32_121 : BitVec 32 := 1#32
  let v122 : BitVec 32 := Scalar.muli arg19 c1_i32_121
  let v123 : BitVec 32 := Scalar.addi c0_i32_122 v122
  let c512_i32_291 : BitVec 32 := 512#32
  let v373 : BitVec 32 := Scalar.muli v123 c512_i32_291
  let v374 : BitVec 32 := v373
  let v375 : BitVec 32 := Scalar.addi v374 c0_i32_292
  let v383 : Index := Scalar.indexCast v375
  ![0, v383.toNat]
def k0_mult19 (k0_t4 : Fin k0_t4_loop.trips) : BitVec 32 :=
  let c0_i32_122 : BitVec 32 := 0#32
  let c0_i32_94 : BitVec 32 := 0#32
  let c1_i32_95 : BitVec 32 := 1#32
  let arg19 : BitVec 32 := Scf.iv c0_i32_94 c1_i32_95 k0_t4
  let c1_i32_121 : BitVec 32 := 1#32
  let v122 : BitVec 32 := Scalar.muli arg19 c1_i32_121
  let v123 : BitVec 32 := Scalar.addi c0_i32_122 v122
  let c512_i32_295 : BitVec 32 := 512#32
  let v387 : BitVec 32 := Scalar.muli v123 c512_i32_295
  v387
def k0_mult20 (k0_t4 : Fin k0_t4_loop.trips) : BitVec 32 :=
  let c0_i32_122 : BitVec 32 := 0#32
  let c0_i32_94 : BitVec 32 := 0#32
  let c1_i32_95 : BitVec 32 := 1#32
  let arg19 : BitVec 32 := Scf.iv c0_i32_94 c1_i32_95 k0_t4
  let c1_i32_121 : BitVec 32 := 1#32
  let v122 : BitVec 32 := Scalar.muli arg19 c1_i32_121
  let v123 : BitVec 32 := Scalar.addi c0_i32_122 v122
  let c512_i32_298 : BitVec 32 := 512#32
  let v401 : BitVec 32 := Scalar.muli v123 c512_i32_298
  v401
def k0_mult21 (k0_t4 : Fin k0_t4_loop.trips) : BitVec 32 :=
  let c0_i32_122 : BitVec 32 := 0#32
  let c0_i32_94 : BitVec 32 := 0#32
  let c1_i32_95 : BitVec 32 := 1#32
  let arg19 : BitVec 32 := Scf.iv c0_i32_94 c1_i32_95 k0_t4
  let c1_i32_121 : BitVec 32 := 1#32
  let v122 : BitVec 32 := Scalar.muli arg19 c1_i32_121
  let v123 : BitVec 32 := Scalar.addi c0_i32_122 v122
  let c512_i32_301 : BitVec 32 := 512#32
  let v415 : BitVec 32 := Scalar.muli v123 c512_i32_301
  v415
def k0_mult22 (k0_t4 : Fin k0_t4_loop.trips) : BitVec 32 :=
  let c0_i32_122 : BitVec 32 := 0#32
  let c0_i32_94 : BitVec 32 := 0#32
  let c1_i32_95 : BitVec 32 := 1#32
  let arg19 : BitVec 32 := Scf.iv c0_i32_94 c1_i32_95 k0_t4
  let c1_i32_121 : BitVec 32 := 1#32
  let v122 : BitVec 32 := Scalar.muli arg19 c1_i32_121
  let v123 : BitVec 32 := Scalar.addi c0_i32_122 v122
  let c512_i32_304 : BitVec 32 := 512#32
  let v429 : BitVec 32 := Scalar.muli v123 c512_i32_304
  v429
def k0_off58 (k0_t4 : Fin k0_t4_loop.trips) : Fin 2 → Nat :=
  let c0_i32_305 : BitVec 32 := 0#32
  let c0_i32_122 : BitVec 32 := 0#32
  let c0_i32_94 : BitVec 32 := 0#32
  let c1_i32_95 : BitVec 32 := 1#32
  let arg19 : BitVec 32 := Scf.iv c0_i32_94 c1_i32_95 k0_t4
  let c1_i32_121 : BitVec 32 := 1#32
  let v122 : BitVec 32 := Scalar.muli arg19 c1_i32_121
  let v123 : BitVec 32 := Scalar.addi c0_i32_122 v122
  let c512_i32_304 : BitVec 32 := 512#32
  let v429 : BitVec 32 := Scalar.muli v123 c512_i32_304
  let v430 : BitVec 32 := v429
  ![0, v430.toNat]
@[reducible] def k0_t5_loop : Scf.Loop 32 :=
  let c0_i32_117 : BitVec 32 := 0#32
  let c7_i32_118 : BitVec 32 := 7#32
  let v121 : BitVec 32 := Scalar.addi c0_i32_117 c7_i32_118
  let c1_i32_119 : BitVec 32 := 1#32
  ⟨c0_i32_117, v121, c1_i32_119⟩
def k0_mult23 (k0_t5 : Fin k0_t5_loop.trips) : BitVec 32 :=
  let c0_i32_122 : BitVec 32 := 0#32
  let c0_i32_117 : BitVec 32 := 0#32
  let c1_i32_119 : BitVec 32 := 1#32
  let arg19 : BitVec 32 := Scf.iv c0_i32_117 c1_i32_119 k0_t5
  let c1_i32_121 : BitVec 32 := 1#32
  let v122 : BitVec 32 := Scalar.muli arg19 c1_i32_121
  let v123 : BitVec 32 := Scalar.addi c0_i32_122 v122
  let c512_i32_123 : BitVec 32 := 512#32
  let v124 : BitVec 32 := Scalar.muli v123 c512_i32_123
  v124
def k0_off59 (k0_t5 : Fin k0_t5_loop.trips) : Fin 2 → Nat :=
  let c0_i32_124 : BitVec 32 := 0#32
  let c0_i32_122 : BitVec 32 := 0#32
  let c0_i32_117 : BitVec 32 := 0#32
  let c1_i32_119 : BitVec 32 := 1#32
  let arg19 : BitVec 32 := Scf.iv c0_i32_117 c1_i32_119 k0_t5
  let c1_i32_121 : BitVec 32 := 1#32
  let v122 : BitVec 32 := Scalar.muli arg19 c1_i32_121
  let v123 : BitVec 32 := Scalar.addi c0_i32_122 v122
  let c512_i32_123 : BitVec 32 := 512#32
  let v124 : BitVec 32 := Scalar.muli v123 c512_i32_123
  let v125 : BitVec 32 := v124
  ![0, v125.toNat]
-- ==== ReferenceIdeal.lean ====
abbrev S1x128x18944 : Shape := ⟨3, ![1, 128, 18944]⟩
abbrev S18944x3584 : Shape := ⟨2, ![18944, 3584]⟩
abbrev S3584 : Shape := ⟨1, ![3584]⟩
abbrev S_ : Shape := ⟨0, ![]⟩
abbrev S1x128x4736x4 : Shape := ⟨4, ![1, 128, 4736, 4]⟩
abbrev S1x128x4736x4x1 : Shape := ⟨5, ![1, 128, 4736, 4, 1]⟩
abbrev S1x128x4736x1x4 : Shape := ⟨5, ![1, 128, 4736, 1, 4]⟩
abbrev S4 : Shape := ⟨1, ![4]⟩
abbrev S1x4 : Shape := ⟨2, ![1, 4]⟩
abbrev S4x1 : Shape := ⟨2, ![4, 1]⟩
abbrev S4x4 : Shape := ⟨2, ![4, 4]⟩
abbrev S1x128x4736x4x4 : Shape := ⟨5, ![1, 128, 4736, 4, 4]⟩
abbrev S1x1x1x4x4 : Shape := ⟨5, ![1, 1, 1, 4, 4]⟩
abbrev S128x18944 : Shape := ⟨2, ![128, 18944]⟩
abbrev S1x3584 : Shape := ⟨2, ![1, 3584]⟩
abbrev S1x128x3584 : Shape := ⟨3, ![1, 128, 3584]⟩
abbrev S1x128 : Shape := ⟨2, ![1, 128]⟩
abbrev S128 : Shape := ⟨1, ![128]⟩
abbrev S128x1 : Shape := ⟨2, ![128, 1]⟩
abbrev S1x254 : Shape := ⟨2, ![1, 254]⟩
abbrev S128x254 : Shape := ⟨2, ![128, 254]⟩
abbrev S128x3584 : Shape := ⟨2, ![128, 3584]⟩

abbrev nBuf : Space → Nat
  | .hbm => 43
  | .vmem => 6
  | .smem => 0
  | _ => 0

abbrev bufTy : (tb : Table) → Fin (tcTables nBuf tb) → BufTy
  | .hbm, ⟨0, _⟩ => ⟨S1x128x18944, .bf16⟩
  | .hbm, ⟨1, _⟩ => ⟨S18944x3584, .fp8e4m3⟩
  | .hbm, ⟨2, _⟩ => ⟨S3584, .f32⟩
  | .hbm, ⟨3, _⟩ => ⟨S1x128x18944, .f32⟩
  | .hbm, ⟨4, _⟩ => ⟨S_, .f32⟩
  | .hbm, ⟨5, _⟩ => ⟨S1x128x18944, .f32⟩
  | .hbm, ⟨6, _⟩ => ⟨S1x128x18944, .f32⟩
  | .hbm, ⟨7, _⟩ => ⟨S1x128x18944, .f32⟩
  | .hbm, ⟨8, _⟩ => ⟨S1x128x4736x4, .f32⟩
  | .hbm, ⟨9, _⟩ => ⟨S1x128x4736x4x1, .f32⟩
  | .hbm, ⟨10, _⟩ => ⟨S1x128x4736x1x4, .f32⟩
  | .hbm, ⟨11, _⟩ => ⟨S4, .i32⟩
  | .hbm, ⟨12, _⟩ => ⟨S1x4, .i32⟩
  | .hbm, ⟨13, _⟩ => ⟨S4x1, .i32⟩
  | .hbm, ⟨14, _⟩ => ⟨S4x4, .i32⟩
  | .hbm, ⟨15, _⟩ => ⟨S4x4, .i32⟩
  | .hbm, ⟨16, _⟩ => ⟨S4x4, .i1⟩
  | .hbm, ⟨17, _⟩ => ⟨S1x128x4736x4x4, .f32⟩
  | .hbm, ⟨18, _⟩ => ⟨S1x128x4736x4x4, .f32⟩
  | .hbm, ⟨19, _⟩ => ⟨S1x128x4736x4x4, .i1⟩
  | .hbm, ⟨20, _⟩ => ⟨S1x128x4736x4x4, .f32⟩
  | .hbm, ⟨21, _⟩ => ⟨S1x128x4736x4x4, .f32⟩
  | .hbm, ⟨22, _⟩ => ⟨S1x128x4736x4x4, .i1⟩
  | .hbm, ⟨23, _⟩ => ⟨S1x1x1x4x4, .i1⟩
  | .hbm, ⟨24, _⟩ => ⟨S1x128x4736x4x4, .i1⟩
  | .hbm, ⟨25, _⟩ => ⟨S1x128x4736x4x4, .i1⟩
  | .hbm, ⟨26, _⟩ => ⟨S1x128x4736x4x4, .i1⟩
  | .hbm, ⟨27, _⟩ => ⟨S1x128x4736x4x4, .i32⟩
  | .hbm, ⟨28, _⟩ => ⟨S_, .i32⟩
  | .hbm, ⟨29, _⟩ => ⟨S1x128x4736x4, .i32⟩
  | .hbm, ⟨30, _⟩ => ⟨S_, .i32⟩
  | .hbm, ⟨31, _⟩ => ⟨S1x128x4736x4, .i32⟩
  | .hbm, ⟨32, _⟩ => ⟨S1x128x4736x4, .i1⟩
  | .hbm, ⟨33, _⟩ => ⟨S_, .f32⟩
  | .hbm, ⟨34, _⟩ => ⟨S_, .f32⟩
  | .hbm, ⟨35, _⟩ => ⟨S1x128x4736x4, .f32⟩
  | .hbm, ⟨36, _⟩ => ⟨S1x128x4736x4, .f32⟩
  | .hbm, ⟨37, _⟩ => ⟨S1x128x18944, .f32⟩
  | .hbm, ⟨38, _⟩ => ⟨S128x18944, .f32⟩
  | .hbm, ⟨39, _⟩ => ⟨S1x3584, .f32⟩
  | .hbm, ⟨40, _⟩ => ⟨S1x128x3584, .bf16⟩
  | .hbm, ⟨41, _⟩ => ⟨S1x128x18944, .fp8e4m3⟩
  | .hbm, ⟨42, _⟩ => ⟨S1x128, .f32⟩
  | .local _ .vmem, ⟨0, _⟩ => ⟨S128x18944, .f32⟩
  | .local _ .vmem, ⟨1, _⟩ => ⟨S18944x3584, .fp8e4m3⟩
  | .local _ .vmem, ⟨2, _⟩ => ⟨S1x3584, .f32⟩
  | .local _ .vmem, ⟨3, _⟩ => ⟨S1x128x3584, .bf16⟩
  | .local _ .vmem, ⟨4, _⟩ => ⟨S1x128x18944, .fp8e4m3⟩
  | .local _ .vmem, ⟨5, _⟩ => ⟨S1x128, .f32⟩
  | _, _ => ⟨S1x128x18944, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_c : Ref sig .tc := ⟨.hbm, 28, rfl⟩
abbrev main_v24 : Ref sig .tc := ⟨.hbm, 29, rfl⟩
abbrev main_c_0 : Ref sig .tc := ⟨.hbm, 30, rfl⟩
abbrev main_v25 : Ref sig .tc := ⟨.hbm, 31, rfl⟩
abbrev main_v26 : Ref sig .tc := ⟨.hbm, 32, rfl⟩
abbrev main_cst_1 : Ref sig .tc := ⟨.hbm, 33, rfl⟩
abbrev main_call0_v0 : Ref sig .tc := ⟨.hbm, 34, rfl⟩
abbrev main_call0_v1 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31_0 : Ref sig .tc := ⟨.hbm, 40, rfl⟩
abbrev main_v31_1 : Ref sig .tc := ⟨.hbm, 41, rfl⟩
abbrev main_v31_2 : Ref sig .tc := ⟨.hbm, 42, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S128x18944 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S18944x3584 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x3584 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x128x3584 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x128x18944 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.KI.Base.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Loops
public import Idealize.ShloMosaic.Lib.Pipeline.FrameSuffixV
public import Idealize.ShloMosaic.Lib.Batch
public import Idealize.ShloMosaic.Lib.Ring
public import Idealize.ShloMosaic.Lib.Tactic

@[expose] public section

set_option maxRecDepth 16384
set_option maxHeartbeats 2000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-! The memrefs that the kernel body is called with, and its loop bodies at these. -/

abbrev a0 : Memref sig .tc .hbm S128x18944 .bf16 := Memref.whole main_v0
abbrev a1 : Memref sig .tc .hbm S18944x3584 .fp8e4m3 := Memref.whole main_arg1
abbrev a2 : Memref sig .tc .hbm S1x3584 .f32 := Memref.whole main_v1
abbrev a3 : Memref sig .tc .hbm S128x3584 .bf16 := Memref.whole main_v2_0
abbrev a4 : Memref sig .tc .hbm S128x18944 .fp8e4m3 := Memref.whole main_v2_1
abbrev a5 : Memref sig .tc .hbm S1x128 .f32 := Memref.whole main_v2_2
abbrev a6 : Memref sig .tc .vmem S128x18944 .bf16 := Memref.whole cc0_scratch0
abbrev a7 : Memref sig .tc .vmem S128x18944 .fp8e4m3 := Memref.whole cc0_scratch1
abbrev a8 : Memref sig .tc .vmem S5x18944x512 .fp8e4m3 := Memref.whole cc0_scratch2
abbrev a9 : Memref sig .tc .vmem S128x3584 .bf16 := Memref.whole cc0_scratch3
abbrev a10 : Memref sig .tc .vmem S1x3584 .f32 := Memref.whole cc0_scratch4
abbrev a11 : Memref sig .tc .vmem S128x128 .f32 := Memref.whole cc0_scratch5
abbrev a12 : Memref sig .tc .vmem S1x128 .f32 := Memref.whole cc0_scratch6

/-- `k0_t1_body` at the body's memrefs. -/
abbrev tb1  := k0_t1_body (F := F) a0 (Memref.isWhole_whole _) a1 (Memref.isWhole_whole _) a2 (Memref.isWhole_whole _) a3 (Memref.isWhole_whole _) a4 (Memref.isWhole_whole _) a5 (Memref.isWhole_whole _) a6 (Memref.isWhole_whole _) a7 (Memref.isWhole_whole _) a8 (Memref.isWhole_whole _) a9 (Memref.isWhole_whole _) a10 (Memref.isWhole_whole _) a11 (Memref.isWhole_whole _) a12 (Memref.isWhole_whole _) cc0_scratch7 cc0_scratch8 cc0_scratch9 cc0_scratch10 cc0_scratch11 cc0_scratch12

/-- `k0_t2_body` at the body's memrefs. -/
abbrev tb2 (c0_i32_87 : BitVec 32) (c1_i32_89 : BitVec 32) (k0_t1 : Fin k0_t1_loop.trips) (v130 : BitVec 32) := k0_t2_body (F := F) a0 (Memref.isWhole_whole _) a1 (Memref.isWhole_whole _) a2 (Memref.isWhole_whole _) a3 (Memref.isWhole_whole _) a4 (Memref.isWhole_whole _) a5 (Memref.isWhole_whole _) a6 (Memref.isWhole_whole _) a7 (Memref.isWhole_whole _) a8 (Memref.isWhole_whole _) a9 (Memref.isWhole_whole _) a10 (Memref.isWhole_whole _) a11 (Memref.isWhole_whole _) a12 (Memref.isWhole_whole _) cc0_scratch7 cc0_scratch8 cc0_scratch9 cc0_scratch10 cc0_scratch11 cc0_scratch12 c0_i32_87 c1_i32_89 k0_t1 v130

/-- `k0_t3_body` at the body's memrefs. -/
abbrev tb3 (v83 : IVec S32x128 32) (v90 : IVec S32x128 32) (v92 : IVec S32x128 32) (v94 : IVec S32x128 32) (v96 : IVec S32x128 32) (k0_t1 : Fin k0_t1_loop.trips) (v123 : BitVec 32) (v130 : BitVec 32) (v143 : FVec F S32x128 .f32) (v198 : IVec S32x128 32) (v204 : IVec S32x128 1) := k0_t3_body (F := F) a0 (Memref.isWhole_whole _) a1 (Memref.isWhole_whole _) a2 (Memref.isWhole_whole _) a3 (Memref.isWhole_whole _) a4 (Memref.isWhole_whole _) a5 (Memref.isWhole_whole _) a6 (Memref.isWhole_whole _) a7 (Memref.isWhole_whole _) a8 (Memref.isWhole_whole _) a9 (Memref.isWhole_whole _) a10 (Memref.isWhole_whole _) a11 (Memref.isWhole_whole _) a12 (Memref.isWhole_whole _) cc0_scratch7 cc0_scratch8 cc0_scratch9 cc0_scratch10 cc0_scratch11 cc0_scratch12 v83 v90 v92 v94 v96 k0_t1 v123 v130 v143 v198 v204

/-- `k0_t4_body` at the body's memrefs. -/
abbrev tb4  := k0_t4_body (F := F) a0 (Memref.isWhole_whole _) a1 (Memref.isWhole_whole _) a2 (Memref.isWhole_whole _) a3 (Memref.isWhole_whole _) a4 (Memref.isWhole_whole _) a5 (Memref.isWhole_whole _) a6 (Memref.isWhole_whole _) a7 (Memref.isWhole_whole _) a8 (Memref.isWhole_whole _) a9 (Memref.isWhole_whole _) a10 (Memref.isWhole_whole _) a11 (Memref.isWhole_whole _) a12 (Memref.isWhole_whole _) cc0_scratch7 cc0_scratch8 cc0_scratch9 cc0_scratch10 cc0_scratch11 cc0_scratch12

/-- `k0_t5_body` at the body's memrefs. -/
abbrev tb5  := k0_t5_body (F := F) a0 (Memref.isWhole_whole _) a1 (Memref.isWhole_whole _) a2 (Memref.isWhole_whole _) a3 (Memref.isWhole_whole _) a4 (Memref.isWhole_whole _) a5 (Memref.isWhole_whole _) a6 (Memref.isWhole_whole _) a7 (Memref.isWhole_whole _) a8 (Memref.isWhole_whole _) a9 (Memref.isWhole_whole _) a10 (Memref.isWhole_whole _) a11 (Memref.isWhole_whole _) a12 (Memref.isWhole_whole _) cc0_scratch7 cc0_scratch8 cc0_scratch9 cc0_scratch10 cc0_scratch11 cc0_scratch12

end Cert.KernelIdeal.Hand

end
-- ==== Proof.KI.Cells.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Loops
public import proofs.«01_k».proof.Proof.KI.Base
public import Idealize.ShloMosaic.Lib.Pipeline.FrameSuffixV
public import Idealize.ShloMosaic.Lib.Batch
public import Idealize.ShloMosaic.Lib.Ring
public import Idealize.ShloMosaic.Lib.Tactic

@[expose] public section

set_option maxRecDepth 16384
set_option maxHeartbeats 2000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-! Reading and writing a whole buffer through a unit rectangle, index by index. -/

section Cells

variable {sig' : RefSig} {κ : Kind} (Val : EltTy → Type) (b : Ref sig' κ)

/-- A load at a unit rectangle of a whole buffer reads the shifted index. -/
theorem rd_unit {off size : Fin b.ty.shape.rank → ℕ} (inb : ∀ a, off a + size a ≤ b.ty.shape.size a) (X : b.ty.Contents Val)
    (j : (Rect.unit off size inb).shape.Idx) (i : b.ty.shape.Idx) (h : ∀ a, (i a).val = off a + (j a).val) :
    (Memref.whole b : Memref sig' κ _ _ _).view.readAt Val (Rect.unit off size inb).toLoadRect X j = X i := by
  show X ((Rect.unit off size inb).emb j) = X i
  congr 1
  funext a
  apply Fin.ext
  rw [h a]
  show off a + 1 * (j a).val = _
  omega

theorem rd_unit_view {off size : Fin b.ty.shape.rank → ℕ} (inb : ∀ a, off a + size a ≤ b.ty.shape.size a) (X : b.ty.Contents Val)
    (j : (Rect.unit off size inb).shape.Idx) (i : b.ty.shape.Idx) (h : ∀ a, (i a).val = off a + (j a).val) :
    ((Memref.whole b : Memref sig' κ _ _ _).access (Rect.unit off size inb)).read Val X j = X i := by
  show X ((Rect.unit off size inb).emb j) = X i
  congr 1
  funext a
  apply Fin.ext
  rw [h a]
  show off a + 1 * (j a).val = _
  omega

/-- A store at a unit rectangle leaves its payload inside the rectangle, -/
theorem wr_hit {off size : Fin b.ty.shape.rank → ℕ} (inb : ∀ a, off a + size a ≤ b.ty.shape.size a) (f : b.ty.Contents Val)
    (w : (Rect.unit off size inb).shape.Idx → Val b.ty.elt) (i : b.ty.shape.Idx) (j : (Rect.unit off size inb).shape.Idx)
    (h : ∀ a, (i a).val = off a + (j a).val) :
    ((Memref.whole b : Memref sig' κ _ _ _).access (Rect.unit off size inb)).write Val f w Finset.univ i = w j := by
  have e : i = ((Memref.whole b : Memref sig' κ _ _ _).access (Rect.unit off size inb)).emb j := by
    funext a
    apply Fin.ext
    rw [h a]
    show _ = off a + 1 * (j a).val
    omega
  rw [e]
  exact View.write_emb_of_mem (v := ((Memref.whole b : Memref sig' κ _ _ _).access (Rect.unit off size inb))) (Val := Val) f w
    (M := Finset.univ) (x := j) (Finset.mem_univ _)

/-- and what was there outside. -/
theorem wr_miss {off size : Fin b.ty.shape.rank → ℕ} (inb : ∀ a, off a + size a ≤ b.ty.shape.size a) (f : b.ty.Contents Val)
    (w : (Rect.unit off size inb).shape.Idx → Val b.ty.elt) (i : b.ty.shape.Idx)
    (a : Fin b.ty.shape.rank) (h : (i a).val < off a ∨ off a + size a ≤ (i a).val) :
    ((Memref.whole b : Memref sig' κ _ _ _).access (Rect.unit off size inb)).write Val f w Finset.univ i = f i := by
  refine View.write_of_not_mem (v := ((Memref.whole b : Memref sig' κ _ _ _).access (Rect.unit off size inb))) (Val := Val) f w Finset.univ ?_
  rintro hm
  obtain ⟨j, -, hj⟩ := Finset.mem_map.mp hm
  have : (i a).val = off a + 1 * (j a).val := by rw [← hj]; rfl
  have hlt : (j a).val < size a := (j a).isLt
  omega

end Cells

/-! Closed forms of the printed offsets. -/

theorem off1_eq : ∀ r : Fin k0_t1_loop.trips, k0_off1 r = ![r.val] := by decide +kernel
theorem off2_eq : ∀ r : Fin k0_t1_loop.trips, k0_off2 r = ![32 * r.val, 0] := by decide +kernel
theorem off4_eq : ∀ r : Fin k0_t1_loop.trips, k0_off4 r = ![32 * r.val, 0] := by decide +kernel
theorem off6_eq : ∀ k : Fin k0_t4_loop.trips, k0_off6 k = ![k.val % 5, 0] := by decide +kernel
theorem off7_eq : ∀ k : Fin k0_t4_loop.trips, k0_off7 k = ![k.val % 5, 0, 0] := by decide +kernel
theorem off8_eq : ∀ k : Fin k0_t4_loop.trips, k0_off8 k = ![0, 512 * k.val] := by decide +kernel
theorem off28_eq : ∀ k : Fin k0_t4_loop.trips, k0_off28 k = ![k.val % 5, 1] := by decide +kernel
theorem off29_eq : ∀ k : Fin k0_t4_loop.trips, k0_off29 k = ![k.val % 5, 9472, 0] := by decide +kernel
theorem off30_eq : ∀ k : Fin k0_t4_loop.trips, k0_off30 k = ![9472, 512 * k.val] := by decide +kernel
theorem off9_eq : ∀ k : Fin k0_t4_loop.trips, k0_off9 k = ![k.val % 5, 0, 0] := by decide +kernel
theorem off10_eq : ∀ k : Fin k0_t4_loop.trips, k0_off10 k = ![k.val % 5, 512, 0] := by decide +kernel
theorem off11_eq : ∀ k : Fin k0_t4_loop.trips, k0_off11 k = ![k.val % 5, 1024, 0] := by decide +kernel
theorem off12_eq : ∀ k : Fin k0_t4_loop.trips, k0_off12 k = ![k.val % 5, 1536, 0] := by decide +kernel
theorem off13_eq : ∀ k : Fin k0_t4_loop.trips, k0_off13 k = ![k.val % 5, 2048, 0] := by decide +kernel
theorem off14_eq : ∀ k : Fin k0_t4_loop.trips, k0_off14 k = ![k.val % 5, 2560, 0] := by decide +kernel
theorem off15_eq : ∀ k : Fin k0_t4_loop.trips, k0_off15 k = ![k.val % 5, 3072, 0] := by decide +kernel
theorem off16_eq : ∀ k : Fin k0_t4_loop.trips, k0_off16 k = ![k.val % 5, 3584, 0] := by decide +kernel
theorem off17_eq : ∀ k : Fin k0_t4_loop.trips, k0_off17 k = ![k.val % 5, 4096, 0] := by decide +kernel
theorem off18_eq : ∀ k : Fin k0_t4_loop.trips, k0_off18 k = ![k.val % 5, 4608, 0] := by decide +kernel
theorem off19_eq : ∀ k : Fin k0_t4_loop.trips, k0_off19 k = ![k.val % 5, 5120, 0] := by decide +kernel
theorem off20_eq : ∀ k : Fin k0_t4_loop.trips, k0_off20 k = ![k.val % 5, 5632, 0] := by decide +kernel
theorem off21_eq : ∀ k : Fin k0_t4_loop.trips, k0_off21 k = ![k.val % 5, 6144, 0] := by decide +kernel
theorem off22_eq : ∀ k : Fin k0_t4_loop.trips, k0_off22 k = ![k.val % 5, 6656, 0] := by decide +kernel
theorem off23_eq : ∀ k : Fin k0_t4_loop.trips, k0_off23 k = ![k.val % 5, 7168, 0] := by decide +kernel
theorem off24_eq : ∀ k : Fin k0_t4_loop.trips, k0_off24 k = ![k.val % 5, 7680, 0] := by decide +kernel
theorem off25_eq : ∀ k : Fin k0_t4_loop.trips, k0_off25 k = ![k.val % 5, 8192, 0] := by decide +kernel
theorem off26_eq : ∀ k : Fin k0_t4_loop.trips, k0_off26 k = ![k.val % 5, 8704, 0] := by decide +kernel
theorem off27_eq : ∀ k : Fin k0_t4_loop.trips, k0_off27 k = ![k.val % 5, 9216, 0] := by decide +kernel
theorem off31_eq : ∀ k : Fin k0_t4_loop.trips, k0_off31 k = ![k.val % 5, 9472, 0] := by decide +kernel
theorem off32_eq : ∀ k : Fin k0_t4_loop.trips, k0_off32 k = ![k.val % 5, 9984, 0] := by decide +kernel
theorem off33_eq : ∀ k : Fin k0_t4_loop.trips, k0_off33 k = ![k.val % 5, 10496, 0] := by decide +kernel
theorem off34_eq : ∀ k : Fin k0_t4_loop.trips, k0_off34 k = ![k.val % 5, 11008, 0] := by decide +kernel
theorem off35_eq : ∀ k : Fin k0_t4_loop.trips, k0_off35 k = ![k.val % 5, 11520, 0] := by decide +kernel
theorem off36_eq : ∀ k : Fin k0_t4_loop.trips, k0_off36 k = ![k.val % 5, 12032, 0] := by decide +kernel
theorem off37_eq : ∀ k : Fin k0_t4_loop.trips, k0_off37 k = ![k.val % 5, 12544, 0] := by decide +kernel
theorem off38_eq : ∀ k : Fin k0_t4_loop.trips, k0_off38 k = ![k.val % 5, 13056, 0] := by decide +kernel
theorem off39_eq : ∀ k : Fin k0_t4_loop.trips, k0_off39 k = ![k.val % 5, 13568, 0] := by decide +kernel
theorem off40_eq : ∀ k : Fin k0_t4_loop.trips, k0_off40 k = ![k.val % 5, 14080, 0] := by decide +kernel
theorem off41_eq : ∀ k : Fin k0_t4_loop.trips, k0_off41 k = ![k.val % 5, 14592, 0] := by decide +kernel
theorem off42_eq : ∀ k : Fin k0_t4_loop.trips, k0_off42 k = ![k.val % 5, 15104, 0] := by decide +kernel
theorem off43_eq : ∀ k : Fin k0_t4_loop.trips, k0_off43 k = ![k.val % 5, 15616, 0] := by decide +kernel
theorem off44_eq : ∀ k : Fin k0_t4_loop.trips, k0_off44 k = ![k.val % 5, 16128, 0] := by decide +kernel
theorem off45_eq : ∀ k : Fin k0_t4_loop.trips, k0_off45 k = ![k.val % 5, 16640, 0] := by decide +kernel
theorem off46_eq : ∀ k : Fin k0_t4_loop.trips, k0_off46 k = ![k.val % 5, 17152, 0] := by decide +kernel
theorem off47_eq : ∀ k : Fin k0_t4_loop.trips, k0_off47 k = ![k.val % 5, 17664, 0] := by decide +kernel
theorem off48_eq : ∀ k : Fin k0_t4_loop.trips, k0_off48 k = ![k.val % 5, 18176, 0] := by decide +kernel
theorem off49_eq : ∀ k : Fin k0_t4_loop.trips, k0_off49 k = ![k.val % 5, 18688, 0] := by decide +kernel
theorem off58_eq : ∀ k : Fin k0_t4_loop.trips, k0_off58 k = ![0, 512 * k.val] := by decide +kernel
theorem off59_eq : ∀ k : Fin k0_t5_loop.trips, k0_off59 k = ![0, 512 * k.val] := by decide +kernel
theorem off5_eq : ∀ (r : Fin k0_t1_loop.trips) (k : Fin k0_t3_loop.trips) (j : Fin 37), k0_off5 r k (BitVec.ofNat 32 (128 * j.val)) = ![32 * r.val, 4736 * k.val + 128 * j.val] := by decide +kernel
theorem off3_eq : ∀ (r : Fin k0_t1_loop.trips) (k : Fin k0_t2_loop.trips) (j : Fin 37), k0_off3 r k (BitVec.ofNat 32 (128 * j.val)) = ![32 * r.val, 4736 * k.val + 128 * j.val] := by decide +kernel
theorem off56_eq : ∀ (k : Fin k0_t4_loop.trips) (j : Fin 4), k0_off56 k (BitVec.ofNat 32 (128 * j.val)) = ![0, 512 * k.val + 128 * j.val] := by decide +kernel
theorem off57_eq : ∀ (k : Fin k0_t4_loop.trips) (j : Fin 4), k0_off57 k (BitVec.ofNat 32 (128 * j.val)) = ![0, 512 * k.val + 128 * j.val] := by decide +kernel
theorem cond1_iff : ∀ k : Fin k0_t4_loop.trips, k0_cond1 k = 1#1 ↔ k.val < 2 := by decide +kernel
theorem off52_eq : ∀ k : Fin k0_t4_loop.trips, k.val < 2 → k0_off52 k = ![0, 512 * (k.val + 5)] := by decide +kernel
theorem off55_eq : ∀ k : Fin k0_t4_loop.trips, k.val < 2 → k0_off55 k = ![9472, 512 * (k.val + 5)] := by decide +kernel

end Cert.KernelIdeal.Hand

end
-- ==== Proof.KI.T2.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Loops
public import proofs.«01_k».proof.Proof.KI.Base
public import proofs.«01_k».proof.Proof.KI.Cells
public import Idealize.ShloMosaic.Lib.Pointwise.Index
public import Idealize.ShloMosaic.Lib.Pipeline.FrameSuffixV
public import Idealize.ShloMosaic.Lib.Batch
public import Idealize.ShloMosaic.Lib.Ring
public import Idealize.ShloMosaic.Lib.Tactic

@[expose] public section

set_option maxRecDepth 16384
set_option maxHeartbeats 2000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The proof's resource algebra: the pipeline library's beside the transfers' counters. -/
local notation "𝕄" => MT nD τ sig Unit (Elt F) ℕ (Pipeline.UD sig nD τ) ℕ

abbrev rowsR (r : Fin k0_t1_loop.trips) : Rect S128x18944 := Rect.unit (s := S128x18944) (k0_off2 r) S32x18944.size (k0_off2_inb r)
abbrev uRows (r : Fin k0_t1_loop.trips) : Memref sig .tc .vmem S32x18944 .bf16 := a6.slice (rowsR r) (fun _ => rfl)

abbrev Trip2 (c : Dev nD) (r : Fin k0_t1_loop.trips) (X : BufTy.Contents (Elt F) a6.view.ty) : sProp 𝕄 :=
  iprop((uRows r).view.loc (c : Thread nD τ) ↦[(uRows r).view.set]{fullShare} X)

@[irreducible] def trip2 (𝒱 : Variants) (c : Dev nD) (bd : Option 𝒱.V) (c0 c1 : BitVec 32) (r : Fin k0_t1_loop.trips) (v130 : BitVec 32) (X : BufTy.Contents (Elt F) a6.view.ty) (k : Fin k0_t2_loop.trips) :
    { R : ((FVec F S32x128 .bf16) → FVec F S32x128 .bf16) // ∀ (E : Set ℕ) (acc : FVec F S32x128 .bf16),
      Trip2 (F := F) c r X
      ⊢ wp frame (wpE (defs₀ (F := F)) 𝒱 (c : Thread nD τ) bd) E (tb2 (F := F) c0 c1 r v130 k acc)
          (fun yld => iprop(⌜yld = R acc⌝ ∗ Trip2 (F := F) c r X)) } := by
  have hk : k.val < 4 := Nat.lt_of_lt_of_le k.isLt k0_t2_abs.2.1
  have hr : r.val < 4 := Nat.lt_of_lt_of_le r.isLt k0_t1_abs.2.1
  refine ⟨?_, fun E acc => ?run⟩
  case run =>
    unfold tb2 k0_t2_body
    iintro HR
    sl_exec
    sl_step
    sl_close

/-- One level of a reduction tree: neighbours combined in pairs. -/
def pairUp {α : Type} (op : α → α → α) : List α → List α
  | a :: b :: l => op a b :: pairUp op l
  | l => l

/-- The index at row `a` and column `b`, both taken within the shape. -/
def at2 {n m : ℕ} (hn : 0 < n) (hm : 0 < m) (a b : ℕ) : (⟨2, ![n, m]⟩ : Shape).Idx :=
  ix2 ⟨a % n, Nat.mod_lt _ hn⟩ ⟨b % m, Nat.mod_lt _ hm⟩

/-- The index of the large arrays of 128 rows and 18944 columns. -/
abbrev atU (a b : ℕ) : S128x18944.Idx := at2 (n := 128) (m := 18944) (by decide) (by decide) a b

/-- The index of a tile. -/
abbrev atT (a b : ℕ) : S32x128.Idx := at2 (n := 32) (m := 128) (by decide) (by decide) a b

/-- Tile `t` of the 32 rows of chunk `r`. -/
def xTile (X : BufTy.Contents (Elt F) a6.view.ty) (r t : ℕ) : Vec F S32x128 .bf16 :=
  fun j => (show S128x18944.Idx → Elt F .bf16 from X) (atU (32 * r + (j 0).val) (128 * t + (j 1).val))

/-- One trip of the row maximum: the running maximum with the trip's 37 tiles, combined in a tree. -/
def maxStep (X : BufTy.Contents (Elt F) a6.view.ty) (r k : ℕ) (acc : FVec F S32x128 .bf16) : FVec F S32x128 .bf16 :=
  ((pairUp maximumf)^[6] (acc :: List.ofFn fun j : Fin 37 => xTile X r (37 * k + j.val))).headD acc

theorem xTile_read (X : BufTy.Contents (Elt F) a6.view.ty) (r : Fin k0_t1_loop.trips) (k : Fin k0_t2_loop.trips) (j : Fin 37) :
    View.readAt (Elt F) a6.view (Rect.unit (s := S128x18944) (k0_off3 r k (BitVec.ofNat 32 (128 * j.val))) S32x128.size (k0_off3_inb r k j)).toLoadRect X = xTile X r.val (37 * k.val + j.val) := by
  have hk : k.val < 4 := Nat.lt_of_lt_of_le k.isLt k0_t2_abs.2.1
  have hr : r.val < 4 := Nat.lt_of_lt_of_le r.isLt k0_t1_abs.2.1
  have hj := j.isLt
  have ho := off3_eq r k j
  have e0 : k0_off3 r k (BitVec.ofNat 32 (128 * j.val)) 0 = 32 * r.val := by rw [ho]; rfl
  have e1 : k0_off3 r k (BitVec.ofNat 32 (128 * j.val)) 1 = 4736 * k.val + 128 * j.val := by rw [ho]; rfl
  funext y
  refine rd_unit (Elt F) cc0_scratch0 _ X y _ ?_
  have hy0 : (y 0).val < 32 := (y 0).isLt
  have hy1 : (y 1).val < 128 := (y 1).isLt
  intro a
  match a with
  | ⟨0, _⟩ => show (32 * r.val + (y 0).val) % 128 = k0_off3 r k _ 0 + (y 0).val; rw [e0]; omega
  | ⟨1, _⟩ => show (128 * (37 * k.val + j.val) + (y 1).val) % 18944 = k0_off3 r k _ 1 + (y 1).val; rw [e1]; omega

/-- What a trip yields. -/
theorem trip2_fst (𝒱 : Variants) (c : Dev nD) (bd : Option 𝒱.V) (c0 c1 : BitVec 32) (r : Fin k0_t1_loop.trips) (v130 : BitVec 32) (X : BufTy.Contents (Elt F) a6.view.ty) (k : Fin k0_t2_loop.trips) (acc : FVec F S32x128 .bf16) :
    (trip2 (F := F) 𝒱 c bd c0 c1 r v130 X k).1 acc = maxStep X r.val k.val acc := by
  unfold trip2 maxStep
  simp only [← xTile_read]
  rfl

end Cert.KernelIdeal.Hand

end
-- ==== Proof.KI.T3.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Loops
public import proofs.«01_k».proof.Proof.KI.T2
public import proofs.«01_k».proof.Proof.KI.Cells
public import Idealize.ShloMosaic.Lib.Pointwise.Index
public import Idealize.ShloMosaic.Lib.Pipeline.FrameSuffixV
public import Idealize.ShloMosaic.Lib.Batch
public import Idealize.ShloMosaic.Lib.Ring
public import Idealize.ShloMosaic.Lib.Tactic

@[expose] public section

set_option maxRecDepth 16384
set_option maxHeartbeats 2000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The proof's resource algebra: the pipeline library's beside the transfers' counters. -/
local notation "𝕄" => MT nD τ sig Unit (Elt F) ℕ (Pipeline.UD sig nD τ) ℕ

abbrev cRows (r : Fin k0_t1_loop.trips) : Memref sig .tc .vmem S32x18944 .fp8e4m3 := a7.slice (rowsR r) (fun _ => rfl)

abbrev Trip3 (c : Dev nD) (r : Fin k0_t1_loop.trips) (X : BufTy.Contents (Elt F) a6.view.ty) (f : BufTy.Contents (Elt F) a7.view.ty) : sProp 𝕄 :=
  iprop(((uRows r).view.loc (c : Thread nD τ) ↦[(uRows r).view.set]{fullShare} X) ∗ ((cRows r).view.loc (c : Thread nD τ) ↦[(cRows r).view.set]{fullShare} f))

@[irreducible] def trip3 (𝒱 : Variants) (c : Dev nD) (bd : Option 𝒱.V) (v83 v90 v92 v94 v96 : IVec S32x128 32) (r : Fin k0_t1_loop.trips) (v123 v130 : BitVec 32) (v143 : FVec F S32x128 .f32) (v198 : IVec S32x128 32) (v204 : IVec S32x128 1) (X : BufTy.Contents (Elt F) a6.view.ty) (k : Fin k0_t3_loop.trips) :
    { W : BufTy.Contents (Elt F) a7.view.ty → BufTy.Contents (Elt F) a7.view.ty // ∀ (E : Set ℕ) (f : BufTy.Contents (Elt F) a7.view.ty),
      Trip3 (F := F) c r X f
      ⊢ wp frame (wpE (defs₀ (F := F)) 𝒱 (c : Thread nD τ) bd) E (tb3 (F := F) v83 v90 v92 v94 v96 r v123 v130 v143 v198 v204 k PUnit.unit)
          (fun _ => Trip3 (F := F) c r X (W f)) } := by
  have hk : k.val < 4 := Nat.lt_of_lt_of_le k.isLt k0_t3_abs.2.1
  have hr : r.val < 4 := Nat.lt_of_lt_of_le r.isLt k0_t1_abs.2.1
  refine ⟨?_, fun E f => ?run⟩
  case run =>
    unfold tb3 k0_t3_body
    iintro ⟨HR, HW⟩
    sl_exec
    sl_step
    sl_close

/-- One tile of 32 rows and 128 columns: clip, keep two of each group of four, scale, round. -/
def tileOf (v83 v90 v92 v94 v96 : IVec S32x128 32) (inv : FVec F S32x128 .f32) (x : Vec F S32x128 .bf16) : FVec F S32x128 .fp8e4m3 :=
  k0_pay8 v90 inv (k0_pay1 x) (k0_pay3 v94 x) (k0_pay4 v96 x) (k0_pay5 v92 x) (k0_pay6 v83) (k0_pay7 v92 x)

/-- The code at an index of chunk `r`. -/
def codeAt (v83 v90 v92 v94 v96 : IVec S32x128 32) (inv : FVec F S32x128 .f32) (X : BufTy.Contents (Elt F) a6.view.ty) (r : ℕ) (i : S128x18944.Idx) : Elt F .fp8e4m3 :=
  tileOf v83 v90 v92 v94 v96 inv (xTile X r ((i 1).val / 128)) (atT (i 0).val (i 1).val)

/-- The store of tile `j` of trip `k`. -/
def putTile (v83 v90 v92 v94 v96 : IVec S32x128 32) (inv : FVec F S32x128 .f32) (X : BufTy.Contents (Elt F) a6.view.ty) (r : Fin k0_t1_loop.trips) (k : Fin k0_t3_loop.trips) (j : Fin 37) (f : BufTy.Contents (Elt F) a7.view.ty) : BufTy.Contents (Elt F) a7.view.ty :=
  View.write (Elt F) (a7.access (Rect.unit (s := S128x18944) (k0_off5 r k (BitVec.ofNat 32 (128 * j.val))) S32x128.size (k0_off5_inb r k j))) f
    (tileOf v83 v90 v92 v94 v96 inv (View.readAt (Elt F) a6.view (Rect.unit (s := S128x18944) (k0_off5 r k (BitVec.ofNat 32 (128 * j.val))) S32x128.size (k0_off5_inb r k j)).toLoadRect X)) Finset.univ

/-- The first `n` stores of trip `k`. -/
def putTiles (v83 v90 v92 v94 v96 : IVec S32x128 32) (inv : FVec F S32x128 .f32) (X : BufTy.Contents (Elt F) a6.view.ty) (r : Fin k0_t1_loop.trips) (k : Fin k0_t3_loop.trips) : (n : ℕ) → n ≤ 37 → BufTy.Contents (Elt F) a7.view.ty → BufTy.Contents (Elt F) a7.view.ty
  | 0, _, f => f
  | n + 1, h, f => putTile v83 v90 v92 v94 v96 inv X r k ⟨n, h⟩ (putTiles v83 v90 v92 v94 v96 inv X r k n (Nat.le_of_succ_le h) f)

theorem trip3_fst (𝒱 : Variants) (c : Dev nD) (bd : Option 𝒱.V) (v83 v90 v92 v94 v96 : IVec S32x128 32) (r : Fin k0_t1_loop.trips) (v123 v130 : BitVec 32) (v143 : FVec F S32x128 .f32) (v198 : IVec S32x128 32) (v204 : IVec S32x128 1) (X : BufTy.Contents (Elt F) a6.view.ty) (k : Fin k0_t3_loop.trips) (f) :
    (trip3 (F := F) 𝒱 c bd v83 v90 v92 v94 v96 r v123 v130 v143 v198 v204 X k).1 f = putTiles v83 v90 v92 v94 v96 (k0_pay195 v143 v198 v204) X r k 37 le_rfl f := by
  unfold trip3
  rfl

theorem putTile_at (v83 v90 v92 v94 v96 : IVec S32x128 32) (inv : FVec F S32x128 .f32) (X : BufTy.Contents (Elt F) a6.view.ty) (r : Fin k0_t1_loop.trips) (k : Fin k0_t3_loop.trips) (j : Fin 37) (f : BufTy.Contents (Elt F) a7.view.ty) (i : S128x18944.Idx)
    (h0 : 32 * r.val ≤ (i 0).val) (h1 : (i 0).val < 32 * r.val + 32) :
    putTile v83 v90 v92 v94 v96 inv X r k j f i = if (i 1).val / 128 = 37 * k.val + j.val then codeAt v83 v90 v92 v94 v96 inv X r i else f i := by
  have hk : k.val < 4 := Nat.lt_of_lt_of_le k.isLt k0_t3_abs.2.1
  have hr : r.val < 4 := Nat.lt_of_lt_of_le r.isLt k0_t1_abs.2.1
  have hj := j.isLt
  have ho := off5_eq r k j
  have e0 : k0_off5 r k (BitVec.ofNat 32 (128 * j.val)) 0 = 32 * r.val := by rw [ho]; rfl
  have e1 : k0_off5 r k (BitVec.ofNat 32 (128 * j.val)) 1 = 4736 * k.val + 128 * j.val := by rw [ho]; rfl
  unfold putTile
  split
  · rename_i h
    have hx : View.readAt (Elt F) a6.view (Rect.unit (s := S128x18944) (k0_off5 r k (BitVec.ofNat 32 (128 * j.val))) S32x128.size (k0_off5_inb r k j)).toLoadRect X = xTile X r ((i 1).val / 128) := by
      funext y
      refine rd_unit (Elt F) cc0_scratch0 _ X y _ ?_
      have hy0 : (y 0).val < 32 := (y 0).isLt
      have hy1 : (y 1).val < 128 := (y 1).isLt
      intro a
      match a with
      | ⟨0, _⟩ => show (32 * r.val + (y 0).val) % 128 = k0_off5 r k _ 0 + (y 0).val; rw [e0]; omega
      | ⟨1, _⟩ => show (128 * ((i 1).val / 128) + (y 1).val) % 18944 = k0_off5 r k _ 1 + (y 1).val; rw [e1]; omega
    rw [hx]
    refine wr_hit (Elt F) cc0_scratch1 _ f _ i _ ?_
    have hi1 : (i 1).val < 18944 := (i 1).isLt
    intro a
    match a with
    | ⟨0, _⟩ => show (i 0).val = k0_off5 r k _ 0 + (i 0).val % 32; rw [e0]; omega
    | ⟨1, _⟩ => show (i 1).val = k0_off5 r k _ 1 + (i 1).val % 128; rw [e1]; omega
  · rename_i h
    refine wr_miss (Elt F) cc0_scratch1 _ f _ i (1 : Fin 2) ?_
    show (i 1).val < k0_off5 r k _ 1 ∨ k0_off5 r k _ 1 + 128 ≤ (i 1).val
    rw [e1]; omega

theorem putTiles_at (v83 v90 v92 v94 v96 : IVec S32x128 32) (inv : FVec F S32x128 .f32) (X : BufTy.Contents (Elt F) a6.view.ty) (r : Fin k0_t1_loop.trips) (k : Fin k0_t3_loop.trips) (n : ℕ) (hn : n ≤ 37) (f : BufTy.Contents (Elt F) a7.view.ty) (i : S128x18944.Idx)
    (h0 : 32 * r.val ≤ (i 0).val) (h1 : (i 0).val < 32 * r.val + 32) :
    putTiles v83 v90 v92 v94 v96 inv X r k n hn f i = if 37 * k.val ≤ (i 1).val / 128 ∧ (i 1).val / 128 < 37 * k.val + n then codeAt v83 v90 v92 v94 v96 inv X r i else f i := by
  induction n with
  | zero => rw [if_neg (by omega)]; rfl
  | succ n ih =>
    rw [putTiles, putTile_at _ _ _ _ _ _ _ _ _ _ _ _ h0 h1, ih]
    by_cases h : (i 1).val / 128 = 37 * k.val + n
    · rw [if_pos h, if_pos (by omega)]
    · rw [if_neg h]
      by_cases h' : 37 * k.val ≤ (i 1).val / 128 ∧ (i 1).val / 128 < 37 * k.val + n
      · rw [if_pos h', if_pos (by omega)]
      · rw [if_neg h', if_neg (by omega)]

/-- What a trip leaves in the rows of chunk `r`. -/
theorem trip3_at (𝒱 : Variants) (c : Dev nD) (bd : Option 𝒱.V) (v83 v90 v92 v94 v96 : IVec S32x128 32) (r : Fin k0_t1_loop.trips) (v123 v130 : BitVec 32) (v143 : FVec F S32x128 .f32) (v198 : IVec S32x128 32) (v204 : IVec S32x128 1) (X : BufTy.Contents (Elt F) a6.view.ty) (k : Fin k0_t3_loop.trips) (f) (i : S128x18944.Idx)
    (h0 : 32 * r.val ≤ (i 0).val) (h1 : (i 0).val < 32 * r.val + 32) :
    (trip3 (F := F) 𝒱 c bd v83 v90 v92 v94 v96 r v123 v130 v143 v198 v204 X k).1 f i = if 37 * k.val ≤ (i 1).val / 128 ∧ (i 1).val / 128 < 37 * k.val + 37 then codeAt v83 v90 v92 v94 v96 (k0_pay195 v143 v198 v204) X r i else f i := by
  rw [trip3_fst, putTiles_at _ _ _ _ _ _ _ _ _ _ _ _ _ h0 h1]

end Cert.KernelIdeal.Hand

end
-- ==== Proof.KI.Loops23.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Loops
public import proofs.«01_k».proof.Proof.KI.T3
public import Idealize.ShloMosaic.Lib.Pipeline.FrameSuffixV
public import Idealize.ShloMosaic.Lib.Batch
public import Idealize.ShloMosaic.Lib.Ring
public import Idealize.ShloMosaic.Lib.Tactic

@[expose] public section

set_option maxRecDepth 16384
set_option maxHeartbeats 2000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The proof's resource algebra: the pipeline library's beside the transfers' counters. -/
local notation "𝕄" => MT nD τ sig Unit (Elt F) ℕ (Pipeline.UD sig nD τ) ℕ

/-- The running maximum before trip `k`, from `init`. -/
abbrev maxSt (X : BufTy.Contents (Elt F) a6.view.ty) (r : ℕ) (init : FVec F S32x128 .bf16) (k : ℕ) : FVec F S32x128 .bf16 :=
  Nat.rec init (fun k acc => maxStep X r k acc) k

set_option warn.classDefReducibility false in
/-- The row maximum's loop. -/
@[sl_loop] def loopInv2 (𝒱 : Variants) (c : Dev nD) (bd : Option 𝒱.V) (E : Set ℕ) (c0 c1 : BitVec 32) (r : Fin k0_t1_loop.trips) (v130 : BitVec 32) (X : BufTy.Contents (Elt F) a6.view.ty) (init : FVec F S32x128 .bf16) :
    LoopInvTy_k0_t2 (F := F) Unit ℕ (Pipeline.UD sig nD τ) ℕ 𝒱 c bd E a0 (Memref.isWhole_whole _) a1 (Memref.isWhole_whole _) a2 (Memref.isWhole_whole _) a3 (Memref.isWhole_whole _) a4 (Memref.isWhole_whole _) a5 (Memref.isWhole_whole _) a6 (Memref.isWhole_whole _) a7 (Memref.isWhole_whole _) a8 (Memref.isWhole_whole _) a9 (Memref.isWhole_whole _) a10 (Memref.isWhole_whole _) a11 (Memref.isWhole_whole _) a12 (Memref.isWhole_whole _) cc0_scratch7 cc0_scratch8 cc0_scratch9 cc0_scratch10 cc0_scratch11 cc0_scratch12 c0 c1 r v130 init where
  inv k acc := iprop(Trip2 (F := F) c r X ∗ ⌜acc = maxSt X r.val init k⌝)
  step k acc := by
    iintro ⟨HR, %h⟩
    subst h
    iapply (wp_wand_r Idealize.ShloMosaic.frame (wpE (defs₀ (F := F)) 𝒱 (c : Thread nD τ) bd) E)
    isplitl [HR]
    · iapply ((trip2 (F := F) 𝒱 c bd c0 c1 r v130 X k).2 E _)
      iexact HR
    · iintro %yld ⟨%h, HR⟩
      isplitl [HR]; · iexact HR
      ipureintro; rw [h, trip2_fst]

/-- Trip `k`'s stores into the code rows; none past the last trip. -/
@[irreducible] def codeStep (v83 v90 v92 v94 v96 : IVec S32x128 32) (inv : FVec F S32x128 .f32) (X : BufTy.Contents (Elt F) a6.view.ty) (r : Fin k0_t1_loop.trips) (k : ℕ) (f : BufTy.Contents (Elt F) a7.view.ty) : BufTy.Contents (Elt F) a7.view.ty :=
  if h : k < k0_t3_loop.trips then putTiles v83 v90 v92 v94 v96 inv X r ⟨k, h⟩ 37 le_rfl f else f

/-- The code rows before trip `k`, from `G`. -/
abbrev codeSt (v83 v90 v92 v94 v96 : IVec S32x128 32) (inv : FVec F S32x128 .f32) (X : BufTy.Contents (Elt F) a6.view.ty) (r : Fin k0_t1_loop.trips) (G : BufTy.Contents (Elt F) a7.view.ty) (k : ℕ) : BufTy.Contents (Elt F) a7.view.ty :=
  Nat.rec G (fun k f => codeStep v83 v90 v92 v94 v96 inv X r k f) k

set_option warn.classDefReducibility false in
/-- The loop that prunes and rounds a chunk. -/
@[sl_loop] def loopInv3 (𝒱 : Variants) (c : Dev nD) (bd : Option 𝒱.V) (E : Set ℕ) (v83 v90 v92 v94 v96 : IVec S32x128 32) (r : Fin k0_t1_loop.trips) (v123 v130 : BitVec 32) (v143 : FVec F S32x128 .f32) (v198 : IVec S32x128 32) (v204 : IVec S32x128 1) (X : BufTy.Contents (Elt F) a6.view.ty) (G : BufTy.Contents (Elt F) a7.view.ty) :
    LoopInvTy_k0_t3 (F := F) Unit ℕ (Pipeline.UD sig nD τ) ℕ 𝒱 c bd E a0 (Memref.isWhole_whole _) a1 (Memref.isWhole_whole _) a2 (Memref.isWhole_whole _) a3 (Memref.isWhole_whole _) a4 (Memref.isWhole_whole _) a5 (Memref.isWhole_whole _) a6 (Memref.isWhole_whole _) a7 (Memref.isWhole_whole _) a8 (Memref.isWhole_whole _) a9 (Memref.isWhole_whole _) a10 (Memref.isWhole_whole _) a11 (Memref.isWhole_whole _) a12 (Memref.isWhole_whole _) cc0_scratch7 cc0_scratch8 cc0_scratch9 cc0_scratch10 cc0_scratch11 cc0_scratch12 v83 v90 v92 v94 v96 r v123 v130 v143 v198 v204 where
  inv k _ := iprop(((uRows r).view.loc (c : Thread nD τ) ↦[(uRows r).view.set]{fullShare} X) ∗
    ∃ f, ((cRows r).view.loc (c : Thread nD τ) ↦[(cRows r).view.set]{fullShare} f) ∗ ⌜f = codeSt v83 v90 v92 v94 v96 (k0_pay195 v143 v198 v204) X r G k⌝)
  step k acc := by
    iintro ⟨HR, ⟨%f, HW, %h⟩⟩
    subst h
    iapply (wp_wand_r Idealize.ShloMosaic.frame (wpE (defs₀ (F := F)) 𝒱 (c : Thread nD τ) bd) E)
    isplitl [HR HW]
    · iapply ((trip3 (F := F) 𝒱 c bd v83 v90 v92 v94 v96 r v123 v130 v143 v198 v204 X k).2 E _)
      isplitl [HR]; · iexact HR
      iexact HW
    · iintro %_ ⟨HR, HW⟩
      isplitl [HR]; · iexact HR
      iexists _; isplitl [HW]; · iexact HW
      ipureintro; rw [trip3_fst]; show _ = codeStep v83 v90 v92 v94 v96 (k0_pay195 v143 v198 v204) X r k.val (codeSt v83 v90 v92 v94 v96 (k0_pay195 v143 v198 v204) X r G k.val); unfold codeStep; rw [dif_pos k.isLt]

/-- All four trips leave the codes everywhere in the rows of chunk `r`. -/
theorem codeSt_at (v83 v90 v92 v94 v96 : IVec S32x128 32) (inv : FVec F S32x128 .f32) (X : BufTy.Contents (Elt F) a6.view.ty) (r : Fin k0_t1_loop.trips) (G : BufTy.Contents (Elt F) a7.view.ty) (i : S128x18944.Idx)
    (h0 : 32 * r.val ≤ (i 0).val) (h1 : (i 0).val < 32 * r.val + 32) (k : ℕ) (hk : k ≤ 4) (hi : (i 1).val / 128 < 37 * k) :
    codeSt v83 v90 v92 v94 v96 inv X r G k i = codeAt v83 v90 v92 v94 v96 inv X r i := by
  induction k with
  | zero => omega
  | succ k ih =>
    have ht : k < k0_t3_loop.trips := by have : k0_t3_loop.trips = 4 := by decide +kernel
                                         omega
    show codeStep v83 v90 v92 v94 v96 inv X r k (codeSt v83 v90 v92 v94 v96 inv X r G k) i = _
    unfold codeStep
    rw [dif_pos ht, putTiles_at _ _ _ _ _ _ _ _ _ _ _ _ _ h0 h1]
    by_cases h : 37 * k ≤ (i 1).val / 128
    · rw [if_pos ⟨h, by show _ < 37 * k + 37; omega⟩]
    · rw [if_neg (fun h' => h h'.1)]; exact ih (by omega) (by omega)

end Cert.KernelIdeal.Hand

end
-- ==== Proof.KI.Vals.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Loops
public import proofs.«01_k».proof.Proof.KI.Loops23
public import Idealize.ShloMosaic.Lib.Pipeline.FrameSuffixV
public import Idealize.ShloMosaic.Lib.Batch
public import Idealize.ShloMosaic.Lib.Ring
public import Idealize.ShloMosaic.Lib.Tactic

@[expose] public section

set_option maxRecDepth 16384
set_option maxHeartbeats 2000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The proof's resource algebra: the pipeline library's beside the transfers' counters. -/
local notation "𝕄" => MT nD τ sig Unit (Elt F) ℕ (Pipeline.UD sig nD τ) ℕ

/-- What a copy lands in a view is the contents its payload reads from. -/
theorem pointsTo_landed (c : Thread nD τ) {sp : Space} {s : Shape} {e : EltTy} (v : View sig c.2.kind sp s e) (q : PosShare TreeShare)
    (f g : Buf (Elt F) (v.loc c)) (d : (Rect.whole s).shape.Idx → Elt F e)
    (h : ∀ j, d j = v.read (Elt F) g ((Rect.whole s).emb j)) :
    (v.loc c ↦[v.set]{q} v.writes (Elt F) f [⟨Rect.whole s, d⟩] : sProp 𝕄) = v.loc c ↦[v.set]{q} g :=
  pointsTo_congr fun i hi => by
    obtain ⟨y, -, rfl⟩ := Finset.mem_map.mp hi
    have hr := View.read_writes_cons_emb (Val := Elt F) (v := v) (f := f) (Rect.whole s) d [] y
    rw [h y, View.read_apply, View.read_apply, Rect.emb_whole_apply] at hr
    exact (cast_inj _).mp hr

/-! The values a row chunk computes. -/

/-- The running maximum of the chunk's 148 tiles. -/
def tileMax (U : BufTy.Contents (Elt F) a6.view.ty) (r : ℕ) : FVec F S32x128 .bf16 := maxSt U r k0_pay185 4
/-- The bound of the chunk's rows, its exponent search, the scale's inverse and the scale. -/
def boundOf (U : BufTy.Contents (Elt F) a6.view.ty) (r : ℕ) : FVec F S32x128 .f32 := k0_pay189 (tileMax U r)
def expoOf (U : BufTy.Contents (Elt F) a6.view.ty) (r : ℕ) : IVec S32x128 32 := k0_pay192 (boundOf U r) (k0_pay190 (tileMax U r)) (k0_pay191 (tileMax U r))
def lastOf (U : BufTy.Contents (Elt F) a6.view.ty) (r : ℕ) : IVec S32x128 1 := k0_pay193 (boundOf U r) (k0_pay190 (tileMax U r)) (k0_pay191 (tileMax U r))
def invOf (U : BufTy.Contents (Elt F) a6.view.ty) (r : ℕ) : FVec F S32x128 .f32 := k0_pay195 (boundOf U r) (expoOf U r) (lastOf U r)
def sclOf (U : BufTy.Contents (Elt F) a6.view.ty) (r : ℕ) : FVec F S32x128 .f32 := k0_pay196 (boundOf U r) (expoOf U r) (lastOf U r)
/-- The codes and the scales of all rows. -/
def codesOf (U : BufTy.Contents (Elt F) a6.view.ty) : BufTy.Contents (Elt F) a7.view.ty :=
  fun i : S128x18944.Idx => codeAt k0_pay212 k0_pay213 k0_pay214 k0_pay215 k0_pay216 (invOf U ((i 0).val / 32)) U ((i 0).val / 32) i
def scalesOf (U : BufTy.Contents (Elt F) a6.view.ty) : BufTy.Contents (Elt F) a11.view.ty :=
  fun i : S128x128.Idx => sclOf U ((i 0).val / 32) (atT (i 0).val (i 1).val)

/-- The rows of a chunk after its trips hold its codes. -/
theorem codeSt_codesOf (U : BufTy.Contents (Elt F) a6.view.ty) (r : Fin k0_t1_loop.trips) (f : BufTy.Contents (Elt F) a7.view.ty) (i : (cRows r).view.ty.Idx) (hi : i ∈ (cRows r).view.set) :
    codeSt k0_pay212 k0_pay213 k0_pay214 k0_pay215 k0_pay216 (invOf U r) U r f 4 i = codesOf (F := F) U i := by
  obtain ⟨y, -, rfl⟩ := Finset.mem_map.mp hi
  have h0 : (((cRows r).view.emb y : S128x18944.Idx) 0).val = 32 * r.val + (y 0).val := by
    show k0_off2 r 0 + 1 * (y 0).val = _
    rw [off2_eq]; show 32 * r.val + 1 * (y 0).val = _; omega
  have hy : (y 0).val < 32 := (y 0).isLt
  have hd : (((cRows r).view.emb y : S128x18944.Idx) 0).val / 32 = r.val := by rw [h0]; omega
  have h1 : (((cRows r).view.emb y : S128x18944.Idx) 1).val < 18944 := Fin.isLt _
  rw [codeSt_at _ _ _ _ _ _ _ _ _ _ (by omega) (by omega) 4 le_rfl (by omega)]
  show _ = codeAt _ _ _ _ _ (invOf U ((((cRows r).view.emb y : S128x18944.Idx) 0).val / 32)) U ((((cRows r).view.emb y : S128x18944.Idx) 0).val / 32) _
  rw [hd]

/-- The scales' rows after the store of chunk `r`. -/
theorem scales_step (U : BufTy.Contents (Elt F) a6.view.ty) (r : Fin k0_t1_loop.trips) (g : BufTy.Contents (Elt F) a11.view.ty)
    (hg : ∀ i : S128x128.Idx, (i 0).val < 32 * r.val → g i = scalesOf (F := F) U i) (i : S128x128.Idx) (hi : (i 0).val < 32 * (r.val + 1)) :
    (a11.access (Rect.unit (s := S128x128) (k0_off4 r) S32x128.size (k0_off4_inb r))).write (Elt F) g (sclOf U r.val) Finset.univ i = scalesOf (F := F) U i := by
  have e0 : k0_off4 r 0 = 32 * r.val := by rw [off4_eq]; rfl
  have e1 : k0_off4 r 1 = 0 := by rw [off4_eq]; rfl
  by_cases h : (i 0).val < 32 * r.val
  · rw [wr_miss (Elt F) cc0_scratch5 (k0_off4_inb r) g (sclOf U r.val) i 0 (.inl (by rw [e0]; exact h))]
    exact hg i h
  · have hd : (i 0).val / 32 = r.val := by omega
    have h1 : (i 1).val < 128 := (i 1).isLt
    rw [wr_hit (Elt F) cc0_scratch5 (k0_off4_inb r) g (sclOf U r.val) i (atT (i 0).val (i 1).val) (fun a => ?_)]
    · show _ = sclOf U ((i 0).val / 32) _
      rw [hd]
    · revert a
      refine Fin.forall_fin_two.mpr ⟨?_, ?_⟩
      · rw [e0]; show _ = _ + (i 0).val % 32; omega
      · rw [e1]; show _ = _ + (i 1).val % 128; omega

end Cert.KernelIdeal.Hand

end
-- ==== Proof.KI.Names.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Loops
public import proofs.«01_k».proof.Proof.KI.Base
public import proofs.«01_k».proof.Proof.KI.Cells
public import Idealize.ShloMosaic.Lib.Pipeline.FrameSuffixV
public import Idealize.ShloMosaic.Lib.Batch
public import Idealize.ShloMosaic.Lib.Ring
public import Idealize.ShloMosaic.Lib.Tactic

@[expose] public section

set_option maxRecDepth 16384
set_option maxHeartbeats 2000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The proof's resource algebra: the pipeline library's beside the transfers' counters. -/
local notation "𝕄" => MT nD τ sig Unit (Elt F) ℕ (Pipeline.UD sig nD τ) ℕ

/-! Names for the weight slabs, their slots and semaphores, and the blocks of the product. -/

abbrev slotOffA (s : Fin 5) : Fin 3 → ℕ := ![s.val, 0, 0]
abbrev slotOffB (s : Fin 5) : Fin 3 → ℕ := ![s.val, 9472, 0]
abbrev srcOffA (i : Fin 7) : Fin 2 → ℕ := ![0, 512 * i.val]
abbrev srcOffB (i : Fin 7) : Fin 2 → ℕ := ![9472, 512 * i.val]
abbrev cellOffA (s : Fin 5) : Fin 2 → ℕ := ![s.val, 0]
abbrev cellOffB (s : Fin 5) : Fin 2 → ℕ := ![s.val, 1]
abbrev blkOff (i : Fin 7) : Fin 2 → ℕ := ![0, 512 * i.val]
theorem slotOffA_inb (s : Fin 5) : ∀ a, slotOffA s a + S1x9472x512.size a ≤ S5x18944x512.size a := by revert s; decide
theorem slotOffB_inb (s : Fin 5) : ∀ a, slotOffB s a + S1x9472x512.size a ≤ S5x18944x512.size a := by revert s; decide
theorem srcOffA_inb (i : Fin 7) : ∀ a, srcOffA i a + S9472x512.size a ≤ S18944x3584.size a := by revert i; decide
theorem srcOffB_inb (i : Fin 7) : ∀ a, srcOffB i a + S9472x512.size a ≤ S18944x3584.size a := by revert i; decide
theorem cellOffA_inb (s : Fin 5) : ∀ a, cellOffA s a + S1x1.size a ≤ S5x2.size a := by revert s; decide
theorem cellOffB_inb (s : Fin 5) : ∀ a, cellOffB s a + S1x1.size a ≤ S5x2.size a := by revert s; decide
theorem blkOff_inb (i : Fin 7) : ∀ a, blkOff i a + S128x512.size a ≤ S128x3584.size a := by revert i; decide

/-- Upper and lower half of slot `s` of the weight buffer. -/
def slotA (s : Fin 5) : Memref sig .tc .vmem S9472x512 .fp8e4m3 := (a8.slice (Rect.unit (s := S5x18944x512) (slotOffA s) S1x9472x512.size (slotOffA_inb s)) (fun _ => rfl)).squeeze S9472x512 squeezes_S1x9472x512_S9472x512
def slotB (s : Fin 5) : Memref sig .tc .vmem S9472x512 .fp8e4m3 := (a8.slice (Rect.unit (s := S5x18944x512) (slotOffB s) S1x9472x512.size (slotOffB_inb s)) (fun _ => rfl)).squeeze S9472x512 squeezes_S1x9472x512_S9472x512
/-- Upper and lower half of slab `i` of the weights. -/
def srcA (i : Fin 7) : Memref sig .tc .hbm S9472x512 .fp8e4m3 := a1.slice (Rect.unit (s := S18944x3584) (srcOffA i) S9472x512.size (srcOffA_inb i)) (fun _ => rfl)
def srcB (i : Fin 7) : Memref sig .tc .hbm S9472x512 .fp8e4m3 := a1.slice (Rect.unit (s := S18944x3584) (srcOffB i) S9472x512.size (srcOffB_inb i)) (fun _ => rfl)
/-- The semaphores of the two halves of slot `s`. -/
def cellA (s : Fin 5) : DmaSems sig S_ := (cc0_scratch8.slice (Rect.unit (s := S5x2) (cellOffA s) S1x1.size (cellOffA_inb s))).squeeze S_ squeezes_S1x1_S_
def cellB (s : Fin 5) : DmaSems sig S_ := (cc0_scratch8.slice (Rect.unit (s := S5x2) (cellOffB s) S1x1.size (cellOffB_inb s))).squeeze S_ squeezes_S1x1_S_
/-- Column block `i` of the product and of its buffer. -/
def yBlk (i : Fin 7) : Memref sig .tc .hbm S128x512 .bf16 := a3.slice (Rect.unit (s := S128x3584) (blkOff i) S128x512.size (blkOff_inb i)) (fun _ => rfl)
def yBuf (i : Fin 7) : Memref sig .tc .vmem S128x512 .bf16 := a9.slice (Rect.unit (s := S128x3584) (blkOff i) S128x512.size (blkOff_inb i)) (fun _ => rfl)

instance (s : Fin 5) : ClosedOff (slotOffA s) := ⟨slotOffA s, rfl⟩
instance (s : Fin 5) : ClosedOff (slotOffB s) := ⟨slotOffB s, rfl⟩
instance (i : Fin 7) : ClosedOff (srcOffA i) := ⟨srcOffA i, rfl⟩
instance (i : Fin 7) : ClosedOff (srcOffB i) := ⟨srcOffB i, rfl⟩
instance (i : Fin 7) : ClosedOff (blkOff i) := ⟨blkOff i, rfl⟩

private theorem slotA_congr {off : Fin 3 → ℕ} {s : Fin 5} (e : off = slotOffA s) (hh hs) :
    (a8.slice (Rect.unit (s := S5x18944x512) off S1x9472x512.size hh) hs).squeeze S9472x512 squeezes_S1x9472x512_S9472x512 = slotA s :=
  congrArg (fun M : Memref sig .tc .vmem S1x9472x512 .fp8e4m3 => M.squeeze S9472x512 squeezes_S1x9472x512_S9472x512) (Memref.slice_unit_congr _ e _ _ _ _)
private theorem slotB_congr {off : Fin 3 → ℕ} {s : Fin 5} (e : off = slotOffB s) (hh hs) :
    (a8.slice (Rect.unit (s := S5x18944x512) off S1x9472x512.size hh) hs).squeeze S9472x512 squeezes_S1x9472x512_S9472x512 = slotB s :=
  congrArg (fun M : Memref sig .tc .vmem S1x9472x512 .fp8e4m3 => M.squeeze S9472x512 squeezes_S1x9472x512_S9472x512) (Memref.slice_unit_congr _ e _ _ _ _)
private theorem srcA_congr {off : Fin 2 → ℕ} {i : Fin 7} (e : off = srcOffA i) (hh hs) :
    a1.slice (Rect.unit (s := S18944x3584) off S9472x512.size hh) hs = srcA i := Memref.slice_unit_congr _ e _ _ _ (fun _ => rfl)
private theorem srcB_congr {off : Fin 2 → ℕ} {i : Fin 7} (e : off = srcOffB i) (hh hs) :
    a1.slice (Rect.unit (s := S18944x3584) off S9472x512.size hh) hs = srcB i := Memref.slice_unit_congr _ e _ _ _ (fun _ => rfl)
private theorem cellA_congr {off : Fin 2 → ℕ} {s : Fin 5} (e : off = cellOffA s) (hh) :
    (cc0_scratch8.slice (Rect.unit (s := S5x2) off S1x1.size hh)).squeeze S_ squeezes_S1x1_S_ = cellA s :=
  congrArg (fun A : DmaSems sig S1x1 => A.squeeze S_ squeezes_S1x1_S_) (SemArray.slice_unit_congr _ e _ _)
private theorem cellB_congr {off : Fin 2 → ℕ} {s : Fin 5} (e : off = cellOffB s) (hh) :
    (cc0_scratch8.slice (Rect.unit (s := S5x2) off S1x1.size hh)).squeeze S_ squeezes_S1x1_S_ = cellB s :=
  congrArg (fun A : DmaSems sig S1x1 => A.squeeze S_ squeezes_S1x1_S_) (SemArray.slice_unit_congr _ e _ _)
private theorem yBlk_congr {off : Fin 2 → ℕ} {i : Fin 7} (e : off = blkOff i) (hh hs) :
    a3.slice (Rect.unit (s := S128x3584) off S128x512.size hh) hs = yBlk i := Memref.slice_unit_congr _ e _ _ _ (fun _ => rfl)
private theorem yBuf_congr {off : Fin 2 → ℕ} {i : Fin 7} (e : off = blkOff i) (hh hs) :
    a9.slice (Rect.unit (s := S128x3584) off S128x512.size hh) hs = yBuf i := Memref.slice_unit_congr _ e _ _ _ (fun _ => rfl)

theorem sl5_val (k : ℕ) : (Ring.sl 5 k).val = k % 5 := rfl
theorem bk7_val {k : ℕ} (h : k < 7) : (Ring.bk 7 k).val = k := Ring.bk_val h
theorem t4_lt (k : Fin k0_t4_loop.trips) : k.val < 7 := Nat.lt_of_lt_of_le k.isLt k0_t4_abs.2.1
theorem t5_lt (k : Fin k0_t5_loop.trips) : k.val < 7 := Nat.lt_of_lt_of_le k.isLt k0_t5_abs.2.1

/-! The names of trip `k`. -/
@[sl_canon] theorem cellA_k (k : Fin k0_t4_loop.trips) (hh) : (cc0_scratch8.slice (Rect.unit (s := S5x2) (k0_off6 k) S1x1.size hh)).squeeze S_ squeezes_S1x1_S_ = cellA (Ring.sl 5 k.val) := cellA_congr (off6_eq k) _
@[sl_canon] theorem cellB_k (k : Fin k0_t4_loop.trips) (hh) : (cc0_scratch8.slice (Rect.unit (s := S5x2) (k0_off28 k) S1x1.size hh)).squeeze S_ squeezes_S1x1_S_ = cellB (Ring.sl 5 k.val) := cellB_congr (off28_eq k) _
@[sl_canon] theorem cellA_k' (k : Fin k0_t4_loop.trips) (hh) : (cc0_scratch8.slice (Rect.unit (s := S5x2) (k0_off50 k) S1x1.size hh)).squeeze S_ squeezes_S1x1_S_ = cellA (Ring.sl 5 k.val) := cellA_congr (off6_eq k) _
@[sl_canon] theorem cellB_k' (k : Fin k0_t4_loop.trips) (hh) : (cc0_scratch8.slice (Rect.unit (s := S5x2) (k0_off53 k) S1x1.size hh)).squeeze S_ squeezes_S1x1_S_ = cellB (Ring.sl 5 k.val) := cellB_congr (off28_eq k) _
@[sl_canon] theorem slotA_k (k : Fin k0_t4_loop.trips) (hh hs) : (a8.slice (Rect.unit (s := S5x18944x512) (k0_off7 k) S1x9472x512.size hh) hs).squeeze S9472x512 squeezes_S1x9472x512_S9472x512 = slotA (Ring.sl 5 k.val) := slotA_congr (off7_eq k) _ _
@[sl_canon] theorem slotB_k (k : Fin k0_t4_loop.trips) (hh hs) : (a8.slice (Rect.unit (s := S5x18944x512) (k0_off29 k) S1x9472x512.size hh) hs).squeeze S9472x512 squeezes_S1x9472x512_S9472x512 = slotB (Ring.sl 5 k.val) := slotB_congr (off29_eq k) _ _
@[sl_canon] theorem slotA_k' (k : Fin k0_t4_loop.trips) (hh hs) : (a8.slice (Rect.unit (s := S5x18944x512) (k0_off51 k) S1x9472x512.size hh) hs).squeeze S9472x512 squeezes_S1x9472x512_S9472x512 = slotA (Ring.sl 5 k.val) := slotA_congr (off7_eq k) _ _
@[sl_canon] theorem slotB_k' (k : Fin k0_t4_loop.trips) (hh hs) : (a8.slice (Rect.unit (s := S5x18944x512) (k0_off54 k) S1x9472x512.size hh) hs).squeeze S9472x512 squeezes_S1x9472x512_S9472x512 = slotB (Ring.sl 5 k.val) := slotB_congr (off29_eq k) _ _
@[sl_canon] theorem srcA_k (k : Fin k0_t4_loop.trips) (hh hs) : a1.slice (Rect.unit (s := S18944x3584) (k0_off8 k) S9472x512.size hh) hs = srcA (Ring.bk 7 k.val) := srcA_congr ((off8_eq k).trans (by rw [srcOffA, bk7_val (t4_lt k)])) _ _
@[sl_canon] theorem srcB_k (k : Fin k0_t4_loop.trips) (hh hs) : a1.slice (Rect.unit (s := S18944x3584) (k0_off30 k) S9472x512.size hh) hs = srcB (Ring.bk 7 k.val) := srcB_congr ((off30_eq k).trans (by rw [srcOffB, bk7_val (t4_lt k)])) _ _
@[sl_canon] theorem srcA_k' (k : Fin k0_t4_loop.trips) (hk : k.val < 2) (hh hs) : a1.slice (Rect.unit (s := S18944x3584) (k0_off52 k) S9472x512.size hh) hs = srcA (Ring.bk 7 (k.val + 5)) := srcA_congr ((off52_eq k hk).trans (by rw [srcOffA, bk7_val (by omega)])) _ _
@[sl_canon] theorem srcB_k' (k : Fin k0_t4_loop.trips) (hk : k.val < 2) (hh hs) : a1.slice (Rect.unit (s := S18944x3584) (k0_off55 k) S9472x512.size hh) hs = srcB (Ring.bk 7 (k.val + 5)) := srcB_congr ((off55_eq k hk).trans (by rw [srcOffB, bk7_val (by omega)])) _ _
@[sl_canon] theorem yBlk_k (k : Fin k0_t4_loop.trips) (hh hs) : a3.slice (Rect.unit (s := S128x3584) (k0_off58 k) S128x512.size hh) hs = yBlk (Ring.bk 7 k.val) := yBlk_congr ((off58_eq k).trans (by rw [blkOff, bk7_val (t4_lt k)])) _ _
@[sl_canon] theorem yBuf_k (k : Fin k0_t4_loop.trips) (hh hs) : a9.slice (Rect.unit (s := S128x3584) (k0_off58 k) S128x512.size hh) hs = yBuf (Ring.bk 7 k.val) := yBuf_congr ((off58_eq k).trans (by rw [blkOff, bk7_val (t4_lt k)])) _ _
@[sl_canon] theorem yBlk_k5 (k : Fin k0_t5_loop.trips) (hh hs) : a3.slice (Rect.unit (s := S128x3584) (k0_off59 k) S128x512.size hh) hs = yBlk (Ring.bk 7 k.val) := yBlk_congr ((off59_eq k).trans (by rw [blkOff, bk7_val (t5_lt k)])) _ _
@[sl_canon] theorem yBuf_k5 (k : Fin k0_t5_loop.trips) (hh hs) : a9.slice (Rect.unit (s := S128x3584) (k0_off59 k) S128x512.size hh) hs = yBuf (Ring.bk 7 k.val) := yBuf_congr ((off59_eq k).trans (by rw [blkOff, bk7_val (t5_lt k)])) _ _

/-! Where trip `k` reads and writes. -/
instance (k : Fin k0_t4_loop.trips) : ClosedOff (k0_off9 k) := ⟨![(Ring.sl 5 k.val).val, 0, 0], off9_eq k⟩
instance (k : Fin k0_t4_loop.trips) : ClosedOff (k0_off10 k) := ⟨![(Ring.sl 5 k.val).val, 512, 0], off10_eq k⟩
instance (k : Fin k0_t4_loop.trips) : ClosedOff (k0_off11 k) := ⟨![(Ring.sl 5 k.val).val, 1024, 0], off11_eq k⟩
instance (k : Fin k0_t4_loop.trips) : ClosedOff (k0_off12 k) := ⟨![(Ring.sl 5 k.val).val, 1536, 0], off12_eq k⟩
instance (k : Fin k0_t4_loop.trips) : ClosedOff (k0_off13 k) := ⟨![(Ring.sl 5 k.val).val, 2048, 0], off13_eq k⟩
instance (k : Fin k0_t4_loop.trips) : ClosedOff (k0_off14 k) := ⟨![(Ring.sl 5 k.val).val, 2560, 0], off14_eq k⟩
instance (k : Fin k0_t4_loop.trips) : ClosedOff (k0_off15 k) := ⟨![(Ring.sl 5 k.val).val, 3072, 0], off15_eq k⟩
instance (k : Fin k0_t4_loop.trips) : ClosedOff (k0_off16 k) := ⟨![(Ring.sl 5 k.val).val, 3584, 0], off16_eq k⟩
instance (k : Fin k0_t4_loop.trips) : ClosedOff (k0_off17 k) := ⟨![(Ring.sl 5 k.val).val, 4096, 0], off17_eq k⟩
instance (k : Fin k0_t4_loop.trips) : ClosedOff (k0_off18 k) := ⟨![(Ring.sl 5 k.val).val, 4608, 0], off18_eq k⟩
instance (k : Fin k0_t4_loop.trips) : ClosedOff (k0_off19 k) := ⟨![(Ring.sl 5 k.val).val, 5120, 0], off19_eq k⟩
instance (k : Fin k0_t4_loop.trips) : ClosedOff (k0_off20 k) := ⟨![(Ring.sl 5 k.val).val, 5632, 0], off20_eq k⟩
instance (k : Fin k0_t4_loop.trips) : ClosedOff (k0_off21 k) := ⟨![(Ring.sl 5 k.val).val, 6144, 0], off21_eq k⟩
instance (k : Fin k0_t4_loop.trips) : ClosedOff (k0_off22 k) := ⟨![(Ring.sl 5 k.val).val, 6656, 0], off22_eq k⟩
instance (k : Fin k0_t4_loop.trips) : ClosedOff (k0_off23 k) := ⟨![(Ring.sl 5 k.val).val, 7168, 0], off23_eq k⟩
instance (k : Fin k0_t4_loop.trips) : ClosedOff (k0_off24 k) := ⟨![(Ring.sl 5 k.val).val, 7680, 0], off24_eq k⟩
instance (k : Fin k0_t4_loop.trips) : ClosedOff (k0_off25 k) := ⟨![(Ring.sl 5 k.val).val, 8192, 0], off25_eq k⟩
instance (k : Fin k0_t4_loop.trips) : ClosedOff (k0_off26 k) := ⟨![(Ring.sl 5 k.val).val, 8704, 0], off26_eq k⟩
instance (k : Fin k0_t4_loop.trips) : ClosedOff (k0_off27 k) := ⟨![(Ring.sl 5 k.val).val, 9216, 0], off27_eq k⟩
instance (k : Fin k0_t4_loop.trips) : ClosedOff (k0_off31 k) := ⟨![(Ring.sl 5 k.val).val, 9472, 0], off31_eq k⟩
instance (k : Fin k0_t4_loop.trips) : ClosedOff (k0_off32 k) := ⟨![(Ring.sl 5 k.val).val, 9984, 0], off32_eq k⟩
instance (k : Fin k0_t4_loop.trips) : ClosedOff (k0_off33 k) := ⟨![(Ring.sl 5 k.val).val, 10496, 0], off33_eq k⟩
instance (k : Fin k0_t4_loop.trips) : ClosedOff (k0_off34 k) := ⟨![(Ring.sl 5 k.val).val, 11008, 0], off34_eq k⟩
instance (k : Fin k0_t4_loop.trips) : ClosedOff (k0_off35 k) := ⟨![(Ring.sl 5 k.val).val, 11520, 0], off35_eq k⟩
instance (k : Fin k0_t4_loop.trips) : ClosedOff (k0_off36 k) := ⟨![(Ring.sl 5 k.val).val, 12032, 0], off36_eq k⟩
instance (k : Fin k0_t4_loop.trips) : ClosedOff (k0_off37 k) := ⟨![(Ring.sl 5 k.val).val, 12544, 0], off37_eq k⟩
instance (k : Fin k0_t4_loop.trips) : ClosedOff (k0_off38 k) := ⟨![(Ring.sl 5 k.val).val, 13056, 0], off38_eq k⟩
instance (k : Fin k0_t4_loop.trips) : ClosedOff (k0_off39 k) := ⟨![(Ring.sl 5 k.val).val, 13568, 0], off39_eq k⟩
instance (k : Fin k0_t4_loop.trips) : ClosedOff (k0_off40 k) := ⟨![(Ring.sl 5 k.val).val, 14080, 0], off40_eq k⟩
instance (k : Fin k0_t4_loop.trips) : ClosedOff (k0_off41 k) := ⟨![(Ring.sl 5 k.val).val, 14592, 0], off41_eq k⟩
instance (k : Fin k0_t4_loop.trips) : ClosedOff (k0_off42 k) := ⟨![(Ring.sl 5 k.val).val, 15104, 0], off42_eq k⟩
instance (k : Fin k0_t4_loop.trips) : ClosedOff (k0_off43 k) := ⟨![(Ring.sl 5 k.val).val, 15616, 0], off43_eq k⟩
instance (k : Fin k0_t4_loop.trips) : ClosedOff (k0_off44 k) := ⟨![(Ring.sl 5 k.val).val, 16128, 0], off44_eq k⟩
instance (k : Fin k0_t4_loop.trips) : ClosedOff (k0_off45 k) := ⟨![(Ring.sl 5 k.val).val, 16640, 0], off45_eq k⟩
instance (k : Fin k0_t4_loop.trips) : ClosedOff (k0_off46 k) := ⟨![(Ring.sl 5 k.val).val, 17152, 0], off46_eq k⟩
instance (k : Fin k0_t4_loop.trips) : ClosedOff (k0_off47 k) := ⟨![(Ring.sl 5 k.val).val, 17664, 0], off47_eq k⟩
instance (k : Fin k0_t4_loop.trips) : ClosedOff (k0_off48 k) := ⟨![(Ring.sl 5 k.val).val, 18176, 0], off48_eq k⟩
instance (k : Fin k0_t4_loop.trips) : ClosedOff (k0_off49 k) := ⟨![(Ring.sl 5 k.val).val, 18688, 0], off49_eq k⟩
instance (k : Fin k0_t4_loop.trips) : ClosedOff (k0_off57 k 0#32) := ⟨![0, 512 * (Ring.bk 7 k.val).val + 0], (off57_eq k 0).trans (by rw [bk7_val (t4_lt k)]; rfl)⟩
instance (k : Fin k0_t4_loop.trips) : ClosedOff (k0_off56 k 0#32) := ⟨![0, 512 * (Ring.bk 7 k.val).val + 0], (off56_eq k 0).trans (by rw [bk7_val (t4_lt k)]; rfl)⟩
instance (k : Fin k0_t4_loop.trips) : ClosedOff (k0_off57 k 128#32) := ⟨![0, 512 * (Ring.bk 7 k.val).val + 128], (off57_eq k 1).trans (by rw [bk7_val (t4_lt k)]; rfl)⟩
instance (k : Fin k0_t4_loop.trips) : ClosedOff (k0_off56 k 128#32) := ⟨![0, 512 * (Ring.bk 7 k.val).val + 128], (off56_eq k 1).trans (by rw [bk7_val (t4_lt k)]; rfl)⟩
instance (k : Fin k0_t4_loop.trips) : ClosedOff (k0_off57 k 256#32) := ⟨![0, 512 * (Ring.bk 7 k.val).val + 256], (off57_eq k 2).trans (by rw [bk7_val (t4_lt k)]; rfl)⟩
instance (k : Fin k0_t4_loop.trips) : ClosedOff (k0_off56 k 256#32) := ⟨![0, 512 * (Ring.bk 7 k.val).val + 256], (off56_eq k 2).trans (by rw [bk7_val (t4_lt k)]; rfl)⟩
instance (k : Fin k0_t4_loop.trips) : ClosedOff (k0_off57 k 384#32) := ⟨![0, 512 * (Ring.bk 7 k.val).val + 384], (off57_eq k 3).trans (by rw [bk7_val (t4_lt k)]; rfl)⟩
instance (k : Fin k0_t4_loop.trips) : ClosedOff (k0_off56 k 384#32) := ⟨![0, 512 * (Ring.bk 7 k.val).val + 384], (off56_eq k 3).trans (by rw [bk7_val (t4_lt k)]; rfl)⟩

/-! The names of the first five slabs, whose copies start before the loops. -/
@[sl_canon] theorem cellA_0 (hh) : (cc0_scratch8.slice (Rect.unit (s := S5x2) ![0, 0] S1x1.size hh)).squeeze S_ squeezes_S1x1_S_ = cellA 0 := cellA_congr (by decide) _
@[sl_canon] theorem slotA_0 (hh hs) : (a8.slice (Rect.unit (s := S5x18944x512) ![0, 0, 0] S1x9472x512.size hh) hs).squeeze S9472x512 squeezes_S1x9472x512_S9472x512 = slotA 0 := slotA_congr (by decide) _ _
@[sl_canon] theorem srcA_0 (hh hs) : a1.slice (Rect.unit (s := S18944x3584) ![0, 0] S9472x512.size hh) hs = srcA 0 := srcA_congr (by decide) _ _
@[sl_canon] theorem cellB_0 (hh) : (cc0_scratch8.slice (Rect.unit (s := S5x2) ![0, 1] S1x1.size hh)).squeeze S_ squeezes_S1x1_S_ = cellB 0 := cellB_congr (by decide) _
@[sl_canon] theorem slotB_0 (hh hs) : (a8.slice (Rect.unit (s := S5x18944x512) ![0, 9472, 0] S1x9472x512.size hh) hs).squeeze S9472x512 squeezes_S1x9472x512_S9472x512 = slotB 0 := slotB_congr (by decide) _ _
@[sl_canon] theorem srcB_0 (hh hs) : a1.slice (Rect.unit (s := S18944x3584) ![9472, 0] S9472x512.size hh) hs = srcB 0 := srcB_congr (by decide) _ _
@[sl_canon] theorem cellA_1 (hh) : (cc0_scratch8.slice (Rect.unit (s := S5x2) ![1, 0] S1x1.size hh)).squeeze S_ squeezes_S1x1_S_ = cellA 1 := cellA_congr (by decide) _
@[sl_canon] theorem slotA_1 (hh hs) : (a8.slice (Rect.unit (s := S5x18944x512) ![1, 0, 0] S1x9472x512.size hh) hs).squeeze S9472x512 squeezes_S1x9472x512_S9472x512 = slotA 1 := slotA_congr (by decide) _ _
@[sl_canon] theorem srcA_1 (hh hs) : a1.slice (Rect.unit (s := S18944x3584) ![0, 512] S9472x512.size hh) hs = srcA 1 := srcA_congr (by decide) _ _
@[sl_canon] theorem cellB_1 (hh) : (cc0_scratch8.slice (Rect.unit (s := S5x2) ![1, 1] S1x1.size hh)).squeeze S_ squeezes_S1x1_S_ = cellB 1 := cellB_congr (by decide) _
@[sl_canon] theorem slotB_1 (hh hs) : (a8.slice (Rect.unit (s := S5x18944x512) ![1, 9472, 0] S1x9472x512.size hh) hs).squeeze S9472x512 squeezes_S1x9472x512_S9472x512 = slotB 1 := slotB_congr (by decide) _ _
@[sl_canon] theorem srcB_1 (hh hs) : a1.slice (Rect.unit (s := S18944x3584) ![9472, 512] S9472x512.size hh) hs = srcB 1 := srcB_congr (by decide) _ _
@[sl_canon] theorem cellA_2 (hh) : (cc0_scratch8.slice (Rect.unit (s := S5x2) ![2, 0] S1x1.size hh)).squeeze S_ squeezes_S1x1_S_ = cellA 2 := cellA_congr (by decide) _
@[sl_canon] theorem slotA_2 (hh hs) : (a8.slice (Rect.unit (s := S5x18944x512) ![2, 0, 0] S1x9472x512.size hh) hs).squeeze S9472x512 squeezes_S1x9472x512_S9472x512 = slotA 2 := slotA_congr (by decide) _ _
@[sl_canon] theorem srcA_2 (hh hs) : a1.slice (Rect.unit (s := S18944x3584) ![0, 1024] S9472x512.size hh) hs = srcA 2 := srcA_congr (by decide) _ _
@[sl_canon] theorem cellB_2 (hh) : (cc0_scratch8.slice (Rect.unit (s := S5x2) ![2, 1] S1x1.size hh)).squeeze S_ squeezes_S1x1_S_ = cellB 2 := cellB_congr (by decide) _
@[sl_canon] theorem slotB_2 (hh hs) : (a8.slice (Rect.unit (s := S5x18944x512) ![2, 9472, 0] S1x9472x512.size hh) hs).squeeze S9472x512 squeezes_S1x9472x512_S9472x512 = slotB 2 := slotB_congr (by decide) _ _
@[sl_canon] theorem srcB_2 (hh hs) : a1.slice (Rect.unit (s := S18944x3584) ![9472, 1024] S9472x512.size hh) hs = srcB 2 := srcB_congr (by decide) _ _
@[sl_canon] theorem cellA_3 (hh) : (cc0_scratch8.slice (Rect.unit (s := S5x2) ![3, 0] S1x1.size hh)).squeeze S_ squeezes_S1x1_S_ = cellA 3 := cellA_congr (by decide) _
@[sl_canon] theorem slotA_3 (hh hs) : (a8.slice (Rect.unit (s := S5x18944x512) ![3, 0, 0] S1x9472x512.size hh) hs).squeeze S9472x512 squeezes_S1x9472x512_S9472x512 = slotA 3 := slotA_congr (by decide) _ _
@[sl_canon] theorem srcA_3 (hh hs) : a1.slice (Rect.unit (s := S18944x3584) ![0, 1536] S9472x512.size hh) hs = srcA 3 := srcA_congr (by decide) _ _
@[sl_canon] theorem cellB_3 (hh) : (cc0_scratch8.slice (Rect.unit (s := S5x2) ![3, 1] S1x1.size hh)).squeeze S_ squeezes_S1x1_S_ = cellB 3 := cellB_congr (by decide) _
@[sl_canon] theorem slotB_3 (hh hs) : (a8.slice (Rect.unit (s := S5x18944x512) ![3, 9472, 0] S1x9472x512.size hh) hs).squeeze S9472x512 squeezes_S1x9472x512_S9472x512 = slotB 3 := slotB_congr (by decide) _ _
@[sl_canon] theorem srcB_3 (hh hs) : a1.slice (Rect.unit (s := S18944x3584) ![9472, 1536] S9472x512.size hh) hs = srcB 3 := srcB_congr (by decide) _ _
@[sl_canon] theorem cellA_4 (hh) : (cc0_scratch8.slice (Rect.unit (s := S5x2) ![4, 0] S1x1.size hh)).squeeze S_ squeezes_S1x1_S_ = cellA 4 := cellA_congr (by decide) _
@[sl_canon] theorem slotA_4 (hh hs) : (a8.slice (Rect.unit (s := S5x18944x512) ![4, 0, 0] S1x9472x512.size hh) hs).squeeze S9472x512 squeezes_S1x9472x512_S9472x512 = slotA 4 := slotA_congr (by decide) _ _
@[sl_canon] theorem srcA_4 (hh hs) : a1.slice (Rect.unit (s := S18944x3584) ![0, 2048] S9472x512.size hh) hs = srcA 4 := srcA_congr (by decide) _ _
@[sl_canon] theorem cellB_4 (hh) : (cc0_scratch8.slice (Rect.unit (s := S5x2) ![4, 1] S1x1.size hh)).squeeze S_ squeezes_S1x1_S_ = cellB 4 := cellB_congr (by decide) _
@[sl_canon] theorem slotB_4 (hh hs) : (a8.slice (Rect.unit (s := S5x18944x512) ![4, 9472, 0] S1x9472x512.size hh) hs).squeeze S9472x512 squeezes_S1x9472x512_S9472x512 = slotB 4 := slotB_congr (by decide) _ _
@[sl_canon] theorem srcB_4 (hh hs) : a1.slice (Rect.unit (s := S18944x3584) ![9472, 2048] S9472x512.size hh) hs = srcB 4 := srcB_congr (by decide) _ _

end Cert.KernelIdeal.Hand

end
-- ==== Proof.KI.YVals.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Loops
public import proofs.«01_k».proof.Proof.KI.Vals
public import proofs.«01_k».proof.Proof.KI.Names
public import Idealize.ShloMosaic.Lib.Pipeline.FrameSuffixV
public import Idealize.ShloMosaic.Lib.Batch
public import Idealize.ShloMosaic.Lib.Ring
public import Idealize.ShloMosaic.Lib.Tactic
public import Idealize.ShloMosaic.Lib.ValueLayout
public import Idealize.ShloMosaic.Lib.Pipeline.Value

@[expose] public section

set_option maxRecDepth 16384
set_option maxHeartbeats 2000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The proof's resource algebra: the pipeline library's beside the transfers' counters. -/
local notation "𝕄" => MT nD τ sig Unit (Elt F) ℕ (Pipeline.UD sig nD τ) ℕ

/-! The projection of one slab: the values and the memory that trip `k` leaves. -/

/-- A slot's contents when it holds slab `i` of the weights. -/
def slabOf (W : BufTy.Contents (Elt F) a1.view.ty) (i : ℕ) : BufTy.Contents (Elt F) a8.view.ty :=
  fun x : S5x18944x512.Idx => W (at2 (n := 18944) (m := 3584) (by decide) (by decide) (x 1).val (512 * i + (x 2).val))

/-- Columns of the codes from `o`, and rows of slab `i` of the weights from `o`. -/
def codeCols (n : ℕ) (C : BufTy.Contents (Elt F) a7.view.ty) (o : ℕ) : Vec F ⟨2, ![128, n]⟩ .fp8e4m3 :=
  fun y => C (at2 (n := 128) (m := 18944) (by decide) (by decide) (y 0).val (o + (y 1).val))
def slabRows (n : ℕ) (W : BufTy.Contents (Elt F) a1.view.ty) (i o : ℕ) : Vec F ⟨3, ![1, n, 512]⟩ .fp8e4m3 :=
  fun y => W (at2 (n := 18944) (m := 3584) (by decide) (by decide) (o + (y 1).val) (512 * i + (y 2).val))

/-- One product added to the sum: 512 columns, and 256 at the end of a half. -/
def addDot (acc : FVec F S128x512 .f32) (a : Vec F S128x512 .fp8e4m3) (w : Vec F S1x512x512 .fp8e4m3) : FVec F S128x512 .f32 :=
  addf acc (matmul dot_S128x512_S512x512_S128x512_1_0_0_1_n_n none a (shapeCast S512x512 w shapeCasts_S1x512x512_S512x512 : FVec F S512x512 .fp8e4m3) (constant S128x512 .f32 0x00000000#32))
def addDot' (acc : FVec F S128x512 .f32) (a : Vec F S128x256 .fp8e4m3) (w : Vec F S1x256x512 .fp8e4m3) : FVec F S128x512 .f32 :=
  addf acc (matmul dot_S128x256_S256x512_S128x512_1_0_0_1_n_n none a (shapeCast S256x512 w shapeCasts_S1x256x512_S256x512 : FVec F S256x512 .fp8e4m3) (constant S128x512 .f32 0x00000000#32))

/-- The sum over one half of the columns, from column `o`. -/
abbrev sumSt (C : BufTy.Contents (Elt F) a7.view.ty) (W : BufTy.Contents (Elt F) a1.view.ty) (i o : ℕ) (init : FVec F S128x512 .f32) (k : ℕ) : FVec F S128x512 .f32 :=
  Nat.rec init (fun j acc => addDot acc (codeCols 512 C (o + 512 * j)) (slabRows 512 W i (o + 512 * j))) k
def sumHalf (C : BufTy.Contents (Elt F) a7.view.ty) (W : BufTy.Contents (Elt F) a1.view.ty) (i o : ℕ) (init : FVec F S128x512 .f32) : FVec F S128x512 .f32 :=
  addDot' (sumSt C W i o init 18) (codeCols 256 C (o + 9216)) (slabRows 256 W i (o + 9216))
/-- The sum over all columns. -/
def sumOf (C : BufTy.Contents (Elt F) a7.view.ty) (W : BufTy.Contents (Elt F) a1.view.ty) (i : ℕ) : FVec F S128x512 .f32 :=
  sumHalf C W i 9472 (sumHalf C W i 0 (broadcast S128x512 (Scalar.ofBits .f32 0x00000000#32 : F .f32)))

/-- The product: the sums, scaled by the row's and the column's scale and rounded. -/
def prodOf (C : BufTy.Contents (Elt F) a7.view.ty) (W : BufTy.Contents (Elt F) a1.view.ty) (S : BufTy.Contents (Elt F) a10.view.ty) (R : BufTy.Contents (Elt F) a11.view.ty) : BufTy.Contents (Elt F) a9.view.ty :=
  fun x : S128x3584.Idx =>
    (truncf .bf16 (mulf (mulf (fun _ => sumOf C W ((x 1).val / 512) (at2 (n := 128) (m := 512) (by decide) (by decide) (x 0).val (x 1).val) : FVec F S128x128 .f32)
      (fun _ => R (at2 (n := 128) (m := 128) (by decide) (by decide) (x 0).val (x 1).val)))
      (fun _ => S (at2 (n := 1) (m := 3584) (by decide) (by decide) 0 (x 1).val))) bitsLt_bf16_f32 : FVec F S128x128 .bf16) (at2 (n := 128) (m := 128) (by decide) (by decide) 0 0)

/-! Where the halves of a slot and of a slab lie. -/
theorem slotA_emb (s : Fin 5) (j : S9472x512.Idx) (a : Fin 3) : (((slotA s).view.emb j : S5x18944x512.Idx) a).val = (![s.val, (j 0).val, (j 1).val] : Fin 3 → ℕ) a := by
  have e : ((slotA s).view.emb j : S5x18944x512.Idx) = (Rect.unit (s := S5x18944x512) (slotOffA s) S1x9472x512.size (slotOffA_inb s)).emb (Shape.reshapeEquiv squeezes_S1x9472x512_S9472x512.numel_eq j) := rfl
  rw [e]
  have hj : Shape.reshapeEquiv squeezes_S1x9472x512_S9472x512.numel_eq j = (Fin.cons (⟨0, Nat.one_pos⟩ : Fin 1) j : S1x9472x512.Idx) := Shape.reshapeEquiv_cons_one (d := ![9472, 512]) _ j
  rw [hj]
  fin_cases a
  · show s.val + 1 * 0 = s.val; omega
  · show 0 + 1 * (j 0).val = (j 0).val; omega
  · show 0 + 1 * (j 1).val = (j 1).val; omega
theorem slotB_emb (s : Fin 5) (j : S9472x512.Idx) (a : Fin 3) : (((slotB s).view.emb j : S5x18944x512.Idx) a).val = (![s.val, 9472 + (j 0).val, (j 1).val] : Fin 3 → ℕ) a := by
  have e : ((slotB s).view.emb j : S5x18944x512.Idx) = (Rect.unit (s := S5x18944x512) (slotOffB s) S1x9472x512.size (slotOffB_inb s)).emb (Shape.reshapeEquiv squeezes_S1x9472x512_S9472x512.numel_eq j) := rfl
  rw [e]
  have hj : Shape.reshapeEquiv squeezes_S1x9472x512_S9472x512.numel_eq j = (Fin.cons (⟨0, Nat.one_pos⟩ : Fin 1) j : S1x9472x512.Idx) := Shape.reshapeEquiv_cons_one (d := ![9472, 512]) _ j
  rw [hj]
  fin_cases a
  · show s.val + 1 * 0 = s.val; omega
  · show 9472 + 1 * (j 0).val = 9472 + (j 0).val; omega
  · show 0 + 1 * (j 1).val = (j 1).val; omega

theorem srcA_read (W : BufTy.Contents (Elt F) a1.view.ty) (i : Fin 7) (s : Fin 5) (j : S9472x512.Idx) :
    (srcA i).view.read (Elt F) W j = (slotA s).view.read (Elt F) (slabOf W i.val) j := by
  show W ((srcA i).view.emb j) = slabOf W i.val ((slotA s).view.emb j)
  unfold slabOf
  have hi := i.isLt
  have h0 : (j 0).val < 9472 := (j 0).isLt
  have h1 : (j 1).val < 512 := (j 1).isLt
  congr 1
  funext a; revert a
  refine Fin.forall_fin_two.mpr ⟨Fin.ext ?_, Fin.ext ?_⟩
  · show 0 + 1 * (j 0).val = (((slotA s).view.emb j : S5x18944x512.Idx) (1 : Fin 3)).val % 18944
    rw [slotA_emb]; show _ = (j 0).val % 18944; omega
  · show 512 * i.val + 1 * (j 1).val = (512 * i.val + (((slotA s).view.emb j : S5x18944x512.Idx) (2 : Fin 3)).val) % 3584
    rw [slotA_emb]; show _ = (512 * i.val + (j 1).val) % 3584; omega
theorem srcB_read (W : BufTy.Contents (Elt F) a1.view.ty) (i : Fin 7) (s : Fin 5) (j : S9472x512.Idx) :
    (srcB i).view.read (Elt F) W j = (slotB s).view.read (Elt F) (slabOf W i.val) j := by
  show W ((srcB i).view.emb j) = slabOf W i.val ((slotB s).view.emb j)
  unfold slabOf
  have hi := i.isLt
  have h0 : (j 0).val < 9472 := (j 0).isLt
  have h1 : (j 1).val < 512 := (j 1).isLt
  congr 1
  funext a; revert a
  refine Fin.forall_fin_two.mpr ⟨Fin.ext ?_, Fin.ext ?_⟩
  · show 9472 + 1 * (j 0).val = (((slotB s).view.emb j : S5x18944x512.Idx) (1 : Fin 3)).val % 18944
    rw [slotB_emb]; show _ = (9472 + (j 0).val) % 18944; omega
  · show 512 * i.val + 1 * (j 1).val = (512 * i.val + (((slotB s).view.emb j : S5x18944x512.Idx) (2 : Fin 3)).val) % 3584
    rw [slotB_emb]; show _ = (512 * i.val + (j 1).val) % 3584; omega

/-- A slab landed in a slot. -/
theorem slotA_landed (c : Dev nD) (W : BufTy.Contents (Elt F) a1.view.ty) (i : Fin 7) (s : Fin 5) (f : BufTy.Contents (Elt F) a8.view.ty) :
    ((slotA s).view.loc (c : Thread nD τ) ↦[(slotA s).view.set]{fullShare} (slotA s).view.writes (Elt F) f [⟨Rect.whole S9472x512, ReadAs.same.apply ((srcA i).view.read (Elt F) W)⟩] : sProp 𝕄)
      = ((slotA s).view.loc (c : Thread nD τ) ↦[(slotA s).view.set]{fullShare} slabOf W i.val) :=
  pointsTo_landed (c : Thread nD τ) (slotA s).view fullShare f (slabOf W i.val) _ fun j => by
    rw [Rect.emb_whole_apply]; exact srcA_read W i s j
theorem slotB_landed (c : Dev nD) (W : BufTy.Contents (Elt F) a1.view.ty) (i : Fin 7) (s : Fin 5) (f : BufTy.Contents (Elt F) a8.view.ty) :
    ((slotB s).view.loc (c : Thread nD τ) ↦[(slotB s).view.set]{fullShare} (slotB s).view.writes (Elt F) f [⟨Rect.whole S9472x512, ReadAs.same.apply ((srcB i).view.read (Elt F) W)⟩] : sProp 𝕄)
      = ((slotB s).view.loc (c : Thread nD τ) ↦[(slotB s).view.set]{fullShare} slabOf W i.val) :=
  pointsTo_landed (c : Thread nD τ) (slotB s).view fullShare f (slabOf W i.val) _ fun j => by
    rw [Rect.emb_whole_apply]; exact srcB_read W i s j

/-- A load of the codes' columns. -/
theorem codeCols_read (C : BufTy.Contents (Elt F) a7.view.ty) (n o : ℕ) (hb : ∀ a, (![0, o] : Fin 2 → ℕ) a + (⟨2, ![128, n]⟩ : Shape).size a ≤ S128x18944.size a) :
    View.readAt (Elt F) a7.view (Rect.unit (s := S128x18944) ![0, o] (⟨2, ![128, n]⟩ : Shape).size hb).toLoadRect C = codeCols n C o := by
  funext y
  have h1 : o + n ≤ 18944 := hb 1
  have hy0 : (y 0).val < 128 := (y 0).isLt
  have hy1 : (y 1).val < n := (y 1).isLt
  refine rd_unit (Elt F) cc0_scratch1 hb C y _ ?_
  refine Fin.forall_fin_two.mpr ⟨?_, ?_⟩
  · show (y 0).val % 128 = 0 + (y 0).val; omega
  · show (o + (y 1).val) % 18944 = o + (y 1).val; omega
/-- A load of a slab's rows from its slot. -/
theorem slabRows_read (W : BufTy.Contents (Elt F) a1.view.ty) (i n o : ℕ) (s : ℕ) (off : Fin 3 → ℕ) (e : off = ![s, o, 0]) (hb : ∀ a, off a + (⟨3, ![1, n, 512]⟩ : Shape).size a ≤ S5x18944x512.size a) :
    View.readAt (Elt F) a8.view (Rect.unit (s := S5x18944x512) off (⟨3, ![1, n, 512]⟩ : Shape).size hb).toLoadRect (slabOf W i) = slabRows n W i o := by
  subst e
  funext y
  have h0 : s + 1 ≤ 5 := hb 0
  have h1 : o + n ≤ 18944 := hb 1
  have hy0 : (y 0).val < 1 := (y 0).isLt
  have hy1 : (y 1).val < n := (y 1).isLt
  have hy2 : (y 2).val < 512 := (y 2).isLt
  rw [rd_unit (Elt F) cc0_scratch2 hb (slabOf W i) y (ix3 (⟨s, by omega⟩ : Fin 5) (⟨o + (y 1).val, by omega⟩ : Fin 18944) (⟨(y 2).val, by omega⟩ : Fin 512)) (fun a => ?_)]
  · rfl
  · fin_cases a
    · show s = s + (y 0).val; omega
    · rfl
    · show (y 2).val = 0 + (y 2).val; omega

/-- A tile of the product, as the body spells it. -/
def prodTile (acc : FVec F S128x512 .f32) (R : Vec F S128x128 .f32) (s : Vec F S1x128 .f32) (o : ℕ) (h : S128x512.Slices ![0, o] S128x128) : FVec F S128x128 .bf16 :=
  truncf .bf16 (mulf (mulf (extractStridedSlice S128x128 ![0, o] acc h) R) (broadcastTo S128x128 s broadcasts_S1x128_S128x128)) bitsLt_bf16_f32

/-- The rounding and the scales act element by element. -/
theorem scaled_at {s t : Shape} (a b c : FVec F s .f32) (i : s.Idx) (j : t.Idx) :
    (truncf .bf16 (mulf (mulf a b) c) bitsLt_bf16_f32 : FVec F s .bf16) i
      = (truncf .bf16 (mulf (mulf (fun _ => a i : FVec F t .f32) (fun _ => b i)) (fun _ => c i)) bitsLt_bf16_f32 : FVec F t .bf16) j := rfl

theorem prodTile_at (C : BufTy.Contents (Elt F) a7.view.ty) (W : BufTy.Contents (Elt F) a1.view.ty) (S : BufTy.Contents (Elt F) a10.view.ty) (R : BufTy.Contents (Elt F) a11.view.ty)
    (k : ℕ) (hk : k < 7) (o : ℕ) (ho : o + 128 ≤ 512) (ho8 : o % 128 = 0) (h : S128x512.Slices ![0, o] S128x128) (off : Fin 2 → ℕ) (e : off = ![0, 512 * k + o]) (hb : ∀ a, off a + S1x128.size a ≤ S1x3584.size a)
    (h0 : ∀ a, (![0, 0] : Fin 2 → ℕ) a + S128x128.size a ≤ S128x128.size a)
    (y : S128x128.Idx) (x : S128x3584.Idx) (hx0 : (x 0).val = (y 0).val) (hx1 : (x 1).val = 512 * k + o + (y 1).val) :
    prodTile (sumOf C W k) (View.readAt (Elt F) a11.view (Rect.unit (s := S128x128) ![0, 0] S128x128.size h0).toLoadRect R)
      (View.readAt (Elt F) a10.view (Rect.unit (s := S1x3584) off S1x128.size hb).toLoadRect S) o h y = prodOf C W S R x := by
  subst e
  have hy0 : (y 0).val < 128 := (y 0).isLt
  have hy1 : (y 1).val < 128 := (y 1).isLt
  unfold prodTile prodOf
  rw [scaled_at (t := S128x128) _ _ _ y (at2 (n := 128) (m := 128) (by decide) (by decide) 0 0)]
  have e1 : (extractStridedSlice S128x128 ![0, o] (sumOf C W k) h : FVec F S128x128 .f32) y
      = sumOf C W ((x 1).val / 512) (at2 (n := 128) (m := 512) (by decide) (by decide) (x 0).val (x 1).val) := by
    rw [show (x 1).val / 512 = k by omega]
    show sumOf C W k _ = sumOf C W k _
    congr 1
    funext a; revert a
    refine Fin.forall_fin_two.mpr ⟨Fin.ext ?_, Fin.ext ?_⟩
    · show 0 + (y 0).val = (x 0).val % 128; omega
    · show o + (y 1).val = (x 1).val % 512; omega
  have e2 : View.readAt (Elt F) a11.view (Rect.unit (s := S128x128) ![0, 0] S128x128.size h0).toLoadRect R y
      = R (at2 (n := 128) (m := 128) (by decide) (by decide) (x 0).val (x 1).val) := by
    refine rd_unit (Elt F) cc0_scratch5 h0 R y _ (Fin.forall_fin_two.mpr ⟨?_, ?_⟩)
    · show (x 0).val % 128 = 0 + (y 0).val; omega
    · show (x 1).val % 128 = 0 + (y 1).val; omega
  have e3 : (broadcastTo S128x128 (View.readAt (Elt F) a10.view (Rect.unit (s := S1x3584) ![0, 512 * k + o] S1x128.size hb).toLoadRect S : FVec F S1x128 .f32) broadcasts_S1x128_S128x128 : FVec F S128x128 .f32) y
      = S (at2 (n := 1) (m := 3584) (by decide) (by decide) 0 (x 1).val) := by
    show View.readAt (Elt F) a10.view (Rect.unit (s := S1x3584) ![0, 512 * k + o] S1x128.size hb).toLoadRect S _ = _
    refine rd_unit (Elt F) cc0_scratch4 hb S _ _ (Fin.forall_fin_two.mpr ⟨?_, ?_⟩)
    · show 0 % 1 = 0 + 0; rfl
    · show (x 1).val % 3584 = (512 * k + o) + (y 1).val; omega
  rw [e1, e2, e3]

/-- A store of a tile that agrees with `G` extends the columns on which the buffer agrees with `G`. -/
theorem put_tile (G : BufTy.Contents (Elt F) a9.view.ty) (lo o : ℕ) (off : Fin 2 → ℕ) (e : off = ![0, lo + o]) (hb : ∀ a, off a + S128x128.size a ≤ S128x3584.size a)
    (f : BufTy.Contents (Elt F) a9.view.ty) (p : FVec F S128x128 .bf16)
    (hp : ∀ (y : S128x128.Idx) (x : S128x3584.Idx), (x 0).val = (y 0).val → (x 1).val = lo + o + (y 1).val → p y = G x)
    (hf : ∀ x : S128x3584.Idx, lo ≤ (x 1).val → (x 1).val < lo + o → f x = G x)
    (x : S128x3584.Idx) (h1 : lo ≤ (x 1).val) (h2 : (x 1).val < lo + (o + 128)) :
    View.write (Elt F) (a9.access (Rect.unit (s := S128x3584) off S128x128.size hb)) f p Finset.univ x = G x := by
  subst e
  have hx0 : (x 0).val < 128 := (x 0).isLt
  by_cases h : (x 1).val < lo + o
  · exact (wr_miss (Elt F) cc0_scratch3 hb f p x 1 (.inl h)).trans (hf x h1 h)
  · refine (wr_hit (Elt F) cc0_scratch3 hb f p x (at2 (n := 128) (m := 128) (by decide) (by decide) (x 0).val ((x 1).val - (lo + o))) (Fin.forall_fin_two.mpr ⟨?_, ?_⟩)).trans (hp _ _ ?_ ?_)
    · show _ = 0 + (x 0).val % 128; omega
    · show _ = (lo + o) + ((x 1).val - (lo + o)) % 128; omega
    · show _ = (x 0).val % 128; omega
    · show _ = lo + o + ((x 1).val - (lo + o)) % 128; omega

/-- One product of the body's sum is the next step of `sumSt`. -/
theorem step512 (C : BufTy.Contents (Elt F) a7.view.ty) (W : BufTy.Contents (Elt F) a1.view.ty) (i o : ℕ) (init : FVec F S128x512 .f32) (j : ℕ) {s : ℕ} {off : Fin 3 → ℕ}
    (e : off = ![s, o + 512 * j, 0]) {hb : ∀ a, off a + S1x512x512.size a ≤ S5x18944x512.size a} {h7 : ∀ a, (![0, o + 512 * j] : Fin 2 → ℕ) a + S128x512.size a ≤ S128x18944.size a}
    {acc : FVec F S128x512 .f32} (h : acc = sumSt C W i o init j) :
    addDot acc (View.readAt (Elt F) a7.view (Rect.unit (s := S128x18944) ![0, o + 512 * j] S128x512.size h7).toLoadRect C)
      (View.readAt (Elt F) a8.view (Rect.unit (s := S5x18944x512) off S1x512x512.size hb).toLoadRect (slabOf W i)) = sumSt C W i o init (j + 1) :=
  congr (congr (congrArg addDot h) (codeCols_read C 512 (o + 512 * j) h7)) (slabRows_read W i 512 (o + 512 * j) s off e hb)

theorem step256 (C : BufTy.Contents (Elt F) a7.view.ty) (W : BufTy.Contents (Elt F) a1.view.ty) (i o : ℕ) (init : FVec F S128x512 .f32) {s : ℕ} {off : Fin 3 → ℕ}
    (e : off = ![s, o + 9216, 0]) {hb : ∀ a, off a + S1x256x512.size a ≤ S5x18944x512.size a} {h7 : ∀ a, (![0, o + 9216] : Fin 2 → ℕ) a + S128x256.size a ≤ S128x18944.size a}
    {acc : FVec F S128x512 .f32} (h : acc = sumSt C W i o init 18) :
    addDot' acc (View.readAt (Elt F) a7.view (Rect.unit (s := S128x18944) ![0, o + 9216] S128x256.size h7).toLoadRect C)
      (View.readAt (Elt F) a8.view (Rect.unit (s := S5x18944x512) off S1x256x512.size hb).toLoadRect (slabOf W i)) = sumHalf C W i o init :=
  congr (congr (congrArg addDot' h) (codeCols_read C 256 (o + 9216) h7)) (slabRows_read W i 256 (o + 9216) s off e hb)

/-- Where the elements of a block lie. -/
theorem yBuf_cols (i : Fin 7) (x : S128x3584.Idx) (h : x ∈ (yBuf i).view.set) : 512 * i.val ≤ (x 1).val ∧ (x 1).val < 512 * i.val + 512 := by
  obtain ⟨y, -, rfl⟩ := Finset.mem_map.mp h
  have hy : (y 1).val < 512 := (y 1).isLt
  exact ⟨show 512 * i.val ≤ 512 * i.val + 1 * (y 1).val by omega, show 512 * i.val + 1 * (y 1).val < 512 * i.val + 512 by omega⟩

/-- A whole-view write of what a view of `g` reads leaves `g`. -/
theorem pointsTo_written (c : Thread nD τ) {sp : Space} {s : Shape} {e : EltTy} (v : View sig c.2.kind sp s e) (q : PosShare TreeShare)
    (f g : Buf (Elt F) (v.loc c)) (d : s.Idx → Elt F e) (h : ∀ j, d j = v.read (Elt F) g j) :
    (v.loc c ↦[v.set]{q} v.write (Elt F) f d Finset.univ : sProp 𝕄) = v.loc c ↦[v.set]{q} g :=
  pointsTo_congr fun i hi => by
    obtain ⟨y, -, rfl⟩ := Finset.mem_map.mp hi
    rw [View.write_emb_of_mem _ _ (Finset.mem_univ y), h y, View.read_apply]
    simp

/-- The four stores of a trip leave the product on the slab's columns. -/
theorem block_stores (C : BufTy.Contents (Elt F) a7.view.ty) (W : BufTy.Contents (Elt F) a1.view.ty) (S : BufTy.Contents (Elt F) a10.view.ty) (R : BufTy.Contents (Elt F) a11.view.ty)
    (k : Fin k0_t4_loop.trips) (f : BufTy.Contents (Elt F) a9.view.ty)
    (acc : FVec F S128x512 .f32) (hacc : acc = sumOf C W k.val) (p0 : FVec F S128x128 .bf16) (Rr : Vec F S128x128 .f32) (h0 : ∀ a, (![0, 0] : Fin 2 → ℕ) a + S128x128.size a ≤ S128x128.size a)
    (hR : Rr = View.readAt (Elt F) a11.view (Rect.unit (s := S128x128) ![0, 0] S128x128.size h0).toLoadRect R)
    (b0 : ∀ a, k0_off56 k 0#32 a + S1x128.size a ≤ S1x3584.size a) (b1 : ∀ a, k0_off56 k 128#32 a + S1x128.size a ≤ S1x3584.size a) (b2 : ∀ a, k0_off56 k 256#32 a + S1x128.size a ≤ S1x3584.size a) (b3 : ∀ a, k0_off56 k 384#32 a + S1x128.size a ≤ S1x3584.size a)
    (c0 : ∀ a, k0_off57 k 0#32 a + S128x128.size a ≤ S128x3584.size a) (c1 : ∀ a, k0_off57 k 128#32 a + S128x128.size a ≤ S128x3584.size a) (c2 : ∀ a, k0_off57 k 256#32 a + S128x128.size a ≤ S128x3584.size a) (c3 : ∀ a, k0_off57 k 384#32 a + S128x128.size a ≤ S128x3584.size a)
    (hp0 : p0 = prodTile acc Rr (View.readAt (Elt F) a10.view (Rect.unit (s := S1x3584) (k0_off56 k 0#32) S1x128.size b0).toLoadRect S) 0 slices_S128x512_o0_0_S128x128)
    (x : S128x3584.Idx) (hx : 512 * k.val ≤ (x 1).val) (hx' : (x 1).val < 512 * k.val + 512) :
    View.write (Elt F) (a9.access (Rect.unit (s := S128x3584) (k0_off57 k 384#32) S128x128.size c3))
      (View.write (Elt F) (a9.access (Rect.unit (s := S128x3584) (k0_off57 k 256#32) S128x128.size c2))
        (View.write (Elt F) (a9.access (Rect.unit (s := S128x3584) (k0_off57 k 128#32) S128x128.size c1))
          (View.write (Elt F) (a9.access (Rect.unit (s := S128x3584) (k0_off57 k 0#32) S128x128.size c0)) f (k0_pay208 p0) Finset.univ)
          (k0_pay209 acc Rr (View.readAt (Elt F) a10.view (Rect.unit (s := S1x3584) (k0_off56 k 128#32) S1x128.size b1).toLoadRect S)) Finset.univ)
        (k0_pay210 acc Rr (View.readAt (Elt F) a10.view (Rect.unit (s := S1x3584) (k0_off56 k 256#32) S1x128.size b2).toLoadRect S)) Finset.univ)
      (k0_pay211 acc Rr (View.readAt (Elt F) a10.view (Rect.unit (s := S1x3584) (k0_off56 k 384#32) S1x128.size b3).toLoadRect S)) Finset.univ x
    = prodOf C W S R x := by
  subst hacc hR hp0
  have hk : k.val < 7 := t4_lt k
  refine put_tile (prodOf C W S R) (512 * k.val) 384 _ (off57_eq k 3) c3 _ _ (fun y x h1 h2 => ?_) (fun x h1 h2 => ?_) x hx hx'
  · exact (congrFun (shapeCast_self _ _) y).trans (prodTile_at C W S R k.val hk 384 (by decide) (by decide) _ _ (off56_eq k 3) b3 h0 y x h1 h2)
  refine put_tile (prodOf C W S R) (512 * k.val) 256 _ (off57_eq k 2) c2 _ _ (fun y x h1 h2 => ?_) (fun x h1 h2 => ?_) x h1 h2
  · exact (congrFun (shapeCast_self _ _) y).trans (prodTile_at C W S R k.val hk 256 (by decide) (by decide) _ _ (off56_eq k 2) b2 h0 y x h1 h2)
  refine put_tile (prodOf C W S R) (512 * k.val) 128 _ (off57_eq k 1) c1 _ _ (fun y x h1 h2 => ?_) (fun x h1 h2 => ?_) x h1 h2
  · exact (congrFun (shapeCast_self _ _) y).trans (prodTile_at C W S R k.val hk 128 (by decide) (by decide) _ _ (off56_eq k 1) b1 h0 y x h1 h2)
  refine put_tile (prodOf C W S R) (512 * k.val) 0 _ (off57_eq k 0) c0 _ _ (fun y x h1 h2 => ?_) (fun x h1 h2 => ?_) x h1 h2
  · exact (congrFun (shapeCast_self _ _) y).trans (prodTile_at C W S R k.val hk 0 (by decide) (by decide) _ _ (off56_eq k 0) b0 h0 y x h1 h2)
  · omega

/-- What a copied block leaves behind: the block of the result and the block of the buffer, both holding `P`. -/
def yDone (c : Dev nD) (P : BufTy.Contents (Elt F) a9.view.ty) (i : Fin 7) : sProp 𝕄 :=
  iprop(((yBlk i).view.loc (c : Thread nD τ) ↦[(yBlk i).view.set]{fullShare} P) ∗ ((yBuf i).view.loc (c : Thread nD τ) ↦[(yBuf i).view.set]{fullShare} P))

theorem yDone_of (c : Dev nD) (P : BufTy.Contents (Elt F) a9.view.ty) (f : BufTy.Contents (Elt F) a3.view.ty) (i : Fin 7) :
    iprop(((yBlk i).view.loc (c : Thread nD τ) ↦[(yBlk i).view.set]{fullShare} (yBlk i).view.write (Elt F) f (ReadAs.same.apply ((yBuf i).view.read (Elt F) P)) Finset.univ) ∗ ((yBuf i).view.loc (c : Thread nD τ) ↦[(yBuf i).view.set]{fullShare} P))
      ⊢ (yDone c P i : sProp 𝕄) := by
  unfold yDone
  exact BIClass.sep_mono (Entails.of_eq (pointsTo_written (c : Thread nD τ) (yBlk i).view fullShare f P _ (fun j => rfl))) (Entails.refl _)

end Cert.KernelIdeal.Hand

end
-- ==== Proof.KI.T4.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Loops
public import proofs.«01_k».proof.Proof.KI.YVals
public import Idealize.ShloMosaic.Lib.Pipeline.FrameSuffixV
public import Idealize.ShloMosaic.Lib.Batch
public import Idealize.ShloMosaic.Lib.Ring
public import Idealize.ShloMosaic.Lib.Tactic

@[expose] public section

set_option maxRecDepth 16384
set_option maxHeartbeats 2000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The proof's resource algebra: the pipeline library's beside the transfers' counters. -/
local notation "𝕄" => MT nD τ sig Unit (Elt F) ℕ (Pipeline.UD sig nD τ) ℕ

abbrev flyA (c : Dev nD) (W : BufTy.Contents (Elt F) a1.view.ty) (i : Fin 7) (s : Fin 5) : sProp 𝕄 :=
  Transfers.Flight countersEmb (c : Thread nD τ) (SemLoc.dma (cellA s).sem) () 151552
      iprop(((slotA s).view.loc (c : Thread nD τ) ↦[(slotA s).view.set]{fullShare} slabOf W i.val) ∗ ((srcA i).view.loc (c : Thread nD τ) ↦[(srcA i).view.set]{fullShare} W))
abbrev flyB (c : Dev nD) (W : BufTy.Contents (Elt F) a1.view.ty) (i : Fin 7) (s : Fin 5) : sProp 𝕄 :=
  Transfers.Flight countersEmb (c : Thread nD τ) (SemLoc.dma (cellB s).sem) () 151552
      iprop(((slotB s).view.loc (c : Thread nD τ) ↦[(slotB s).view.set]{fullShare} slabOf W i.val) ∗ ((srcB i).view.loc (c : Thread nD τ) ↦[(srcB i).view.set]{fullShare} W))

/-- The two halves of slab `i` of the weights, and of a free slot with its two counters. -/
abbrev srcs (c : Dev nD) (W : BufTy.Contents (Elt F) a1.view.ty) (i : Fin 7) : sProp 𝕄 :=
  iprop(((srcA i).view.loc (c : Thread nD τ) ↦[(srcA i).view.set]{fullShare} W) ∗ ((srcB i).view.loc (c : Thread nD τ) ↦[(srcB i).view.set]{fullShare} W))
abbrev freeSlot (c : Dev nD) (s : Fin 5) : sProp 𝕄 :=
  iprop((∃ f, (slotA s).view.loc (c : Thread nD τ) ↦[(slotA s).view.set]{fullShare} f) ∗ (∃ f, (slotB s).view.loc (c : Thread nD τ) ↦[(slotB s).view.set]{fullShare} f)
    ∗ semVal ((c : Thread nD τ), SemLoc.dma (cellA s).sem) 0 ∗ semVal ((c : Thread nD τ), SemLoc.dma (cellB s).sem) 0)

/-- What a trip holds: its two halves in flight, the codes, the scales, its block of the product's buffer and of the result, and the block transfers so far. -/
abbrev T4pre (c : Dev nD) (k : Fin k0_t4_loop.trips) (W : BufTy.Contents (Elt F) a1.view.ty) (C : BufTy.Contents (Elt F) a7.view.ty) (S : BufTy.Contents (Elt F) a10.view.ty) (R : BufTy.Contents (Elt F) a11.view.ty) (P : BufTy.Contents (Elt F) a9.view.ty) (f : BufTy.Contents (Elt F) a9.view.ty) (f3 : BufTy.Contents (Elt F) a3.view.ty) (O : Waits sig Unit) : sProp 𝕄 :=
  iprop(flyA c W (Ring.bk 7 k.val) (Ring.sl 5 k.val) ∗ flyB c W (Ring.bk 7 k.val) (Ring.sl 5 k.val)
    ∗ (a7.view.loc (c : Thread nD τ) ↦[a7.view.set]{fullShare.left} C)
    ∗ (a10.view.loc (c : Thread nD τ) ↦[a10.view.set]{fullShare} S)
    ∗ (a11.view.loc (c : Thread nD τ) ↦[a11.view.set]{fullShare} R)
    ∗ ((yBuf (Ring.bk 7 k.val)).view.loc (c : Thread nD τ) ↦[(yBuf (Ring.bk 7 k.val)).view.set]{fullShare} f)
    ∗ ((yBlk (Ring.bk 7 k.val)).view.loc (c : Thread nD τ) ↦[(yBlk (Ring.bk 7 k.val)).view.set]{fullShare} f3)
    ∗ Transfers.Batch countersEmb (c : Thread nD τ) (SemLoc.dma (SemArray.sem cc0_scratch11)) () 4096 (yDone c P) k.val 0
    ∗ owes (c : Thread nD τ) 0 O)

/-- What every trip leaves: the halves of its slab read, and its block transfer issued. -/
abbrev T4post (c : Dev nD) (k : Fin k0_t4_loop.trips) (W : BufTy.Contents (Elt F) a1.view.ty) (C : BufTy.Contents (Elt F) a7.view.ty) (S : BufTy.Contents (Elt F) a10.view.ty) (R : BufTy.Contents (Elt F) a11.view.ty) (P : BufTy.Contents (Elt F) a9.view.ty) : sProp 𝕄 :=
  iprop(srcs c W (Ring.bk 7 k.val)
    ∗ (a7.view.loc (c : Thread nD τ) ↦[a7.view.set]{fullShare.left} C)
    ∗ (a10.view.loc (c : Thread nD τ) ↦[a10.view.set]{fullShare} S)
    ∗ (a11.view.loc (c : Thread nD τ) ↦[a11.view.set]{fullShare} R)
    ∗ Transfers.Batch countersEmb (c : Thread nD τ) (SemLoc.dma (SemArray.sem cc0_scratch11)) () 4096 (yDone c P) (k.val + 1) 0
    ∗ ∃ O, owes (c : Thread nD τ) 0 O)

/-- A trip that restarts its slot for the slab five further. -/
theorem trip4 (𝒱 : Variants) (c : Dev nD) (bd : Option 𝒱.V) (k : Fin k0_t4_loop.trips) (hk2 : k.val < 2) (W : BufTy.Contents (Elt F) a1.view.ty) (C : BufTy.Contents (Elt F) a7.view.ty) (S : BufTy.Contents (Elt F) a10.view.ty) (R : BufTy.Contents (Elt F) a11.view.ty) (f : BufTy.Contents (Elt F) a9.view.ty) (f3 : BufTy.Contents (Elt F) a3.view.ty) (O : Waits sig Unit) :
    iprop(T4pre (F := F) c k W C S R (prodOf C W S R) f f3 O ∗ srcs c W (Ring.bk 7 (k.val + 5)))
     ⊢ wp frame (wpE (defs₀ (F := F)) 𝒱 (c : Thread nD τ) bd) Set.univ (tb4 (F := F) k ()) (fun _ => iprop(T4post c k W C S R (prodOf C W S R) ∗ (flyA c W (Ring.bk 7 (k.val + 5)) (Ring.sl 5 k.val) ∗ flyB c W (Ring.bk 7 (k.val + 5)) (Ring.sl 5 k.val)))) := by
  have hk : k.val < 7 := t4_lt k
  have hc : k0_cond1 k = 1#1 := (cond1_iff k).mpr hk2
  iintro ⟨⟨HA, HB, HC, HS, HR, HY, HY3, HB3, HO⟩, HA5, HB5⟩
  unfold tb4
  sl_unfold [k0_t4_body]
  sl_exec
  have hk7 : (Ring.bk 7 k.val).val = k.val := Nat.mod_eq_of_lt hk
  have hsum : trip4.sl.r_11 k W C = sumOf C W k.val := by
    refine Eq.trans (b := sumOf C W (Ring.bk 7 k.val).val) ?_ (congrArg _ hk7)
    exact step256 C W _ 9472 _ (off49_eq k) <| step512 C W _ 9472 _ 17 (off48_eq k) <| step512 C W _ 9472 _ 16 (off47_eq k) <|
      step512 C W _ 9472 _ 15 (off46_eq k) <| step512 C W _ 9472 _ 14 (off45_eq k) <| step512 C W _ 9472 _ 13 (off44_eq k) <|
      step512 C W _ 9472 _ 12 (off43_eq k) <| step512 C W _ 9472 _ 11 (off42_eq k) <| step512 C W _ 9472 _ 10 (off41_eq k) <|
      step512 C W _ 9472 _ 9 (off40_eq k) <| step512 C W _ 9472 _ 8 (off39_eq k) <| step512 C W _ 9472 _ 7 (off38_eq k) <|
      step512 C W _ 9472 _ 6 (off37_eq k) <| step512 C W _ 9472 _ 5 (off36_eq k) <| step512 C W _ 9472 _ 4 (off35_eq k) <|
      step512 C W _ 9472 _ 3 (off34_eq k) <| step512 C W _ 9472 _ 2 (off33_eq k) <| step512 C W _ 9472 _ 1 (off32_eq k) <|
      step512 C W _ 9472 _ 0 (off31_eq k) <| step256 C W _ 0 _ (off27_eq k) <| step512 C W _ 0 _ 17 (off26_eq k) <|
      step512 C W _ 0 _ 16 (off25_eq k) <| step512 C W _ 0 _ 15 (off24_eq k) <| step512 C W _ 0 _ 14 (off23_eq k) <|
      step512 C W _ 0 _ 13 (off22_eq k) <| step512 C W _ 0 _ 12 (off21_eq k) <| step512 C W _ 0 _ 11 (off20_eq k) <|
      step512 C W _ 0 _ 10 (off19_eq k) <| step512 C W _ 0 _ 9 (off18_eq k) <| step512 C W _ 0 _ 8 (off17_eq k) <|
      step512 C W _ 0 _ 7 (off16_eq k) <| step512 C W _ 0 _ 6 (off15_eq k) <| step512 C W _ 0 _ 5 (off14_eq k) <|
      step512 C W _ 0 _ 4 (off13_eq k) <| step512 C W _ 0 _ 3 (off12_eq k) <| step512 C W _ 0 _ 2 (off11_eq k) <|
      step512 C W _ 0 _ 1 (off10_eq k) <| step512 C W _ 0 _ 0 (off9_eq k) <| rfl
  have hv : ∀ x ∈ (yBuf (Ring.bk 7 k.val)).view.set, trip4.sl.HY_w4 k W C S R f x = prodOf C W S R x := fun x hx => by
    have h := yBuf_cols (Ring.bk 7 k.val) x hx
    rw [hk7] at h
    exact block_stores C W S R k f _ hsum _ _ _ rfl _ _ _ _ _ _ _ _ rfl x h.1 h.2
  ihave HY := (Entails.of_eq (pointsTo_congr (ℓ := (yBuf (Ring.bk 7 k.val)).view.loc (c : Thread nD τ)) (q := fullShare) hv)) $$ HY
  iapply (Transfers.wp_dmaBatch (via := ReadAs.same) countersEmb 𝒱 (c : Thread nD τ) bd () 4096 (by rfl) (Finset.Subset.refl _) hk (Nat.zero_le _)
    ((yDone_of c (prodOf C W S R) f3 (Ring.bk 7 k.val)).trans (Entails.of_eq (congrArg (yDone c _) (Fin.ext hk7 : Ring.bk 7 k.val = ⟨k.val, hk⟩))))) $$ [HY HY3 HB3]
  · isplitl [HY]; · iexact HY
    isplitl [HY3]; · iexact HY3
    iexact HB3
  iintro HB3
  sl_step
  isplitl [HC HS HR HB3 HA_src HB_src HO]
  · isplitl [HA_src HB_src]
    · isplitl [HA_src]
      · iexact HA_src
      iexact HB_src
    isplitl [HC]; · iexact HC
    isplitl [HS]; · iexact HS
    isplitl [HR]; · iexact HR
    isplitl [HB3]; · iexact HB3
    iexists _; iexact HO
  isplitl [HA]
  · rw [flyA, ← slotA_landed c W (Ring.bk 7 (k.val + 5)) (Ring.sl 5 k.val) (slabOf W (Ring.bk 7 k.val).val)]; iexact HA
  rw [flyB, ← slotB_landed c W (Ring.bk 7 (k.val + 5)) (Ring.sl 5 k.val) (slabOf W (Ring.bk 7 k.val).val)]; iexact HB

/-- A trip that starts nothing: its slot is free afterwards. -/
theorem trip4_last (𝒱 : Variants) (c : Dev nD) (bd : Option 𝒱.V) (k : Fin k0_t4_loop.trips) (hk2 : ¬ k.val < 2) (W : BufTy.Contents (Elt F) a1.view.ty) (C : BufTy.Contents (Elt F) a7.view.ty) (S : BufTy.Contents (Elt F) a10.view.ty) (R : BufTy.Contents (Elt F) a11.view.ty) (f : BufTy.Contents (Elt F) a9.view.ty) (f3 : BufTy.Contents (Elt F) a3.view.ty) (O : Waits sig Unit) :
    T4pre (F := F) c k W C S R (prodOf C W S R) f f3 O
     ⊢ wp frame (wpE (defs₀ (F := F)) 𝒱 (c : Thread nD τ) bd) Set.univ (tb4 (F := F) k ()) (fun _ => iprop(T4post c k W C S R (prodOf C W S R) ∗ freeSlot c (Ring.sl 5 k.val))) := by
  have hk : k.val < 7 := t4_lt k
  have hc : ¬ k0_cond1 k = 1#1 := fun h => hk2 ((cond1_iff k).mp h)
  iintro ⟨HA, HB, HC, HS, HR, HY, HY3, HB3, HO⟩
  unfold tb4
  sl_unfold [k0_t4_body]
  sl_exec
  have hk7 : (Ring.bk 7 k.val).val = k.val := Nat.mod_eq_of_lt hk
  have hsum : trip4_last.sl.r_11 k W C = sumOf C W k.val := by
    refine Eq.trans (b := sumOf C W (Ring.bk 7 k.val).val) ?_ (congrArg _ hk7)
    exact step256 C W _ 9472 _ (off49_eq k) <| step512 C W _ 9472 _ 17 (off48_eq k) <| step512 C W _ 9472 _ 16 (off47_eq k) <|
      step512 C W _ 9472 _ 15 (off46_eq k) <| step512 C W _ 9472 _ 14 (off45_eq k) <| step512 C W _ 9472 _ 13 (off44_eq k) <|
      step512 C W _ 9472 _ 12 (off43_eq k) <| step512 C W _ 9472 _ 11 (off42_eq k) <| step512 C W _ 9472 _ 10 (off41_eq k) <|
      step512 C W _ 9472 _ 9 (off40_eq k) <| step512 C W _ 9472 _ 8 (off39_eq k) <| step512 C W _ 9472 _ 7 (off38_eq k) <|
      step512 C W _ 9472 _ 6 (off37_eq k) <| step512 C W _ 9472 _ 5 (off36_eq k) <| step512 C W _ 9472 _ 4 (off35_eq k) <|
      step512 C W _ 9472 _ 3 (off34_eq k) <| step512 C W _ 9472 _ 2 (off33_eq k) <| step512 C W _ 9472 _ 1 (off32_eq k) <|
      step512 C W _ 9472 _ 0 (off31_eq k) <| step256 C W _ 0 _ (off27_eq k) <| step512 C W _ 0 _ 17 (off26_eq k) <|
      step512 C W _ 0 _ 16 (off25_eq k) <| step512 C W _ 0 _ 15 (off24_eq k) <| step512 C W _ 0 _ 14 (off23_eq k) <|
      step512 C W _ 0 _ 13 (off22_eq k) <| step512 C W _ 0 _ 12 (off21_eq k) <| step512 C W _ 0 _ 11 (off20_eq k) <|
      step512 C W _ 0 _ 10 (off19_eq k) <| step512 C W _ 0 _ 9 (off18_eq k) <| step512 C W _ 0 _ 8 (off17_eq k) <|
      step512 C W _ 0 _ 7 (off16_eq k) <| step512 C W _ 0 _ 6 (off15_eq k) <| step512 C W _ 0 _ 5 (off14_eq k) <|
      step512 C W _ 0 _ 4 (off13_eq k) <| step512 C W _ 0 _ 3 (off12_eq k) <| step512 C W _ 0 _ 2 (off11_eq k) <|
      step512 C W _ 0 _ 1 (off10_eq k) <| step512 C W _ 0 _ 0 (off9_eq k) <| rfl
  have hv : ∀ x ∈ (yBuf (Ring.bk 7 k.val)).view.set, trip4_last.sl.HY_w4 k W C S R f x = prodOf C W S R x := fun x hx => by
    have h := yBuf_cols (Ring.bk 7 k.val) x hx
    rw [hk7] at h
    exact block_stores C W S R k f _ hsum _ _ _ rfl _ _ _ _ _ _ _ _ rfl x h.1 h.2
  ihave HY := (Entails.of_eq (pointsTo_congr (ℓ := (yBuf (Ring.bk 7 k.val)).view.loc (c : Thread nD τ)) (q := fullShare) hv)) $$ HY
  iapply (Transfers.wp_dmaBatch (via := ReadAs.same) countersEmb 𝒱 (c : Thread nD τ) bd () 4096 (by rfl) (Finset.Subset.refl _) hk (Nat.zero_le _)
    ((yDone_of c (prodOf C W S R) f3 (Ring.bk 7 k.val)).trans (Entails.of_eq (congrArg (yDone c _) (Fin.ext hk7 : Ring.bk 7 k.val = ⟨k.val, hk⟩))))) $$ [HY HY3 HB3]
  · isplitl [HY]; · iexact HY
    isplitl [HY3]; · iexact HY3
    iexact HB3
  iintro HB3
  sl_step
  isplitl [HC HS HR HB3 HA_src HB_src HO]
  · isplitl [HA_src HB_src]
    · isplitl [HA_src]
      · iexact HA_src
      iexact HB_src
    isplitl [HC]; · iexact HC
    isplitl [HS]; · iexact HS
    isplitl [HR]; · iexact HR
    isplitl [HB3]; · iexact HB3
    iexists _; iexact HO
  isplitl [HA_dst]; · iexists _; iexact HA_dst
  isplitl [HB_dst]; · iexists _; iexact HB_dst
  isplitl [HA]; · iexact HA
  iexact HB

end Cert.KernelIdeal.Hand

end
-- ==== Proof.KI.T1.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Loops
public import proofs.«01_k».proof.Proof.KI.Vals
public import Idealize.ShloMosaic.Lib.Pipeline.FrameSuffixV
public import Idealize.ShloMosaic.Lib.Batch
public import Idealize.ShloMosaic.Lib.Ring
public import Idealize.ShloMosaic.Lib.Tactic

@[expose] public section

set_option maxRecDepth 16384
set_option maxHeartbeats 2000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The proof's resource algebra: the pipeline library's beside the transfers' counters. -/
local notation "𝕄" => MT nD τ sig Unit (Elt F) ℕ (Pipeline.UD sig nD τ) ℕ

/-- The rows of chunk `r` of the input and of the codes' result. -/
abbrev aRows (r : Fin k0_t1_loop.trips) : Memref sig .tc .hbm S32x18944 .bf16 := a0.slice (rowsR r) (fun _ => rfl)
abbrev oRows (r : Fin k0_t1_loop.trips) : Memref sig .tc .hbm S32x18944 .fp8e4m3 := a4.slice (rowsR r) (fun _ => rfl)
/-- The semaphores of the chunk's two copies. -/
abbrev uCell (r : Fin k0_t1_loop.trips) : DmaSems sig S_ := (cc0_scratch7.slice (Rect.unit (s := S4) (k0_off1 r) S1.size (k0_off1_inb r))).squeeze S_ squeezes_S1_S_
abbrev oCell (r : Fin k0_t1_loop.trips) : DmaSems sig S_ := (cc0_scratch10.slice (Rect.unit (s := S4) (k0_off1 r) S1.size (k0_off1_inb r))).squeeze S_ squeezes_S1_S_

abbrev T1pre (c : Dev nD) (r : Fin k0_t1_loop.trips) (U : BufTy.Contents (Elt F) a0.view.ty) (f : BufTy.Contents (Elt F) a7.view.ty) (V4 : BufTy.Contents (Elt F) a4.view.ty) (g : BufTy.Contents (Elt F) a11.view.ty) (W : Waits sig Unit) : sProp 𝕄 :=
  iprop(Transfers.Flight countersEmb (c : Thread nD τ) (SemLoc.dma (uCell r).sem) () 37888
      iprop(((uRows r).view.loc (c : Thread nD τ) ↦[(uRows r).view.set]{fullShare} U) ∗ ((aRows r).view.loc (c : Thread nD τ) ↦[(aRows r).view.set]{fullShare} U))
    ∗ ((cRows r).view.loc (c : Thread nD τ) ↦[(cRows r).view.set]{fullShare} f)
    ∗ ((oRows r).view.loc (c : Thread nD τ) ↦[(oRows r).view.set]{fullShare} V4)
    ∗ semVal ((c : Thread nD τ), SemLoc.dma (oCell r).sem) 0
    ∗ (a11.view.loc (c : Thread nD τ) ↦[a11.view.set]{fullShare} g)
    ∗ owes (c : Thread nD τ) 0 W)

/-- What the trip leaves: the chunk's codes, half of them lent to the copy out, and its rows of scales. -/
abbrev T1post (c : Dev nD) (r : Fin k0_t1_loop.trips) (U : BufTy.Contents (Elt F) a0.view.ty) : sProp 𝕄 :=
  iprop(((uRows r).view.loc (c : Thread nD τ) ↦[(uRows r).view.set]{fullShare} U)
    ∗ ((aRows r).view.loc (c : Thread nD τ) ↦[(aRows r).view.set]{fullShare} U)
    ∗ semVal ((c : Thread nD τ), SemLoc.dma (uCell r).sem) 0
    ∗ ((cRows r).view.loc (c : Thread nD τ) ↦[(cRows r).view.set]{fullShare.left} codesOf U)
    ∗ Transfers.Flight countersEmb (c : Thread nD τ) (SemLoc.dma (oCell r).sem) () 18944
      iprop(((oRows r).view.loc (c : Thread nD τ) ↦[(oRows r).view.set]{fullShare} codesOf U) ∗ ((cRows r).view.loc (c : Thread nD τ) ↦[(cRows r).view.set]{fullShare.right} codesOf U))
    ∗ (∃ g', (a11.view.loc (c : Thread nD τ) ↦[a11.view.set]{fullShare} g') ∗ ⌜∀ i : S128x128.Idx, (i 0).val < 32 * (r.val + 1) → g' i = scalesOf (F := F) U i⌝)
    ∗ ∃ W, owes (c : Thread nD τ) 0 W)

/-- The contents half lent are the codes. -/
theorem cRows_codes (c : Dev nD) (r : Fin k0_t1_loop.trips) (q : PosShare TreeShare) (U : BufTy.Contents (Elt F) a6.view.ty) (f : BufTy.Contents (Elt F) a7.view.ty) :
    ((cRows r).view.loc (c : Thread nD τ) ↦[(cRows r).view.set]{q} codeSt k0_pay212 k0_pay213 k0_pay214 k0_pay215 k0_pay216 (invOf U r) U r f 4 : sProp 𝕄)
      = ((cRows r).view.loc (c : Thread nD τ) ↦[(cRows r).view.set]{q} codesOf U) :=
  pointsTo_congr fun i hi => codeSt_codesOf U r f i hi

theorem oRows_codes (c : Dev nD) (r : Fin k0_t1_loop.trips) (U : BufTy.Contents (Elt F) a6.view.ty) (f : BufTy.Contents (Elt F) a7.view.ty) (V4 : BufTy.Contents (Elt F) a4.view.ty) :
    ((oRows r).view.loc (c : Thread nD τ) ↦[(oRows r).view.set]{fullShare} (oRows r).view.writes (Elt F) V4 [⟨Rect.whole S32x18944, ReadAs.same.apply ((cRows r).view.read (Elt F) (codeSt k0_pay212 k0_pay213 k0_pay214 k0_pay215 k0_pay216 (invOf U r) U r f 4))⟩] : sProp 𝕄)
      = ((oRows r).view.loc (c : Thread nD τ) ↦[(oRows r).view.set]{fullShare} codesOf U) :=
  pointsTo_landed (c : Thread nD τ) (oRows r).view fullShare V4 (codesOf U) _ fun j => by
    rw [Rect.emb_whole_apply]
    exact codeSt_codesOf U r f _ (Finset.mem_map_of_mem _ (Finset.mem_univ j))

set_option sl_exec.lendShare "HC" in
/-- One chunk of 32 rows: its bound, scale and codes. -/
theorem trip1 (𝒱 : Variants) (c : Dev nD) (bd : Option 𝒱.V) (r : Fin k0_t1_loop.trips) (U : BufTy.Contents (Elt F) a0.view.ty) (f : BufTy.Contents (Elt F) a7.view.ty) (V4 : BufTy.Contents (Elt F) a4.view.ty) (g : BufTy.Contents (Elt F) a11.view.ty) (W : Waits sig Unit)
    (hg : ∀ i : S128x128.Idx, (i 0).val < 32 * r.val → g i = scalesOf (F := F) U i) :
    T1pre (F := F) c r U f V4 g W ⊢ wp frame (wpE (defs₀ (F := F)) 𝒱 (c : Thread nD τ) bd) Set.univ (tb1 (F := F) r ()) (fun _ => T1post c r U) := by
  have hr : r.val < 4 := Nat.lt_of_lt_of_le r.isLt k0_t1_abs.2.1
  iintro ⟨HF, HC, HO, Hv, HS, HW⟩
  unfold tb1
  sl_unfold [k0_t1_body]
  sl_exec
  sl_step
  isplitl [HF_dst]; · iexact HF_dst
  isplitl [HF_src]; · iexact HF_src
  isplitl [HF]; · iexact HF
  isplitl [HC]
  · rw [← cRows_codes c r fullShare.left U f]; iexact HC
  isplitl [Hv]
  · rw [← cRows_codes c r fullShare.right U f, ← oRows_codes c r U f V4]; iexact Hv
  isplitl [HS]
  · iexists _; isplitl [HS]; · iexact HS
    ipureintro; exact scales_step U r g hg
  iexists _; iexact HW

end Cert.KernelIdeal.Hand

end
-- ==== Proof.KI.L1.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Loops
public import proofs.«01_k».proof.Proof.KI.T1
public import Idealize.ShloMosaic.Lib.Pipeline.FrameSuffixV
public import Idealize.ShloMosaic.Lib.Batch
public import Idealize.ShloMosaic.Lib.Ring
public import Idealize.ShloMosaic.Lib.Tactic

@[expose] public section

set_option maxRecDepth 16384
set_option maxHeartbeats 2000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The proof's resource algebra: the pipeline library's beside the transfers' counters. -/
local notation "𝕄" => MT nD τ sig Unit (Elt F) ℕ (Pipeline.UD sig nD τ) ℕ

/-! The chunks' loop: what it holds before each trip. -/

/-- A family that changes at `r` alone, taken apart at `r`. -/
theorem bigSep_at {n : ℕ} (Φ Ψ : Fin n → sProp 𝕄) (r : Fin n) (h : ∀ i, i ≠ r → Φ i = Ψ i) :
    BI.bigSep Finset.univ Φ = iprop(Φ r ∗ BI.bigSep (Finset.univ.erase r) Ψ) := by
  rw [BI.bigSep_univ_split r]
  congr 1
  exact BI.bigSep_congr fun i hi => h i (Finset.ne_of_mem_erase hi)

/-- Chunk `r` before its trip and after it. -/
abbrev todo1 (c : Dev nD) (U : BufTy.Contents (Elt F) a0.view.ty) (r : Fin k0_t1_loop.trips) : sProp 𝕄 :=
  iprop(Transfers.Flight countersEmb (c : Thread nD τ) (SemLoc.dma (uCell r).sem) () 37888
      iprop(((uRows r).view.loc (c : Thread nD τ) ↦[(uRows r).view.set]{fullShare} U) ∗ ((aRows r).view.loc (c : Thread nD τ) ↦[(aRows r).view.set]{fullShare} U))
    ∗ (∃ f, (cRows r).view.loc (c : Thread nD τ) ↦[(cRows r).view.set]{fullShare} f)
    ∗ (∃ V4, (oRows r).view.loc (c : Thread nD τ) ↦[(oRows r).view.set]{fullShare} V4)
    ∗ semVal ((c : Thread nD τ), SemLoc.dma (oCell r).sem) 0)
abbrev done1 (c : Dev nD) (U : BufTy.Contents (Elt F) a0.view.ty) (r : Fin k0_t1_loop.trips) : sProp 𝕄 :=
  iprop(((uRows r).view.loc (c : Thread nD τ) ↦[(uRows r).view.set]{fullShare} U)
    ∗ ((aRows r).view.loc (c : Thread nD τ) ↦[(aRows r).view.set]{fullShare} U)
    ∗ semVal ((c : Thread nD τ), SemLoc.dma (uCell r).sem) 0
    ∗ ((cRows r).view.loc (c : Thread nD τ) ↦[(cRows r).view.set]{fullShare.left} codesOf U)
    ∗ Transfers.Flight countersEmb (c : Thread nD τ) (SemLoc.dma (oCell r).sem) () 18944
      iprop(((oRows r).view.loc (c : Thread nD τ) ↦[(oRows r).view.set]{fullShare} codesOf U) ∗ ((cRows r).view.loc (c : Thread nD τ) ↦[(cRows r).view.set]{fullShare.right} codesOf U)))

/-- Before trip `k`: the chunks below `k` done, and their rows of the scales. -/
def inv1 (c : Dev nD) (U : BufTy.Contents (Elt F) a0.view.ty) (k : ℕ) (_ : Unit) : sProp 𝕄 :=
  iprop(BI.bigSep Finset.univ (fun r : Fin k0_t1_loop.trips => if r.val < k then done1 c U r else todo1 c U r)
    ∗ (∃ g, (a11.view.loc (c : Thread nD τ) ↦[a11.view.set]{fullShare} g) ∗ ⌜∀ i : S128x128.Idx, (i 0).val < 32 * k → g i = scalesOf (F := F) U i⌝)
    ∗ ∃ W, owes (c : Thread nD τ) 0 W)

theorem step1 (𝒱 : Variants) (c : Dev nD) (bd : Option 𝒱.V) (U : BufTy.Contents (Elt F) a0.view.ty) (r : Fin k0_t1_loop.trips) (acc : Unit) :
    inv1 (F := F) c U r.val acc ⊢ wp frame (wpE (defs₀ (F := F)) 𝒱 (c : Thread nD τ) bd) Set.univ (tb1 (F := F) r acc) (inv1 c U (r.val + 1)) := by
  unfold inv1
  rw [bigSep_at _ (fun i : Fin k0_t1_loop.trips => if i.val < r.val + 1 then done1 c U i else todo1 c U i) r (fun i hi => by
    have : i.val ≠ r.val := fun h => hi (Fin.ext h)
    by_cases h : i.val < r.val
    · rw [if_pos h, if_pos (by omega)]
    · rw [if_neg h, if_neg (by omega)]), if_neg (Nat.lt_irrefl _),
    bigSep_at (fun i : Fin k0_t1_loop.trips => if i.val < r.val + 1 then done1 c U i else todo1 c U i) _ r (fun i _ => rfl), if_pos (Nat.lt_succ_self _)]
  iintro ⟨⟨⟨HF, ⟨%f, HC⟩, ⟨%V4, HV⟩, Hc⟩, Hrest⟩, ⟨%g, Hg, %hg⟩, ⟨%W, HO⟩⟩
  ihave HT := (trip1 𝒱 c bd r U f V4 g W hg) $$ [HF HC HV Hc Hg HO]
  · isplitl [HF]; · iexact HF
    isplitl [HC]; · iexact HC
    isplitl [HV]; · iexact HV
    isplitl [Hc]; · iexact Hc
    isplitl [Hg]; · iexact Hg
    iexact HO
  iapply (wp_wand frame (wpE (defs₀ (F := F)) 𝒱 (c : Thread nD τ) bd) Set.univ) $$ HT
  iintro %a ⟨H1, H2, H3, H4, H5, H6, H7⟩
  isplitl [H1 H2 H3 H4 H5 Hrest]
  · isplitl [H1 H2 H3 H4 H5]
    · isplitl [H1]; · iexact H1
      isplitl [H2]; · iexact H2
      isplitl [H3]; · iexact H3
      isplitl [H4]; · iexact H4
      iexact H5
    iexact Hrest
  isplitl [H6]; · iexact H6
  iexact H7

end Cert.KernelIdeal.Hand

end
-- ==== Proof.KI.L4.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Loops
public import proofs.«01_k».proof.Proof.KI.T4
public import proofs.«01_k».proof.Proof.KI.L1
public import Idealize.ShloMosaic.Lib.Pipeline.FrameSuffixV
public import Idealize.ShloMosaic.Lib.Batch
public import Idealize.ShloMosaic.Lib.Ring
public import Idealize.ShloMosaic.Lib.Tactic

@[expose] public section

set_option maxRecDepth 16384
set_option maxHeartbeats 2000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The proof's resource algebra: the pipeline library's beside the transfers' counters. -/
local notation "𝕄" => MT nD τ sig Unit (Elt F) ℕ (Pipeline.UD sig nD τ) ℕ

/-! The slabs' loop: what it holds before each trip, and the wait loop that ends the kernel. -/

/-- A family that changes at `a` and `b` alone, taken apart there. -/
theorem bigSep_at2 {n : ℕ} (Φ Ψ : Fin n → sProp 𝕄) (a b : Fin n) (hab : b ≠ a) (h : ∀ i, i ≠ a → i ≠ b → Φ i = Ψ i) :
    BI.bigSep Finset.univ Φ = iprop(Φ a ∗ Φ b ∗ BI.bigSep ((Finset.univ.erase a).erase b) Ψ) := by
  rw [BI.bigSep_univ_split a, BI.bigSep_erase (Finset.mem_erase.mpr ⟨hab, Finset.mem_univ b⟩)]
  congr 2
  exact BI.bigSep_congr fun i hi => h i (Finset.ne_of_mem_erase (Finset.mem_of_mem_erase hi)) (Finset.ne_of_mem_erase hi)

/-- Slab `i` before trip `k`: read already (from trip 2 on its slot stays free), in flight, or not started. -/
def slab4 (c : Dev nD) (W : BufTy.Contents (Elt F) a1.view.ty) (k : ℕ) (i : Fin 7) : sProp 𝕄 :=
  if i.val < k then iprop(srcs c W i ∗ if 2 ≤ i.val then freeSlot c (Ring.sl 5 i.val) else iprop(emp))
  else if i.val < k + 5 then iprop(flyA c W i (Ring.sl 5 i.val) ∗ flyB c W i (Ring.sl 5 i.val))
  else srcs c W i

/-- Column block `i` of the product: handed to its copy, or still owned. -/
def blk4 (c : Dev nD) (k : ℕ) (i : Fin 7) : sProp 𝕄 :=
  if i.val < k then iprop(emp)
  else iprop((∃ f, (yBuf i).view.loc (c : Thread nD τ) ↦[(yBuf i).view.set]{fullShare} f) ∗ ∃ f, (yBlk i).view.loc (c : Thread nD τ) ↦[(yBlk i).view.set]{fullShare} f)

theorem slab4_next (c : Dev nD) (W : BufTy.Contents (Elt F) a1.view.ty) (k : ℕ) (i : Fin 7) (h : i.val ≠ k) (h' : i.val ≠ k + 5) :
    slab4 c W k i = (slab4 c W (k + 1) i : sProp 𝕄) := by
  unfold slab4
  by_cases h1 : i.val < k
  · rw [if_pos h1, if_pos (show i.val < k + 1 by omega)]
  · rw [if_neg h1, if_neg (show ¬ i.val < k + 1 by omega)]
    by_cases h2 : i.val < k + 5
    · rw [if_pos h2, if_pos (show i.val < k + 1 + 5 by omega)]
    · rw [if_neg h2, if_neg (show ¬ i.val < k + 1 + 5 by omega)]

theorem blk4_next (c : Dev nD) (k : ℕ) (i : Fin 7) (h : i.val ≠ k) : blk4 c k i = (blk4 c (k + 1) i : sProp 𝕄) := by
  unfold blk4
  by_cases h1 : i.val < k
  · rw [if_pos h1, if_pos (by omega)]
  · rw [if_neg h1, if_neg (by omega)]

/-- Before trip `k`. -/
def inv4 (c : Dev nD) (W : BufTy.Contents (Elt F) a1.view.ty) (C : BufTy.Contents (Elt F) a7.view.ty) (S : BufTy.Contents (Elt F) a10.view.ty) (R : BufTy.Contents (Elt F) a11.view.ty) (k : ℕ) (_ : Unit) : sProp 𝕄 :=
  iprop(BI.bigSep Finset.univ (slab4 c W k) ∗ BI.bigSep Finset.univ (blk4 (F := F) c k)
    ∗ (a7.view.loc (c : Thread nD τ) ↦[a7.view.set]{fullShare.left} C)
    ∗ (a10.view.loc (c : Thread nD τ) ↦[a10.view.set]{fullShare} S)
    ∗ (a11.view.loc (c : Thread nD τ) ↦[a11.view.set]{fullShare} R)
    ∗ Transfers.Batch countersEmb (c : Thread nD τ) (SemLoc.dma (SemArray.sem cc0_scratch11)) () 4096 (yDone c (prodOf C W S R)) k 0
    ∗ ∃ O, owes (c : Thread nD τ) 0 O)

theorem step4 (𝒱 : Variants) (c : Dev nD) (bd : Option 𝒱.V) (W : BufTy.Contents (Elt F) a1.view.ty) (C : BufTy.Contents (Elt F) a7.view.ty) (S : BufTy.Contents (Elt F) a10.view.ty) (R : BufTy.Contents (Elt F) a11.view.ty) (k : Fin k0_t4_loop.trips) (acc : Unit) :
    inv4 (F := F) c W C S R k.val acc ⊢ wp frame (wpE (defs₀ (F := F)) 𝒱 (c : Thread nD τ) bd) Set.univ (tb4 (F := F) k acc) (inv4 c W C S R (k.val + 1)) := by
  have hk : k.val < 7 := t4_lt k
  have hk7 : (Ring.bk 7 k.val).val = k.val := bk7_val hk
  have hne : ∀ i : Fin 7, i ≠ Ring.bk 7 k.val → i.val ≠ k.val := fun i hi h => hi (Fin.ext (h.trans hk7.symm))
  have hb0 : blk4 c k.val (Ring.bk 7 k.val) = (iprop((∃ f, (yBuf (Ring.bk 7 k.val)).view.loc (c : Thread nD τ) ↦[(yBuf (Ring.bk 7 k.val)).view.set]{fullShare} f) ∗ ∃ f, (yBlk (Ring.bk 7 k.val)).view.loc (c : Thread nD τ) ↦[(yBlk (Ring.bk 7 k.val)).view.set]{fullShare} f) : sProp 𝕄) :=
    if_neg (by omega)
  have hb1 : blk4 c (k.val + 1) (Ring.bk 7 k.val) = (iprop(emp) : sProp 𝕄) := if_pos (by omega)
  have hs0 : slab4 c W k.val (Ring.bk 7 k.val) = (iprop(flyA c W (Ring.bk 7 k.val) (Ring.sl 5 k.val) ∗ flyB c W (Ring.bk 7 k.val) (Ring.sl 5 k.val)) : sProp 𝕄) := by
    unfold slab4; rw [if_neg (by omega), if_pos (by omega), hk7]
  unfold inv4
  rw [bigSep_at (blk4 c k.val) (blk4 c (k.val + 1)) (Ring.bk 7 k.val) (fun i hi => blk4_next c k.val i (hne i hi)),
    bigSep_at (blk4 c (k.val + 1)) (blk4 c (k.val + 1)) (Ring.bk 7 k.val) (fun _ _ => rfl), hb0, hb1]
  by_cases hk2 : k.val < 2
  · have hk5 : (Ring.bk 7 (k.val + 5)).val = k.val + 5 := bk7_val (by omega)
    have hab : Ring.bk 7 (k.val + 5) ≠ Ring.bk 7 k.val := fun h => by have := congrArg Fin.val h; omega
    have hs5 : slab4 c W k.val (Ring.bk 7 (k.val + 5)) = (srcs c W (Ring.bk 7 (k.val + 5)) : sProp 𝕄) := by
      unfold slab4; rw [if_neg (by omega), if_neg (by omega)]
    have ht0 : slab4 c W (k.val + 1) (Ring.bk 7 k.val) = (iprop(srcs c W (Ring.bk 7 k.val) ∗ emp) : sProp 𝕄) := by
      unfold slab4; rw [if_pos (by omega), if_neg (by omega)]
    have ht5 : slab4 c W (k.val + 1) (Ring.bk 7 (k.val + 5)) = (iprop(flyA c W (Ring.bk 7 (k.val + 5)) (Ring.sl 5 k.val) ∗ flyB c W (Ring.bk 7 (k.val + 5)) (Ring.sl 5 k.val)) : sProp 𝕄) := by
      unfold slab4
      rw [if_neg (by omega), if_pos (by omega), show Ring.sl 5 (Ring.bk 7 (k.val + 5)).val = Ring.sl 5 k.val from Fin.ext (by rw [sl5_val, sl5_val, hk5]; omega)]
    rw [bigSep_at2 (slab4 c W k.val) (slab4 c W (k.val + 1)) (Ring.bk 7 k.val) (Ring.bk 7 (k.val + 5)) hab
        (fun i hi hi' => slab4_next c W k.val i (hne i hi) (fun h => hi' (Fin.ext (h.trans hk5.symm)))),
      bigSep_at2 (slab4 c W (k.val + 1)) (slab4 c W (k.val + 1)) (Ring.bk 7 k.val) (Ring.bk 7 (k.val + 5)) hab (fun _ _ _ => rfl), hs0, hs5, ht0, ht5]
    iintro ⟨⟨⟨HA, HB⟩, Hsrc, Hrest⟩, ⟨⟨⟨%f, HY⟩, ⟨%f3, HY3⟩⟩, HYr⟩, HC, HS, HR, HB3, ⟨%O, HO⟩⟩
    ihave HT := (trip4 𝒱 c bd k hk2 W C S R f f3 O) $$ [HA HB HC HS HR HY HY3 HB3 HO Hsrc]
    · isplitl [HA HB HC HS HR HY HY3 HB3 HO]
      · isplitl [HA]; · iexact HA
        isplitl [HB]; · iexact HB
        isplitl [HC]; · iexact HC
        isplitl [HS]; · iexact HS
        isplitl [HR]; · iexact HR
        isplitl [HY]; · iexact HY
        isplitl [HY3]; · iexact HY3
        isplitl [HB3]; · iexact HB3
        iexact HO
      iexact Hsrc
    iapply (wp_wand frame (wpE (defs₀ (F := F)) 𝒱 (c : Thread nD τ) bd) Set.univ) $$ HT
    iintro %a ⟨⟨H1, H2, H3, H4, H5, H6⟩, H7⟩
    isplitl [H1 H7 Hrest]
    · isplitl [H1]
      · isplitl [H1]; · iexact H1
        iempintro
      isplitl [H7]; · iexact H7
      iexact Hrest
    isplitl [HYr]
    · isplitr; · iempintro
      iexact HYr
    isplitl [H2]; · iexact H2
    isplitl [H3]; · iexact H3
    isplitl [H4]; · iexact H4
    isplitl [H5]; · iexact H5
    iexact H6
  · have ht0 : slab4 c W (k.val + 1) (Ring.bk 7 k.val) = (iprop(srcs c W (Ring.bk 7 k.val) ∗ freeSlot c (Ring.sl 5 k.val)) : sProp 𝕄) := by
      unfold slab4; rw [if_pos (by omega), if_pos (by omega), hk7]
    rw [bigSep_at (slab4 c W k.val) (slab4 c W (k.val + 1)) (Ring.bk 7 k.val)
        (fun i hi => slab4_next c W k.val i (hne i hi) (fun h => by have := i.isLt; omega)),
      bigSep_at (slab4 c W (k.val + 1)) (slab4 c W (k.val + 1)) (Ring.bk 7 k.val) (fun _ _ => rfl), hs0, ht0]
    iintro ⟨⟨⟨HA, HB⟩, Hrest⟩, ⟨⟨⟨%f, HY⟩, ⟨%f3, HY3⟩⟩, HYr⟩, HC, HS, HR, HB3, ⟨%O, HO⟩⟩
    ihave HT := (trip4_last 𝒱 c bd k hk2 W C S R f f3 O) $$ [HA HB HC HS HR HY HY3 HB3 HO]
    · isplitl [HA]; · iexact HA
      isplitl [HB]; · iexact HB
      isplitl [HC]; · iexact HC
      isplitl [HS]; · iexact HS
      isplitl [HR]; · iexact HR
      isplitl [HY]; · iexact HY
      isplitl [HY3]; · iexact HY3
      isplitl [HB3]; · iexact HB3
      iexact HO
    iapply (wp_wand frame (wpE (defs₀ (F := F)) 𝒱 (c : Thread nD τ) bd) Set.univ) $$ HT
    iintro %a ⟨⟨H1, H2, H3, H4, H5, H6⟩, H7⟩
    isplitl [H1 H7 Hrest]
    · isplitl [H1 H7]
      · isplitl [H1]; · iexact H1
        iexact H7
      iexact Hrest
    isplitl [HYr]
    · isplitr; · iempintro
      iexact HYr
    isplitl [H2]; · iexact H2
    isplitl [H3]; · iexact H3
    isplitl [H4]; · iexact H4
    isplitl [H5]; · iexact H5
    iexact H6

/-! The waits for the product's blocks. -/

/-- Before wait `k`: `k` blocks' units taken, and after the last one every block. -/
def inv5 (c : Dev nD) (P : BufTy.Contents (Elt F) a9.view.ty) (k : ℕ) (_ : Unit) : sProp 𝕄 :=
  iprop(⌜k ≤ 7⌝ ∗ (∃ O, owes (c : Thread nD τ) 0 O)
    ∗ (if k < 7 then Transfers.Batch countersEmb (c : Thread nD τ) (SemLoc.dma (SemArray.sem cc0_scratch11)) () 4096 (yDone c P) 7 (k * 4096)
       else iprop(semVal ((c : Thread nD τ), SemLoc.dma (SemArray.sem cc0_scratch11)) 0 ∗ BI.bigSep Finset.univ (yDone c P))))

theorem step5 (𝒱 : Variants) (c : Dev nD) (bd : Option 𝒱.V) (P : BufTy.Contents (Elt F) a9.view.ty) (k : Fin k0_t5_loop.trips) (acc : Unit) :
    inv5 (F := F) c P k.val acc ⊢ wp frame (wpE (defs₀ (F := F)) 𝒱 (c : Thread nD τ) bd) Set.univ (tb5 (F := F) k acc) (inv5 c P (k.val + 1)) := by
  have hk : k.val < 7 := t5_lt k
  unfold inv5
  rw [if_pos hk]
  rcases Nat.lt_or_ge (k.val + 1) 7 with h1 | h1
  · simp only [if_pos h1]
    iintro ⟨-, ⟨%O, HO⟩, HB⟩
    unfold tb5
    sl_unfold [k0_t5_body]
    sl_exec
    sl_step
    isplitr; · ipureintro; omega
    isplitl [HO]; · iexists _; iexact HO
    rw [show (k.val + 1) * 4096 = k.val * 4096 + 4096 by omega]
    iexact HB
  · simp only [if_neg (Nat.not_lt.mpr h1)]
    iintro ⟨-, ⟨%O, HO⟩, HB⟩
    unfold tb5
    sl_unfold [k0_t5_body]
    sl_exec
    sl_step
    isplitr; · ipureintro; omega
    isplitl [HO]; · iexists _; iexact HO
    isplitl [HB]; · iexact HB
    iexact HB_all

end Cert.KernelIdeal.Hand

end
-- ==== Proof.KI.Rows.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Loops
public import proofs.«01_k».proof.Proof.KI.L4
public import Idealize.ShloMosaic.Lib.Pipeline.FrameSuffixV
public import Idealize.ShloMosaic.Lib.Batch
public import Idealize.ShloMosaic.Lib.Ring
public import Idealize.ShloMosaic.Lib.Tactic

@[expose] public section

set_option maxRecDepth 16384
set_option maxHeartbeats 2000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The proof's resource algebra: the pipeline library's beside the transfers' counters. -/
local notation "𝕄" => MT nD τ sig Unit (Elt F) ℕ (Pipeline.UD sig nD τ) ℕ

/-! The chunks' names at the literal rows at which the kernel starts and awaits their copies. -/

theorem t1_trips : k0_t1_loop.trips = 4 := by decide +kernel
theorem t4_trips : k0_t4_loop.trips = 7 := by decide +kernel
theorem t5_trips : k0_t5_loop.trips = 7 := by decide +kernel

/-- Chunk `i` as a trip of the chunks' loop. -/
def ch (i : Fin 4) : Fin k0_t1_loop.trips := ⟨i.val, by rw [t1_trips]; exact i.isLt⟩

theorem ch_univ : (Finset.univ : Finset (Fin k0_t1_loop.trips)) = [ch 0, ch 1, ch 2, ch 3].toFinset := by decide +kernel
theorem ch_nodup : [ch 0, ch 1, ch 2, ch 3].Nodup := by decide +kernel

theorem rowsOff (i : Fin 4) : k0_off2 (ch i) = ![32 * i.val, 0] := off2_eq (ch i)
theorem cellOff (i : Fin 4) : k0_off1 (ch i) = ![i.val] := off1_eq (ch i)

private theorem aRows_congr {off : Fin 2 → ℕ} {i : Fin 4} (e : off = ![32 * i.val, 0]) (hh hs) :
    a0.slice (Rect.unit (s := S128x18944) off S32x18944.size hh) hs = aRows (ch i) := Memref.slice_unit_congr _ (e.trans (rowsOff i).symm) _ _ _ (fun _ => rfl)
private theorem oRows_congr {off : Fin 2 → ℕ} {i : Fin 4} (e : off = ![32 * i.val, 0]) (hh hs) :
    a4.slice (Rect.unit (s := S128x18944) off S32x18944.size hh) hs = oRows (ch i) := Memref.slice_unit_congr _ (e.trans (rowsOff i).symm) _ _ _ (fun _ => rfl)
private theorem uRows_congr {off : Fin 2 → ℕ} {i : Fin 4} (e : off = ![32 * i.val, 0]) (hh hs) :
    a6.slice (Rect.unit (s := S128x18944) off S32x18944.size hh) hs = uRows (ch i) := Memref.slice_unit_congr _ (e.trans (rowsOff i).symm) _ _ _ (fun _ => rfl)
private theorem cRows_congr {off : Fin 2 → ℕ} {i : Fin 4} (e : off = ![32 * i.val, 0]) (hh hs) :
    a7.slice (Rect.unit (s := S128x18944) off S32x18944.size hh) hs = cRows (ch i) := Memref.slice_unit_congr _ (e.trans (rowsOff i).symm) _ _ _ (fun _ => rfl)
private theorem uCell_congr {off : Fin 1 → ℕ} {i : Fin 4} (e : off = ![i.val]) (hh) :
    (cc0_scratch7.slice (Rect.unit (s := S4) off S1.size hh)).squeeze S_ squeezes_S1_S_ = uCell (ch i) :=
  congrArg (fun A : DmaSems sig S1 => A.squeeze S_ squeezes_S1_S_) (SemArray.slice_unit_congr _ (e.trans (cellOff i).symm) _ _)
private theorem oCell_congr {off : Fin 1 → ℕ} {i : Fin 4} (e : off = ![i.val]) (hh) :
    (cc0_scratch10.slice (Rect.unit (s := S4) off S1.size hh)).squeeze S_ squeezes_S1_S_ = oCell (ch i) :=
  congrArg (fun A : DmaSems sig S1 => A.squeeze S_ squeezes_S1_S_) (SemArray.slice_unit_congr _ (e.trans (cellOff i).symm) _ _)

@[sl_canon] theorem aRows_0 (hh hs) : a0.slice (Rect.unit (s := S128x18944) ![0, 0] S32x18944.size hh) hs = aRows (ch 0) := aRows_congr (i := 0) rfl _ _
@[sl_canon] theorem oRows_0 (hh hs) : a4.slice (Rect.unit (s := S128x18944) ![0, 0] S32x18944.size hh) hs = oRows (ch 0) := oRows_congr (i := 0) rfl _ _
@[sl_canon] theorem uRows_0 (hh hs) : a6.slice (Rect.unit (s := S128x18944) ![0, 0] S32x18944.size hh) hs = uRows (ch 0) := uRows_congr (i := 0) rfl _ _
@[sl_canon] theorem cRows_0 (hh hs) : a7.slice (Rect.unit (s := S128x18944) ![0, 0] S32x18944.size hh) hs = cRows (ch 0) := cRows_congr (i := 0) rfl _ _
@[sl_canon] theorem uCell_0 (hh) : (cc0_scratch7.slice (Rect.unit (s := S4) ![0] S1.size hh)).squeeze S_ squeezes_S1_S_ = uCell (ch 0) := uCell_congr (i := 0) rfl _
@[sl_canon] theorem oCell_0 (hh) : (cc0_scratch10.slice (Rect.unit (s := S4) ![0] S1.size hh)).squeeze S_ squeezes_S1_S_ = oCell (ch 0) := oCell_congr (i := 0) rfl _
@[sl_canon] theorem aRows_1 (hh hs) : a0.slice (Rect.unit (s := S128x18944) ![32, 0] S32x18944.size hh) hs = aRows (ch 1) := aRows_congr (i := 1) rfl _ _
@[sl_canon] theorem oRows_1 (hh hs) : a4.slice (Rect.unit (s := S128x18944) ![32, 0] S32x18944.size hh) hs = oRows (ch 1) := oRows_congr (i := 1) rfl _ _
@[sl_canon] theorem uRows_1 (hh hs) : a6.slice (Rect.unit (s := S128x18944) ![32, 0] S32x18944.size hh) hs = uRows (ch 1) := uRows_congr (i := 1) rfl _ _
@[sl_canon] theorem cRows_1 (hh hs) : a7.slice (Rect.unit (s := S128x18944) ![32, 0] S32x18944.size hh) hs = cRows (ch 1) := cRows_congr (i := 1) rfl _ _
@[sl_canon] theorem uCell_1 (hh) : (cc0_scratch7.slice (Rect.unit (s := S4) ![1] S1.size hh)).squeeze S_ squeezes_S1_S_ = uCell (ch 1) := uCell_congr (i := 1) rfl _
@[sl_canon] theorem oCell_1 (hh) : (cc0_scratch10.slice (Rect.unit (s := S4) ![1] S1.size hh)).squeeze S_ squeezes_S1_S_ = oCell (ch 1) := oCell_congr (i := 1) rfl _
@[sl_canon] theorem aRows_2 (hh hs) : a0.slice (Rect.unit (s := S128x18944) ![64, 0] S32x18944.size hh) hs = aRows (ch 2) := aRows_congr (i := 2) rfl _ _
@[sl_canon] theorem oRows_2 (hh hs) : a4.slice (Rect.unit (s := S128x18944) ![64, 0] S32x18944.size hh) hs = oRows (ch 2) := oRows_congr (i := 2) rfl _ _
@[sl_canon] theorem uRows_2 (hh hs) : a6.slice (Rect.unit (s := S128x18944) ![64, 0] S32x18944.size hh) hs = uRows (ch 2) := uRows_congr (i := 2) rfl _ _
@[sl_canon] theorem cRows_2 (hh hs) : a7.slice (Rect.unit (s := S128x18944) ![64, 0] S32x18944.size hh) hs = cRows (ch 2) := cRows_congr (i := 2) rfl _ _
@[sl_canon] theorem uCell_2 (hh) : (cc0_scratch7.slice (Rect.unit (s := S4) ![2] S1.size hh)).squeeze S_ squeezes_S1_S_ = uCell (ch 2) := uCell_congr (i := 2) rfl _
@[sl_canon] theorem oCell_2 (hh) : (cc0_scratch10.slice (Rect.unit (s := S4) ![2] S1.size hh)).squeeze S_ squeezes_S1_S_ = oCell (ch 2) := oCell_congr (i := 2) rfl _
@[sl_canon] theorem aRows_3 (hh hs) : a0.slice (Rect.unit (s := S128x18944) ![96, 0] S32x18944.size hh) hs = aRows (ch 3) := aRows_congr (i := 3) rfl _ _
@[sl_canon] theorem oRows_3 (hh hs) : a4.slice (Rect.unit (s := S128x18944) ![96, 0] S32x18944.size hh) hs = oRows (ch 3) := oRows_congr (i := 3) rfl _ _
@[sl_canon] theorem uRows_3 (hh hs) : a6.slice (Rect.unit (s := S128x18944) ![96, 0] S32x18944.size hh) hs = uRows (ch 3) := uRows_congr (i := 3) rfl _ _
@[sl_canon] theorem cRows_3 (hh hs) : a7.slice (Rect.unit (s := S128x18944) ![96, 0] S32x18944.size hh) hs = cRows (ch 3) := cRows_congr (i := 3) rfl _ _
@[sl_canon] theorem uCell_3 (hh) : (cc0_scratch7.slice (Rect.unit (s := S4) ![3] S1.size hh)).squeeze S_ squeezes_S1_S_ = uCell (ch 3) := uCell_congr (i := 3) rfl _
@[sl_canon] theorem oCell_3 (hh) : (cc0_scratch10.slice (Rect.unit (s := S4) ![3] S1.size hh)).squeeze S_ squeezes_S1_S_ = oCell (ch 3) := oCell_congr (i := 3) rfl _

/-- Owned elements of a buffer, and two storable assertions together, may be kept in an invariant. -/
theorem storable_pointsTo (ℓ : Loc nD τ sig) (I : Finset (Idx ℓ)) (q : PosShare TreeShare) (f : Buf (Elt F) ℓ) : BI.Storable (upEmb : UEmb _ 𝕄) (ℓ ↦[I]{q} f : sProp 𝕄) := inferInstance
theorem storable_sep (P Q : sProp 𝕄) (hP : BI.Storable (upEmb : UEmb _ 𝕄) P) (hQ : BI.Storable (upEmb : UEmb _ 𝕄) Q) : BI.Storable (upEmb : UEmb _ 𝕄) iprop(P ∗ Q) := inferInstance
instance (c : Dev nD) (P : BufTy.Contents (Elt F) a9.view.ty) (i : Fin 7) : BI.Storable (upEmb : UEmb _ 𝕄) (yDone c P i) :=
  storable_sep _ _ (storable_pointsTo ((yBlk i).view.loc (c : Thread nD τ)) _ _ _) (storable_pointsTo ((yBuf i).view.loc (c : Thread nD τ)) _ _ _)

end Cert.KernelIdeal.Hand

end
-- ==== Proof.KI.Blocks.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Loops
public import proofs.«01_k».proof.Proof.KI.Rows
public import Idealize.ShloMosaic.Lib.Pipeline.FrameSuffixV
public import Idealize.ShloMosaic.Lib.Batch
public import Idealize.ShloMosaic.Lib.Ring
public import Idealize.ShloMosaic.Lib.Tactic
public import Idealize.ShloMosaic.Lib.SparseCore.Launch

@[expose] public section

set_option maxRecDepth 16384
set_option maxHeartbeats 2000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The proof's resource algebra: the pipeline library's beside the transfers' counters. -/
local notation "𝕄" => MT nD τ sig Unit (Elt F) ℕ (Pipeline.UD sig nD τ) ℕ

/-! The arrays and buffers as their rows, slabs, slots and blocks. -/

/-- The elements of chunk `r`'s rows, of slab `i`'s columns and of column block `i`. -/
abbrev rset (r : Fin k0_t1_loop.trips) : Finset S128x18944.Idx := (rowsR r).set
theorem mem_rset (r : Fin k0_t1_loop.trips) (x : S128x18944.Idx) : x ∈ rset r ↔ (x 0).val / 32 = r.val := by
  have hr : r.val < 4 := Nat.lt_of_lt_of_le r.isLt k0_t1_abs.2.1
  have h0 : (x 0).val < 128 := (x 0).isLt
  have h1 : (x 1).val < 18944 := (x 1).isLt
  rw [Rect.mem_set_unit, off2_eq r]
  constructor
  · intro H; have a0 : 32 * r.val ≤ (x 0).val ∧ (x 0).val < 32 * r.val + 32 := H 0; omega
  · intro H
    refine Fin.forall_fin_two.mpr ⟨?_, ?_⟩
    · show 32 * r.val ≤ (x 0).val ∧ (x 0).val < 32 * r.val + 32; omega
    · show 0 ≤ (x 1).val ∧ (x 1).val < 0 + 18944; omega
theorem rset_disjoint : ∀ r r' : Fin k0_t1_loop.trips, r ≠ r' → Disjoint (rset r) (rset r') := fun r r' hne => by
  rw [Finset.disjoint_left]; intro x h h'; rw [mem_rset] at h h'; exact hne (Fin.ext (h.symm.trans h'))
theorem rset_cover : Finset.univ.biUnion rset = Finset.univ := by
  ext x
  have h0 : (x 0).val < 128 := (x 0).isLt
  simp only [Finset.mem_biUnion, Finset.mem_univ, true_and, iff_true]
  exact ⟨⟨(x 0).val / 32, by rw [t1_trips]; omega⟩, (mem_rset _ _).mpr rfl⟩

theorem aRows_split (c : Dev nD) (q : PosShare TreeShare) (f : BufTy.Contents (Elt F) a0.view.ty) :
    (a0.view.loc (c : Thread nD τ) ↦[a0.view.set]{q} f : sProp 𝕄) = BI.bigSep Finset.univ fun r => (aRows r).view.loc (c : Thread nD τ) ↦[(aRows r).view.set]{q} f := by
  rw [show a0.view.set = Finset.univ from View.set_whole _]
  exact (Ring.pointsTo_blocks (ℓ := a0.view.loc (c : Thread nD τ)) (q := q) rset rset_disjoint rset_cover f).trans
    (BI.bigSep_congr fun r _ => congrArg (fun I => (a0.view.loc (c : Thread nD τ) ↦[I]{q} f : sProp 𝕄)) (View.set_slice_whole _ _).symm)
theorem oRows_split (c : Dev nD) (q : PosShare TreeShare) (f : BufTy.Contents (Elt F) a4.view.ty) :
    (a4.view.loc (c : Thread nD τ) ↦[a4.view.set]{q} f : sProp 𝕄) = BI.bigSep Finset.univ fun r => (oRows r).view.loc (c : Thread nD τ) ↦[(oRows r).view.set]{q} f := by
  rw [show a4.view.set = Finset.univ from View.set_whole _]
  exact (Ring.pointsTo_blocks (ℓ := a4.view.loc (c : Thread nD τ)) (q := q) rset rset_disjoint rset_cover f).trans
    (BI.bigSep_congr fun r _ => congrArg (fun I => (a4.view.loc (c : Thread nD τ) ↦[I]{q} f : sProp 𝕄)) (View.set_slice_whole _ _).symm)
theorem uRows_split (c : Dev nD) (q : PosShare TreeShare) (f : BufTy.Contents (Elt F) a6.view.ty) :
    (a6.view.loc (c : Thread nD τ) ↦[a6.view.set]{q} f : sProp 𝕄) = BI.bigSep Finset.univ fun r => (uRows r).view.loc (c : Thread nD τ) ↦[(uRows r).view.set]{q} f := by
  rw [show a6.view.set = Finset.univ from View.set_whole _]
  exact (Ring.pointsTo_blocks (ℓ := a6.view.loc (c : Thread nD τ)) (q := q) rset rset_disjoint rset_cover f).trans
    (BI.bigSep_congr fun r _ => congrArg (fun I => (a6.view.loc (c : Thread nD τ) ↦[I]{q} f : sProp 𝕄)) (View.set_slice_whole _ _).symm)
theorem cRows_split (c : Dev nD) (q : PosShare TreeShare) (f : BufTy.Contents (Elt F) a7.view.ty) :
    (a7.view.loc (c : Thread nD τ) ↦[a7.view.set]{q} f : sProp 𝕄) = BI.bigSep Finset.univ fun r => (cRows r).view.loc (c : Thread nD τ) ↦[(cRows r).view.set]{q} f := by
  rw [show a7.view.set = Finset.univ from View.set_whole _]
  exact (Ring.pointsTo_blocks (ℓ := a7.view.loc (c : Thread nD τ)) (q := q) rset rset_disjoint rset_cover f).trans
    (BI.bigSep_congr fun r _ => congrArg (fun I => (a7.view.loc (c : Thread nD τ) ↦[I]{q} f : sProp 𝕄)) (View.set_slice_whole _ _).symm)

theorem yset_mem (i : Fin 7) (x : S128x3584.Idx) : x ∈ (Rect.unit (s := S128x3584) (blkOff i) S128x512.size (blkOff_inb i)).set ↔ (x 1).val / 512 = i.val := by
  have h0 : (x 0).val < 128 := (x 0).isLt
  have h1 : (x 1).val < 3584 := (x 1).isLt
  rw [Rect.mem_set_unit]
  constructor
  · intro H; have a0 : 512 * i.val ≤ (x 1).val ∧ (x 1).val < 512 * i.val + 512 := H 1; omega
  · intro H
    refine Fin.forall_fin_two.mpr ⟨?_, ?_⟩
    · show 0 ≤ (x 0).val ∧ (x 0).val < 0 + 128; omega
    · show 512 * i.val ≤ (x 1).val ∧ (x 1).val < 512 * i.val + 512; omega
abbrev yset (i : Fin 7) : Finset S128x3584.Idx := (Rect.unit (s := S128x3584) (blkOff i) S128x512.size (blkOff_inb i)).set
theorem yset_disjoint : ∀ i j : Fin 7, i ≠ j → Disjoint (yset i) (yset j) := fun i j hne => by
  rw [Finset.disjoint_left]; intro x h h'; rw [yset_mem] at h h'; exact hne (Fin.ext (h.symm.trans h'))
theorem yset_cover : Finset.univ.biUnion yset = Finset.univ := by
  ext x
  have h1 : (x 1).val < 3584 := (x 1).isLt
  simp only [Finset.mem_biUnion, Finset.mem_univ, true_and, iff_true]
  exact ⟨⟨(x 1).val / 512, by omega⟩, (yset_mem _ _).mpr rfl⟩
theorem yBlk_split (c : Dev nD) (f : BufTy.Contents (Elt F) a3.view.ty) :
    (a3.view.loc (c : Thread nD τ) ↦[a3.view.set]{fullShare} f : sProp 𝕄) = BI.bigSep Finset.univ fun i => (yBlk i).view.loc (c : Thread nD τ) ↦[(yBlk i).view.set]{fullShare} f := by
  rw [show a3.view.set = Finset.univ from View.set_whole _]
  exact (Ring.pointsTo_blocks (ℓ := a3.view.loc (c : Thread nD τ)) (q := fullShare) yset yset_disjoint yset_cover f).trans
    (BI.bigSep_congr fun i _ => congrArg (fun I => (a3.view.loc (c : Thread nD τ) ↦[I]{fullShare} f : sProp 𝕄)) (View.set_slice_whole _ _).symm)
theorem yBuf_split (c : Dev nD) (f : BufTy.Contents (Elt F) a9.view.ty) :
    (a9.view.loc (c : Thread nD τ) ↦[a9.view.set]{fullShare} f : sProp 𝕄) = BI.bigSep Finset.univ fun i => (yBuf i).view.loc (c : Thread nD τ) ↦[(yBuf i).view.set]{fullShare} f := by
  rw [show a9.view.set = Finset.univ from View.set_whole _]
  exact (Ring.pointsTo_blocks (ℓ := a9.view.loc (c : Thread nD τ)) (q := fullShare) yset yset_disjoint yset_cover f).trans
    (BI.bigSep_congr fun i _ => congrArg (fun I => (a9.view.loc (c : Thread nD τ) ↦[I]{fullShare} f : sProp 𝕄)) (View.set_slice_whole _ _).symm)

/-! The weights: seven slabs of two halves; their buffer: five slots of two halves. -/

abbrev wset (p : Fin 7 × Fin 2) : Finset S18944x3584.Idx := if p.2 = 0 then (Rect.unit (s := S18944x3584) (srcOffA p.1) S9472x512.size (srcOffA_inb p.1)).set else (Rect.unit (s := S18944x3584) (srcOffB p.1) S9472x512.size (srcOffB_inb p.1)).set
theorem mem_wset (p : Fin 7 × Fin 2) (x : S18944x3584.Idx) : x ∈ wset p ↔ (x 1).val / 512 = p.1.val ∧ (x 0).val / 9472 = p.2.val := by
  obtain ⟨i, h⟩ := p
  have h0 : (x 0).val < 18944 := (x 0).isLt
  have h1 : (x 1).val < 3584 := (x 1).isLt
  have key : ∀ (off : Fin 2 → ℕ) (inb) (t : ℕ), off = ![9472 * t, 512 * i.val] → (x ∈ (Rect.unit (s := S18944x3584) off S9472x512.size inb).set ↔ (x 1).val / 512 = i.val ∧ (x 0).val / 9472 = t) := by
    intro off inb t e
    rw [Rect.mem_set_unit, e]
    constructor
    · intro H
      have a0 : 9472 * t ≤ (x 0).val ∧ (x 0).val < 9472 * t + 9472 := H 0
      have a1 : 512 * i.val ≤ (x 1).val ∧ (x 1).val < 512 * i.val + 512 := H 1
      omega
    · intro H
      refine Fin.forall_fin_two.mpr ⟨?_, ?_⟩
      · show 9472 * t ≤ (x 0).val ∧ (x 0).val < 9472 * t + 9472; omega
      · show 512 * i.val ≤ (x 1).val ∧ (x 1).val < 512 * i.val + 512; omega
  revert h
  refine Fin.forall_fin_two.mpr ⟨key _ _ 0 rfl, key _ _ 1 rfl⟩
theorem wset_disjoint : ∀ p p' : Fin 7 × Fin 2, p ≠ p' → Disjoint (wset p) (wset p') := fun p p' hne => by
  rw [Finset.disjoint_left]; intro x h h'; rw [mem_wset] at h h'
  exact hne (Prod.ext (Fin.ext (h.1.symm.trans h'.1)) (Fin.ext (h.2.symm.trans h'.2)))
theorem wset_cover : Finset.univ.biUnion wset = Finset.univ := by
  ext x
  have h0 : (x 0).val < 18944 := (x 0).isLt
  have h1 : (x 1).val < 3584 := (x 1).isLt
  simp only [Finset.mem_biUnion, Finset.mem_univ, true_and, iff_true]
  exact ⟨(⟨(x 1).val / 512, by omega⟩, ⟨(x 0).val / 9472, by omega⟩), (mem_wset _ _).mpr ⟨rfl, rfl⟩⟩
theorem srcs_split (c : Dev nD) (f : BufTy.Contents (Elt F) a1.view.ty) :
    (a1.view.loc (c : Thread nD τ) ↦[a1.view.set]{fullShare} f : sProp 𝕄) = BI.bigSep Finset.univ (srcs c f) := by
  rw [show a1.view.set = Finset.univ from View.set_whole _]
  refine (Ring.pointsTo_blocks (ℓ := a1.view.loc (c : Thread nD τ)) (q := fullShare) wset wset_disjoint wset_cover f).trans ?_
  rw [← Finset.univ_product_univ, SparseCore.bigSep_product]
  refine BI.bigSep_congr fun i _ => ?_
  rw [BI.bigSep_fin_two]
  exact congr (congrArg BI.sep (congrArg (fun I => (a1.view.loc (c : Thread nD τ) ↦[I]{fullShare} f : sProp 𝕄)) (View.set_slice_whole _ _).symm))
    (congrArg (fun I => (a1.view.loc (c : Thread nD τ) ↦[I]{fullShare} f : sProp 𝕄)) (View.set_slice_whole _ _).symm)

abbrev sset (p : Fin 5 × Fin 2) : Finset S5x18944x512.Idx := if p.2 = 0 then (Rect.unit (s := S5x18944x512) (slotOffA p.1) S1x9472x512.size (slotOffA_inb p.1)).set else (Rect.unit (s := S5x18944x512) (slotOffB p.1) S1x9472x512.size (slotOffB_inb p.1)).set
theorem mem_sset (p : Fin 5 × Fin 2) (x : S5x18944x512.Idx) : x ∈ sset p ↔ (x 0).val = p.1.val ∧ (x 1).val / 9472 = p.2.val := by
  obtain ⟨i, h⟩ := p
  have h1 : (x 1).val < 18944 := (x 1).isLt
  have h2 : (x 2).val < 512 := (x 2).isLt
  have key : ∀ (off : Fin 3 → ℕ) (inb) (t : ℕ), off = ![i.val, 9472 * t, 0] → (x ∈ (Rect.unit (s := S5x18944x512) off S1x9472x512.size inb).set ↔ (x 0).val = i.val ∧ (x 1).val / 9472 = t) := by
    intro off inb t e
    rw [Rect.mem_set_unit, e]
    constructor
    · intro H
      have a0 : i.val ≤ (x 0).val ∧ (x 0).val < i.val + 1 := H 0
      have a1 : 9472 * t ≤ (x 1).val ∧ (x 1).val < 9472 * t + 9472 := H 1
      omega
    · intro H a
      fin_cases a
      · show i.val ≤ (x 0).val ∧ (x 0).val < i.val + 1; omega
      · show 9472 * t ≤ (x 1).val ∧ (x 1).val < 9472 * t + 9472; omega
      · show 0 ≤ (x 2).val ∧ (x 2).val < 0 + 512; omega
  revert h
  refine Fin.forall_fin_two.mpr ⟨key _ _ 0 rfl, key _ _ 1 rfl⟩
theorem sset_disjoint : ∀ p p' : Fin 5 × Fin 2, p ≠ p' → Disjoint (sset p) (sset p') := fun p p' hne => by
  rw [Finset.disjoint_left]; intro x h h'; rw [mem_sset] at h h'
  exact hne (Prod.ext (Fin.ext (h.1.symm.trans h'.1)) (Fin.ext (h.2.symm.trans h'.2)))
theorem sset_cover : Finset.univ.biUnion sset = Finset.univ := by
  ext x
  have h1 : (x 1).val < 18944 := (x 1).isLt
  simp only [Finset.mem_biUnion, Finset.mem_univ, true_and, iff_true]
  exact ⟨(x 0, ⟨(x 1).val / 9472, by omega⟩), (mem_sset _ _).mpr ⟨rfl, rfl⟩⟩
theorem slotA_set (s : Fin 5) : (slotA s).view.set = sset (s, 0) := by unfold slotA; exact (View.set_reshape _ _).trans (View.set_slice_whole _ _)
theorem slotB_set (s : Fin 5) : (slotB s).view.set = sset (s, 1) := by unfold slotB; exact (View.set_reshape _ _).trans (View.set_slice_whole _ _)

/-- The halves of the slots, each at some contents. -/
abbrev slotMem (c : Dev nD) (s : Fin 5) : sProp 𝕄 :=
  iprop((∃ f, (slotA s).view.loc (c : Thread nD τ) ↦[(slotA s).view.set]{fullShare} f) ∗ (∃ f, (slotB s).view.loc (c : Thread nD τ) ↦[(slotB s).view.set]{fullShare} f))
theorem slotMem_eq (c : Dev nD) : BI.bigSep Finset.univ (slotMem (F := F) c)
    = (BI.bigSep Finset.univ fun p => iprop(∃ f, a8.view.loc (c : Thread nD τ) ↦[sset p]{fullShare} f) : sProp 𝕄) := by
  rw [← Finset.univ_product_univ, SparseCore.bigSep_product]
  refine BI.bigSep_congr fun s _ => ?_
  rw [BI.bigSep_fin_two]
  exact congr (congrArg BI.sep (congrArg (fun I => (iprop(∃ f, a8.view.loc (c : Thread nD τ) ↦[I]{fullShare} f) : sProp 𝕄)) (slotA_set s)))
    (congrArg (fun I => (iprop(∃ f, a8.view.loc (c : Thread nD τ) ↦[I]{fullShare} f) : sProp 𝕄)) (slotB_set s))
theorem some_contents (c : Dev nD) (I : Finset S5x18944x512.Idx) (f : BufTy.Contents (Elt F) a8.view.ty) :
    (a8.view.loc (c : Thread nD τ) ↦[I]{fullShare} f : sProp 𝕄) ⊢ iprop(∃ f, a8.view.loc (c : Thread nD τ) ↦[I]{fullShare} f) := by iintro H; iexists f; iexact H
theorem slots_split (c : Dev nD) : (iprop(∃ f, a8.view.loc (c : Thread nD τ) ↦[a8.view.set]{fullShare} f) : sProp 𝕄) ⊢ BI.bigSep Finset.univ (slotMem (F := F) c) := by
  rw [slotMem_eq, show a8.view.set = Finset.univ from View.set_whole _]
  iintro ⟨%f, H⟩
  iapply ((Entails.of_eq (Ring.pointsTo_blocks (ℓ := a8.view.loc (c : Thread nD τ)) (q := fullShare) sset sset_disjoint sset_cover f)).trans
    (BI.bigSep_mono fun p _ => some_contents c (sset p) f))
  iexact H
theorem slots_join (c : Dev nD) (f₀ : BufTy.Contents (Elt F) a8.view.ty) : BI.bigSep Finset.univ (slotMem (F := F) c) ⊢ (iprop(∃ f, a8.view.loc (c : Thread nD τ) ↦[a8.view.set]{fullShare} f) : sProp 𝕄) := by
  rw [slotMem_eq, show a8.view.set = Finset.univ from View.set_whole _]
  exact Ring.pointsTo_blocks_join_exists (ℓ := a8.view.loc (c : Thread nD τ)) (q := fullShare) sset sset_disjoint sset_cover f₀

end Cert.KernelIdeal.Hand

end
-- ==== Proof.KI.Body.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Loops
public import proofs.«01_k».proof.Proof.KI.Blocks
public import Idealize.ShloMosaic.Lib.Pipeline.FrameSuffixV
public import Idealize.ShloMosaic.Lib.Batch
public import Idealize.ShloMosaic.Lib.Ring
public import Idealize.ShloMosaic.Lib.Tactic

@[expose] public section

set_option maxRecDepth 16384
set_option maxHeartbeats 2000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The proof's resource algebra: the pipeline library's beside the transfers' counters. -/
local notation "𝕄" => MT nD τ sig Unit (Elt F) ℕ (Pipeline.UD sig nD τ) ℕ

/-! The whole kernel body. -/

theorem bigSep_chunks (Φ : Fin k0_t1_loop.trips → sProp 𝕄) : BI.bigSep Finset.univ Φ = iprop(Φ (ch 0) ∗ Φ (ch 1) ∗ Φ (ch 2) ∗ Φ (ch 3)) :=
  BI.bigSep_eq_bigSepL_of_eq [ch 0, ch 1, ch 2, ch 3] ch_univ ch_nodup Φ
theorem bigSep_slots (Φ : Fin 5 → sProp 𝕄) : BI.bigSep Finset.univ Φ = iprop(Φ 0 ∗ Φ 1 ∗ Φ 2 ∗ Φ 3 ∗ Φ 4) :=
  BI.bigSep_eq_bigSepL_of_eq [0, 1, 2, 3, 4] (by decide) (by decide) Φ
theorem bigSep_slabs (Φ : Fin 7 → sProp 𝕄) : BI.bigSep Finset.univ Φ = iprop(Φ 0 ∗ Φ 1 ∗ Φ 2 ∗ Φ 3 ∗ Φ 4 ∗ Φ 5 ∗ Φ 6) :=
  BI.bigSep_eq_bigSepL_of_eq [0, 1, 2, 3, 4, 5, 6] (by decide) (by decide) Φ

/-- Chunk `r` before the body and after it. -/
abbrev rowPre (c : Dev nD) (U : BufTy.Contents (Elt F) a0.view.ty) (r : Fin k0_t1_loop.trips) : sProp 𝕄 :=
  iprop(((aRows r).view.loc (c : Thread nD τ) ↦[(aRows r).view.set]{fullShare} U)
    ∗ (∃ f, (uRows r).view.loc (c : Thread nD τ) ↦[(uRows r).view.set]{fullShare} f)
    ∗ (∃ f, (cRows r).view.loc (c : Thread nD τ) ↦[(cRows r).view.set]{fullShare} f)
    ∗ (∃ f, (oRows r).view.loc (c : Thread nD τ) ↦[(oRows r).view.set]{fullShare} f)
    ∗ semVal ((c : Thread nD τ), SemLoc.dma (uCell r).sem) 0 ∗ semVal ((c : Thread nD τ), SemLoc.dma (oCell r).sem) 0)
abbrev rowPost (c : Dev nD) (U : BufTy.Contents (Elt F) a0.view.ty) (r : Fin k0_t1_loop.trips) : sProp 𝕄 :=
  iprop(((aRows r).view.loc (c : Thread nD τ) ↦[(aRows r).view.set]{fullShare} U)
    ∗ ((uRows r).view.loc (c : Thread nD τ) ↦[(uRows r).view.set]{fullShare} U)
    ∗ ((oRows r).view.loc (c : Thread nD τ) ↦[(oRows r).view.set]{fullShare} codesOf U)
    ∗ semVal ((c : Thread nD τ), SemLoc.dma (uCell r).sem) 0 ∗ semVal ((c : Thread nD τ), SemLoc.dma (oCell r).sem) 0)

abbrev bodyPre (c : Dev nD) (U : BufTy.Contents (Elt F) a0.view.ty) (W : BufTy.Contents (Elt F) a1.view.ty) (S : BufTy.Contents (Elt F) a2.view.ty) : sProp 𝕄 :=
  iprop(BI.bigSep Finset.univ (rowPre (F := F) c U) ∗ BI.bigSep Finset.univ (srcs (F := F) c W) ∗ BI.bigSep Finset.univ (freeSlot (F := F) c) ∗ BI.bigSep Finset.univ (blk4 (F := F) c 0)
    ∗ (a2.view.loc (c : Thread nD τ) ↦[a2.view.set]{fullShare} S)
    ∗ (∃ f, a10.view.loc (c : Thread nD τ) ↦[a10.view.set]{fullShare} f)
    ∗ (∃ f, a11.view.loc (c : Thread nD τ) ↦[a11.view.set]{fullShare} f)
    ∗ (∃ f, a12.view.loc (c : Thread nD τ) ↦[a12.view.set]{fullShare} f)
    ∗ (∃ f, a5.view.loc (c : Thread nD τ) ↦[a5.view.set]{fullShare} f)
    ∗ semVal ((c : Thread nD τ), SemLoc.dma (SemArray.sem cc0_scratch9)) 0
    ∗ semVal ((c : Thread nD τ), SemLoc.dma (SemArray.sem cc0_scratch11)) 0
    ∗ semVal ((c : Thread nD τ), SemLoc.dma (SemArray.sem cc0_scratch12)) 0
    ∗ ∃ O, owes (c : Thread nD τ) 0 O)

/-- A chunk's transfer in flight leaves the chunk's rows of `u`. -/
theorem uFlight (c : Dev nD) (U : BufTy.Contents (Elt F) a0.view.ty) (r : Fin k0_t1_loop.trips) (f : BufTy.Contents (Elt F) a6.view.ty) :
    (Transfers.Flight countersEmb (c : Thread nD τ) (SemLoc.dma (uCell r).sem) () 37888
      iprop(((uRows r).view.loc (c : Thread nD τ) ↦[(uRows r).view.set]{fullShare} (uRows r).view.writes (Elt F) f [⟨Rect.whole S32x18944, ReadAs.same.apply ((aRows r).view.read (Elt F) U)⟩]) ∗ ((aRows r).view.loc (c : Thread nD τ) ↦[(aRows r).view.set]{fullShare} U)) : sProp 𝕄)
    = Transfers.Flight countersEmb (c : Thread nD τ) (SemLoc.dma (uCell r).sem) () 37888
      iprop(((uRows r).view.loc (c : Thread nD τ) ↦[(uRows r).view.set]{fullShare} U) ∗ ((aRows r).view.loc (c : Thread nD τ) ↦[(aRows r).view.set]{fullShare} U)) := by
  have h := pointsTo_landed (F := F) (c : Thread nD τ) (uRows r).view fullShare f U (ReadAs.same.apply ((aRows r).view.read (Elt F) U)) fun j => by
    rw [Rect.emb_whole_apply]; rfl
  rw [h]
/-- A slab's two transfers in flight leave the slab in its slot. -/
theorem fly_of (c : Dev nD) (W : BufTy.Contents (Elt F) a1.view.ty) (i : Fin 7) (s : Fin 5) (p q : BufTy.Contents (Elt F) a8.view.ty) :
    (iprop(Transfers.Flight countersEmb (c : Thread nD τ) (SemLoc.dma (cellA s).sem) () 151552
      iprop(((slotA s).view.loc (c : Thread nD τ) ↦[(slotA s).view.set]{fullShare} (slotA s).view.writes (Elt F) p [⟨Rect.whole S9472x512, ReadAs.same.apply ((srcA i).view.read (Elt F) W)⟩]) ∗ ((srcA i).view.loc (c : Thread nD τ) ↦[(srcA i).view.set]{fullShare} W))
    ∗ Transfers.Flight countersEmb (c : Thread nD τ) (SemLoc.dma (cellB s).sem) () 151552
      iprop(((slotB s).view.loc (c : Thread nD τ) ↦[(slotB s).view.set]{fullShare} (slotB s).view.writes (Elt F) q [⟨Rect.whole S9472x512, ReadAs.same.apply ((srcB i).view.read (Elt F) W)⟩]) ∗ ((srcB i).view.loc (c : Thread nD τ) ↦[(srcB i).view.set]{fullShare} W))) : sProp 𝕄)
    = iprop(flyA c W i s ∗ flyB c W i s) := by
  rw [slotA_landed, slotB_landed]

/-- Before the first trip no chunk is done. -/
theorem inv1_start (c : Dev nD) (U : BufTy.Contents (Elt F) a0.view.ty) (f : BufTy.Contents (Elt F) a11.view.ty) (O) (a : Unit) :
    iprop((todo1 c U (ch 0) ∗ todo1 c U (ch 1) ∗ todo1 c U (ch 2) ∗ todo1 c U (ch 3)) ∗ (a11.view.loc (c : Thread nD τ) ↦[a11.view.set]{fullShare} f) ∗ owes (c : Thread nD τ) 0 O) ⊢ (inv1 c U 0 a : sProp 𝕄) := by
  unfold inv1
  rw [BI.bigSep_congr (Ψ := fun r => todo1 c U r) (fun r _ => if_neg (Nat.not_lt_zero r.val)), bigSep_chunks]
  iintro ⟨H, Hf, HO⟩
  isplitl [H]; · iexact H
  isplitl [Hf]
  · iexists f
    isplitl [Hf]; · iexact Hf
    ipureintro
    intro i hi; exact absurd hi (by omega)
  iexists O; iexact HO
/-- After the last trip every chunk is. -/
theorem inv1_end (c : Dev nD) (U : BufTy.Contents (Elt F) a0.view.ty) (a : Unit) :
    (inv1 c U k0_t1_loop.trips a : sProp 𝕄) ⊢ iprop((done1 c U (ch 0) ∗ done1 c U (ch 1) ∗ done1 c U (ch 2) ∗ done1 c U (ch 3)) ∗ (a11.view.loc (c : Thread nD τ) ↦[a11.view.set]{fullShare} scalesOf U) ∗ ∃ O, owes (c : Thread nD τ) 0 O) := by
  unfold inv1
  rw [BI.bigSep_congr (Ψ := fun r => done1 c U r) (fun r _ => if_pos r.isLt), bigSep_chunks]
  iintro ⟨H, ⟨%g, Hg, %hg⟩, HO⟩
  isplitl [H]; · iexact H
  isplitl [Hg]
  · have e : g = scalesOf U := funext fun i => hg i (by
      have h0 : (i 0).val < 128 := (i 0).isLt
      rw [t1_trips]; omega)
    subst e
    iexact Hg
  iexact HO

theorem slab4_start (c : Dev nD) (W : BufTy.Contents (Elt F) a1.view.ty) :
    (iprop((flyA c W 0 0 ∗ flyB c W 0 0) ∗ (flyA c W 1 1 ∗ flyB c W 1 1) ∗ (flyA c W 2 2 ∗ flyB c W 2 2) ∗ (flyA c W 3 3 ∗ flyB c W 3 3) ∗ (flyA c W 4 4 ∗ flyB c W 4 4) ∗ srcs c W 5 ∗ srcs c W 6) : sProp 𝕄)
      = BI.bigSep Finset.univ (slab4 (F := F) c W 0) := by
  rw [bigSep_slabs]; rfl

/-- The row of scales that leaves the kernel: the first column of the scales, lying down. -/
def hsOf (R : BufTy.Contents (Elt F) a11.view.ty) : BufTy.Contents (Elt F) a5.view.ty := k0_pay217 (F := F) R

theorem emb_unit_zero (z : Fin 2 → ℕ) (s : Fin 2 → ℕ) (hz : ∀ a, z a = 0) (inb) (j) : (Rect.unit (s := ⟨2, s⟩) z s inb).emb j = j :=
  funext fun a => Fin.ext (by
    show z a + 1 * (j a).val = (j a).val
    rw [hz a]; omega)
/-- The row of scales as the kernel stores and sends it. -/
theorem hs_read (f : BufTy.Contents (Elt F) a12.view.ty) (R : BufTy.Contents (Elt F) a11.view.ty) (j : S1x128.Idx) :
    a12.view.read (Elt F) (a12.view.writes (Elt F) f [⟨Rect.unit (s := S1x128) ![0, 0] S1x128.size inb_S1x128_S1x128_0_0,
      k0_pay217 (F := F) (View.readAt (Elt F) a11.view (Rect.unit (s := S128x128) ![0, 0] S128x128.size inb_S128x128_S128x128_0_0).toLoadRect R)⟩]) j = hsOf (F := F) R j := by
  have hz : ∀ a : Fin 2, (![0, 0] : Fin 2 → ℕ) a = 0 := Fin.forall_fin_two.mpr ⟨rfl, rfl⟩
  have hl : View.readAt (Elt F) a11.view (Rect.unit (s := S128x128) ![0, 0] S128x128.size inb_S128x128_S128x128_0_0).toLoadRect R = R :=
    funext fun i => congrArg R (emb_unit_zero ![0, 0] S128x128.size hz inb_S128x128_S128x128_0_0 i)
  rw [hl]
  refine (congrArg _ (emb_unit_zero ![0, 0] S1x128.size hz inb_S1x128_S1x128_0_0 j).symm).trans ?_
  exact View.read_writes_cons_emb (Val := Elt F) (v := a12.view) (f := f) (Rect.unit (s := S1x128) ![0, 0] S1x128.size inb_S1x128_S1x128_0_0) _ [] j

/-- After the body: the results hold the codes, the product and the scales. -/
abbrev bodyPost (c : Dev nD) (U : BufTy.Contents (Elt F) a0.view.ty) (W : BufTy.Contents (Elt F) a1.view.ty) (S : BufTy.Contents (Elt F) a2.view.ty) : sProp 𝕄 :=
  iprop(BI.bigSep Finset.univ (rowPost (F := F) c U) ∗ BI.bigSep Finset.univ (slab4 (F := F) c W 7) ∗ BI.bigSep Finset.univ (blk4 (F := F) c 7)
    ∗ (a7.view.loc (c : Thread nD τ) ↦[a7.view.set]{fullShare.left} codesOf U)
    ∗ (a7.view.loc (c : Thread nD τ) ↦[a7.view.set]{fullShare.right} codesOf U)
    ∗ (a2.view.loc (c : Thread nD τ) ↦[a2.view.set]{fullShare} S)
    ∗ (∃ f, a10.view.loc (c : Thread nD τ) ↦[a10.view.set]{fullShare} f)
    ∗ (∃ f, a11.view.loc (c : Thread nD τ) ↦[a11.view.set]{fullShare} f)
    ∗ (∃ f, a12.view.loc (c : Thread nD τ) ↦[a12.view.set]{fullShare} f)
    ∗ (a5.view.loc (c : Thread nD τ) ↦[a5.view.set]{fullShare} hsOf (scalesOf U))
    ∗ BI.bigSep Finset.univ (yDone (F := F) c (prodOf (codesOf U) W S (scalesOf U)))
    ∗ semVal ((c : Thread nD τ), SemLoc.dma (SemArray.sem cc0_scratch9)) 0
    ∗ semVal ((c : Thread nD τ), SemLoc.dma (SemArray.sem cc0_scratch11)) 0
    ∗ semVal ((c : Thread nD τ), SemLoc.dma (SemArray.sem cc0_scratch12)) 0
    ∗ ∃ O, owes (c : Thread nD τ) 0 O)

theorem body_run (𝒱 : Variants) (c : Dev nD) (bd : Option 𝒱.V) (U : BufTy.Contents (Elt F) a0.view.ty) (W : BufTy.Contents (Elt F) a1.view.ty) (S : BufTy.Contents (Elt F) a2.view.ty) :
    bodyPre (F := F) c U W S ⊢ wp frame (wpE (defs₀ (F := F)) 𝒱 (c : Thread nD τ) bd) Set.univ
      (cc0_prune_quant_down_proj (F := F) a0 (Memref.isWhole_whole _) a1 (Memref.isWhole_whole _) a2 (Memref.isWhole_whole _) a3 (Memref.isWhole_whole _) a4 (Memref.isWhole_whole _) a5 (Memref.isWhole_whole _) a6 (Memref.isWhole_whole _) a7 (Memref.isWhole_whole _) a8 (Memref.isWhole_whole _) a9 (Memref.isWhole_whole _) a10 (Memref.isWhole_whole _) a11 (Memref.isWhole_whole _) a12 (Memref.isWhole_whole _) cc0_scratch7 cc0_scratch8 cc0_scratch9 cc0_scratch10 cc0_scratch11 cc0_scratch12)
      (fun _ => bodyPost c U W S) := by
  unfold bodyPre
  rw [bigSep_chunks, bigSep_slabs (srcs c W), bigSep_slots]
  iintro ⟨⟨⟨HU0, ⟨%u0, HX0⟩, HC0, HD0, Hu0, Ho0⟩, ⟨HU1, ⟨%u1, HX1⟩, HC1, HD1, Hu1, Ho1⟩, ⟨HU2, ⟨%u2, HX2⟩, HC2, HD2, Hu2, Ho2⟩, ⟨HU3, ⟨%u3, HX3⟩, HC3, HD3, Hu3, Ho3⟩⟩,
    ⟨⟨HA0, HB0⟩, ⟨HA1, HB1⟩, ⟨HA2, HB2⟩, ⟨HA3, HB3⟩, ⟨HA4, HB4⟩, Hs5, Hs6⟩,
    ⟨⟨⟨%p0, HP0⟩, ⟨%q0, HQ0⟩, Hp0, Hq0⟩, ⟨⟨%p1, HP1⟩, ⟨%q1, HQ1⟩, Hp1, Hq1⟩, ⟨⟨%p2, HP2⟩, ⟨%q2, HQ2⟩, Hp2, Hq2⟩, ⟨⟨%p3, HP3⟩, ⟨%q3, HQ3⟩, Hp3, Hq3⟩, ⟨⟨%p4, HP4⟩, ⟨%q4, HQ4⟩, Hp4, Hq4⟩⟩,
    HY, HS, ⟨%f10, HS'⟩, ⟨%f11, HR⟩, ⟨%f12, HH⟩, ⟨%f5, HH'⟩, Hc9, Hc11, Hc12, ⟨%O, HO⟩⟩
  sl_exec
  sl_for (inv1 c U) $$ [Hu0 HC0 HD0 Ho0 Hu1 HC1 HD1 Ho1 Hu2 HC2 HD2 Ho2 Hu3 HC3 HD3 Ho3 HR HO]
  · intro r acc
    exact step1 𝒱 c bd U r acc
  · iapply (inv1_start c U f11 _ _)
    isplitl [Hu0 HC0 HD0 Ho0 Hu1 HC1 HD1 Ho1 Hu2 HC2 HD2 Ho2 Hu3 HC3 HD3 Ho3]
    · isplitl [Hu0 HC0 HD0 Ho0]
      · isplitl [Hu0]; · rw [← uFlight c U (ch 0) u0]; iexact Hu0
        isplitl [HC0]; · iexact HC0
        isplitl [HD0]; · iexact HD0
        iexact Ho0
      isplitl [Hu1 HC1 HD1 Ho1]
      · isplitl [Hu1]; · rw [← uFlight c U (ch 1) u1]; iexact Hu1
        isplitl [HC1]; · iexact HC1
        isplitl [HD1]; · iexact HD1
        iexact Ho1
      isplitl [Hu2 HC2 HD2 Ho2]
      · isplitl [Hu2]; · rw [← uFlight c U (ch 2) u2]; iexact Hu2
        isplitl [HC2]; · iexact HC2
        isplitl [HD2]; · iexact HD2
        iexact Ho2
      · isplitl [Hu3]; · rw [← uFlight c U (ch 3) u3]; iexact Hu3
        isplitl [HC3]; · iexact HC3
        isplitl [HD3]; · iexact HD3
        iexact Ho3
    isplitl [HR]; · iexact HR
    iexact HO
  iintro %acc HI
  ihave HI := (inv1_end c U acc) $$ HI
  icases HI with ⟨⟨⟨HX0, HU0, Hu0, HC0, Ho0⟩, ⟨HX1, HU1, Hu1, HC1, Ho1⟩, ⟨HX2, HU2, Hu2, HC2, Ho2⟩, ⟨HX3, HU3, Hu3, HC3, Ho3⟩⟩, HR, ⟨%O1, HO⟩⟩
  sl_exec
  ihave HC := (Entails.of_eq ((bigSep_chunks _).symm.trans (cRows_split c fullShare.left (codesOf U)).symm)) $$ [HC0 HC1 HC2 HC3]
  · isplitl [HC0]; · iexact HC0
    isplitl [HC1]; · iexact HC1
    isplitl [HC2]; · iexact HC2
    iexact HC3
  imod (Transfers.batch_alloc' (Lvl := ℕ) countersEmb (c : Thread nD τ) () 4096 (yDone c (prodOf (codesOf U) W S (scalesOf U))) (sm := SemLoc.dma (SemArray.sem cc0_scratch11)) (E := Set.univ)) $$ Hc11 with HB
  sl_for (inv4 c W (codesOf U) S (scalesOf U)) $$ [Hp0 Hq0 Hp1 Hq1 Hp2 Hq2 Hp3 Hq3 Hp4 Hq4 Hs5 Hs6 HY HC HS' HR HB HO]
  · intro k acc
    exact step4 𝒱 c bd W (codesOf U) S (scalesOf U) k acc
  · unfold inv4
    rw [← slab4_start, ← fly_of c W 0 0 p0 q0, ← fly_of c W 1 1 p1 q1, ← fly_of c W 2 2 p2 q2, ← fly_of c W 3 3 p3 q3, ← fly_of c W 4 4 p4 q4]
    isplitl [Hp0 Hq0 Hp1 Hq1 Hp2 Hq2 Hp3 Hq3 Hp4 Hq4 Hs5 Hs6]
    · isplitl [Hp0 Hq0]
      · isplitl [Hp0]; · iexact Hp0
        iexact Hq0
      isplitl [Hp1 Hq1]
      · isplitl [Hp1]; · iexact Hp1
        iexact Hq1
      isplitl [Hp2 Hq2]
      · isplitl [Hp2]; · iexact Hp2
        iexact Hq2
      isplitl [Hp3 Hq3]
      · isplitl [Hp3]; · iexact Hp3
        iexact Hq3
      isplitl [Hp4 Hq4]
      · isplitl [Hp4]; · iexact Hp4
        iexact Hq4
      isplitl [Hs5]; · iexact Hs5
      iexact Hs6
    isplitl [HY]; · iexact HY
    isplitl [HC]; · iexact HC
    isplitl [HS']
    · rw [← pointsTo_landed (F := F) (c : Thread nD τ) a10.view fullShare a10.view.junk S (ReadAs.same.apply (a2.view.read (Elt F) S)) (fun j => by rw [Rect.emb_whole_apply]; rfl)]
      iexact HS'
    isplitl [HR]; · iexact HR
    isplitl [HB]; · iexact HB
    iexists _; iexact HO
  iintro %acc2 HI
  unfold inv4
  icases HI with ⟨HW, HY, HC, HS', HR, HB, ⟨%O2, HO⟩⟩
  sl_exec
  ihave HC' := (Entails.of_eq ((bigSep_chunks _).symm.trans (cRows_split c fullShare.right (codesOf U)).symm)) $$ [Ho0_src Ho1_src Ho2_src Ho3_src]
  · isplitl [Ho0_src]; · iexact Ho0_src
    isplitl [Ho1_src]; · iexact Ho1_src
    isplitl [Ho2_src]; · iexact Ho2_src
    iexact Ho3_src
  sl_for (inv5 c (prodOf (codesOf U) W S (scalesOf U))) $$ [HB HO]
  · intro k acc
    exact step5 𝒱 c bd _ k acc
  · unfold inv5
    isplitr; · ipureintro; omega
    isplitl [HO]; · iexists _; iexact HO
    rw [if_pos (by omega)]
    iexact HB
  iintro %acc3 HI
  unfold inv5
  icases HI with ⟨-, ⟨%O3, HO⟩, HB⟩
  ihave HB := (Entails.of_eq (if_neg (by rw [show Scf.trips k0_t5_loop.lb k0_t5_loop.ub k0_t5_loop.st = 7 from t5_trips]; omega))) $$ HB
  icases HB with ⟨Hc11, HB⟩
  rw [show Scf.trips k0_t4_loop.lb k0_t4_loop.ub k0_t4_loop.st = 7 from t4_trips]
  sl_exec
  sl_step
  have hhs : ∀ j, body_run.sl.dma3 c U f12 j = hsOf (scalesOf U) j := by
    intro j
    sl_unfold_run_names
    exact hs_read f12 (scalesOf U) j
  isplitl [HX0 HU0 Hu0 Ho0_dst Ho0 HX1 HU1 Hu1 Ho1_dst Ho1 HX2 HU2 Hu2 Ho2_dst Ho2 HX3 HU3 Hu3 Ho3_dst Ho3]
  · rw [bigSep_chunks]
    isplitl [HX0 HU0 Hu0 Ho0_dst Ho0]
    · isplitl [HU0]; · iexact HU0
      isplitl [HX0]; · iexact HX0
      isplitl [Ho0_dst]; · iexact Ho0_dst
      isplitl [Hu0]; · iexact Hu0
      iexact Ho0
    isplitl [HX1 HU1 Hu1 Ho1_dst Ho1]
    · isplitl [HU1]; · iexact HU1
      isplitl [HX1]; · iexact HX1
      isplitl [Ho1_dst]; · iexact Ho1_dst
      isplitl [Hu1]; · iexact Hu1
      iexact Ho1
    isplitl [HX2 HU2 Hu2 Ho2_dst Ho2]
    · isplitl [HU2]; · iexact HU2
      isplitl [HX2]; · iexact HX2
      isplitl [Ho2_dst]; · iexact Ho2_dst
      isplitl [Hu2]; · iexact Hu2
      iexact Ho2
    · isplitl [HU3]; · iexact HU3
      isplitl [HX3]; · iexact HX3
      isplitl [Ho3_dst]; · iexact Ho3_dst
      isplitl [Hu3]; · iexact Hu3
      iexact Ho3
  isplitl [HW]; · iexact HW
  isplitl [HY]; · iexact HY
  isplitl [HC]; · iexact HC
  isplitl [HC']; · iexact HC'
  isplitl [HS]; · iexact HS
  isplitl [HS']; · iexists _; iexact HS'
  isplitl [HR]; · iexists _; iexact HR
  isplitl [HH]; · iexists _; iexact HH
  isplitl [HH']
  · rw [← pointsTo_landed (F := F) (c : Thread nD τ) a5.view fullShare a5.view.junk (hsOf (scalesOf U)) (body_run.sl.dma3 c U f12) (fun j => by rw [Rect.emb_whole_apply]; exact hhs j)]
    iexact HH'
  isplitl [HB]; · iexact HB
  isplitl [Hc9]; · iexact Hc9
  isplitl [Hc11]; · iexact Hc11
  isplitl [Hc12]; · iexact Hc12
  iexists _; iexact HO

end Cert.KernelIdeal.Hand

end
-- ==== Proof.KI.Region.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Loops
public import proofs.«01_k».proof.Proof.KI.Body
public import Idealize.ShloMosaic.Lib.Pipeline.FrameSuffixV
public import Idealize.ShloMosaic.Lib.Batch
public import Idealize.ShloMosaic.Lib.Ring
public import Idealize.ShloMosaic.Lib.Tactic

@[expose] public section

set_option maxRecDepth 16384
set_option maxHeartbeats 2000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The proof's resource algebra: the pipeline library's beside the transfers' counters. -/
local notation "𝕄" => MT nD τ sig Unit (Elt F) ℕ (Pipeline.UD sig nD τ) ℕ

/-! The region: what it is entered with and left with, and the run of the program around it. -/

/-- The arrays the kernel reads, and the results it writes. -/
def H0 : Finset (Ref sig .tc) := {main_v0, main_arg1, main_v1}
def R0 : Finset (Ref sig .tc) := {main_v2_0, main_v2_1, main_v2_2}
/-- The kernel's semaphore cells. -/
abbrev osem0 : Fin 21 → SemLoc sig := fun j => SemLoc.dma j
theorem ownSemFacts0 : Pipeline.OwnSemFacts (cfg0.spec) osem0 := by decide
theorem H0_sub : H0 ⊆ Pipeline.restRefs sig (cfg0.spec) := by decide
theorem R0_sub : R0 ⊆ Pipeline.restRefs sig (cfg0.spec) \ H0 := by decide

/-- A buffer owned whole, as the body owns it. -/
theorem whole_pt (r : Ref sig .tc) (c : Dev nD) (f : Buf (Elt F) ((c : Thread nD τ).loc r)) :
    (((c : Thread nD τ).loc r) ↦{fullShare} f : sProp 𝕄) = ((View.whole r).loc (c : Thread nD τ) ↦[(View.whole r).set]{fullShare} f) := by
  rw [View.set_whole]

theorem scoped_eq (c : Dev nD) :
    (Pipeline.scopedRest (Ix := Unit) (Name := ℕ) (U := Pipeline.UD sig nD τ) (Lvl := ℕ) (Val := Elt F) (cfg0.spec) c : sProp 𝕄) = iprop((∃ f, a6.view.loc (c : Thread nD τ) ↦[a6.view.set]{fullShare} f) ∗ (∃ f, a7.view.loc (c : Thread nD τ) ↦[a7.view.set]{fullShare} f) ∗ (∃ f, a8.view.loc (c : Thread nD τ) ↦[a8.view.set]{fullShare} f) ∗ (∃ f, a9.view.loc (c : Thread nD τ) ↦[a9.view.set]{fullShare} f) ∗ (∃ f, a10.view.loc (c : Thread nD τ) ↦[a10.view.set]{fullShare} f) ∗ (∃ f, a11.view.loc (c : Thread nD τ) ↦[a11.view.set]{fullShare} f) ∗ (∃ f, a12.view.loc (c : Thread nD τ) ↦[a12.view.set]{fullShare} f)) := by
  rw [scopedRest0_eq]
  simp only [whole_pt]
theorem sems_eq (c : Dev nD) :
    (Pipeline.ownSems0 (Ix := Unit) (Name := ℕ) (U := Pipeline.UD sig nD τ) (Lvl := ℕ) (Val := Elt F) (τ := τ) osem0 c : sProp 𝕄) = iprop(semVal ((c : Thread nD τ), SemLoc.dma (SemArray.sem (uCell (ch 0)))) 0 ∗ semVal ((c : Thread nD τ), SemLoc.dma (SemArray.sem (uCell (ch 1)))) 0 ∗ semVal ((c : Thread nD τ), SemLoc.dma (SemArray.sem (uCell (ch 2)))) 0 ∗ semVal ((c : Thread nD τ), SemLoc.dma (SemArray.sem (uCell (ch 3)))) 0 ∗ semVal ((c : Thread nD τ), SemLoc.dma (SemArray.sem (cellA 0))) 0 ∗ semVal ((c : Thread nD τ), SemLoc.dma (SemArray.sem (cellB 0))) 0 ∗ semVal ((c : Thread nD τ), SemLoc.dma (SemArray.sem (cellA 1))) 0 ∗ semVal ((c : Thread nD τ), SemLoc.dma (SemArray.sem (cellB 1))) 0 ∗ semVal ((c : Thread nD τ), SemLoc.dma (SemArray.sem (cellA 2))) 0 ∗ semVal ((c : Thread nD τ), SemLoc.dma (SemArray.sem (cellB 2))) 0 ∗ semVal ((c : Thread nD τ), SemLoc.dma (SemArray.sem (cellA 3))) 0 ∗ semVal ((c : Thread nD τ), SemLoc.dma (SemArray.sem (cellB 3))) 0 ∗ semVal ((c : Thread nD τ), SemLoc.dma (SemArray.sem (cellA 4))) 0 ∗ semVal ((c : Thread nD τ), SemLoc.dma (SemArray.sem (cellB 4))) 0 ∗ semVal ((c : Thread nD τ), SemLoc.dma (SemArray.sem cc0_scratch9)) 0 ∗ semVal ((c : Thread nD τ), SemLoc.dma (SemArray.sem (oCell (ch 0)))) 0 ∗ semVal ((c : Thread nD τ), SemLoc.dma (SemArray.sem (oCell (ch 1)))) 0 ∗ semVal ((c : Thread nD τ), SemLoc.dma (SemArray.sem (oCell (ch 2)))) 0 ∗ semVal ((c : Thread nD τ), SemLoc.dma (SemArray.sem (oCell (ch 3)))) 0 ∗ semVal ((c : Thread nD τ), SemLoc.dma (SemArray.sem cc0_scratch11)) 0 ∗ semVal ((c : Thread nD τ), SemLoc.dma (SemArray.sem cc0_scratch12)) 0) := by
  rw [Pipeline.ownSems0_eq_of_list c osem0 [0, 1, 2, 3, 4, 5, 6, 7, 8, 9, 10, 11, 12, 13, 14, 15, 16, 17, 18, 19, 20] (by decide) (by decide)]; rfl
theorem H0_eq (c : Dev nD) (V : (b : Ref sig .tc) → Buf (Elt F) ((c : Thread nD τ).loc b)) :
    (BI.bigSep H0 (fun b => ((c : Thread nD τ).loc b) ↦{fullShare} V b) : sProp 𝕄) = iprop((a0.view.loc (c : Thread nD τ) ↦[a0.view.set]{fullShare} V main_v0) ∗ (a1.view.loc (c : Thread nD τ) ↦[a1.view.set]{fullShare} V main_arg1) ∗ (a2.view.loc (c : Thread nD τ) ↦[a2.view.set]{fullShare} V main_v1)) := by
  rw [BI.bigSep_eq_bigSepL_of_eq [main_v0, main_arg1, main_v1] (by decide) (by decide)]
  simp only [whole_pt]; rfl
theorem R0_eq (c : Dev nD) (V : (b : Ref sig .tc) → Buf (Elt F) ((c : Thread nD τ).loc b)) :
    (BI.bigSep R0 (fun b => ((c : Thread nD τ).loc b) ↦{fullShare} V b) : sProp 𝕄) = iprop((a3.view.loc (c : Thread nD τ) ↦[a3.view.set]{fullShare} V main_v2_0) ∗ (a4.view.loc (c : Thread nD τ) ↦[a4.view.set]{fullShare} V main_v2_1) ∗ (a5.view.loc (c : Thread nD τ) ↦[a5.view.set]{fullShare} V main_v2_2)) := by
  rw [BI.bigSep_eq_bigSepL_of_eq [main_v2_0, main_v2_1, main_v2_2] (by decide) (by decide)]
  simp only [whole_pt]; rfl

/-- The slots' halves beside their cells. -/
theorem freeSlot_of (c : Dev nD) (s : Fin 5) : iprop(slotMem (F := F) c s ∗ (semVal ((c : Thread nD τ), SemLoc.dma (SemArray.sem (cellA s))) 0 ∗ semVal ((c : Thread nD τ), SemLoc.dma (SemArray.sem (cellB s))) 0)) ⊢ (freeSlot c s : sProp 𝕄) := by
  iintro ⟨⟨H1, H2⟩, H3, H4⟩
  isplitl [H1]; · iexact H1
  isplitl [H2]; · iexact H2
  isplitl [H3]; · iexact H3
  iexact H4
theorem of_freeSlot (c : Dev nD) (s : Fin 5) : (freeSlot c s : sProp 𝕄) ⊢ iprop(slotMem (F := F) c s ∗ (semVal ((c : Thread nD τ), SemLoc.dma (SemArray.sem (cellA s))) 0 ∗ semVal ((c : Thread nD τ), SemLoc.dma (SemArray.sem (cellB s))) 0)) := by
  iintro ⟨H1, H2, H3, H4⟩
  isplitl [H1 H2]
  · isplitl [H1]; · iexact H1
    iexact H2
  isplitl [H3]; · iexact H3
  iexact H4

/-- A buffer's rows, each at some contents. -/
theorem some_uRows (c : Dev nD) (f : BufTy.Contents (Elt F) a6.view.ty) : (a6.view.loc (c : Thread nD τ) ↦[a6.view.set]{fullShare} f : sProp 𝕄) ⊢ BI.bigSep Finset.univ fun r => iprop(∃ f, (uRows r).view.loc (c : Thread nD τ) ↦[(uRows r).view.set]{fullShare} f) := by
  rw [uRows_split]; exact BI.bigSep_mono fun r _ => show _ ⊢ iprop(∃ f, (uRows r).view.loc (c : Thread nD τ) ↦[(uRows r).view.set]{fullShare} f) by iintro H; iexists f; iexact H
theorem some_cRows (c : Dev nD) (f : BufTy.Contents (Elt F) a7.view.ty) : (a7.view.loc (c : Thread nD τ) ↦[a7.view.set]{fullShare} f : sProp 𝕄) ⊢ BI.bigSep Finset.univ fun r => iprop(∃ f, (cRows r).view.loc (c : Thread nD τ) ↦[(cRows r).view.set]{fullShare} f) := by
  rw [cRows_split]; exact BI.bigSep_mono fun r _ => show _ ⊢ iprop(∃ f, (cRows r).view.loc (c : Thread nD τ) ↦[(cRows r).view.set]{fullShare} f) by iintro H; iexists f; iexact H
theorem some_oRows (c : Dev nD) (f : BufTy.Contents (Elt F) a4.view.ty) : (a4.view.loc (c : Thread nD τ) ↦[a4.view.set]{fullShare} f : sProp 𝕄) ⊢ BI.bigSep Finset.univ fun r => iprop(∃ f, (oRows r).view.loc (c : Thread nD τ) ↦[(oRows r).view.set]{fullShare} f) := by
  rw [oRows_split]; exact BI.bigSep_mono fun r _ => show _ ⊢ iprop(∃ f, (oRows r).view.loc (c : Thread nD τ) ↦[(oRows r).view.set]{fullShare} f) by iintro H; iexists f; iexact H
theorem blk4_of (c : Dev nD) (i : Fin 7) (f : BufTy.Contents (Elt F) a9.view.ty) (g : BufTy.Contents (Elt F) a3.view.ty) :
    (iprop(((yBuf i).view.loc (c : Thread nD τ) ↦[(yBuf i).view.set]{fullShare} f) ∗ ((yBlk i).view.loc (c : Thread nD τ) ↦[(yBlk i).view.set]{fullShare} g)) : sProp 𝕄) ⊢ blk4 (F := F) c 0 i := by
  unfold blk4
  rw [if_neg (Nat.not_lt_zero _)]
  iintro ⟨H1, H2⟩
  isplitl [H1]; · iexists f; iexact H1
  iexists g; iexact H2
theorem some_blocks (c : Dev nD) (f : BufTy.Contents (Elt F) a9.view.ty) (g : BufTy.Contents (Elt F) a3.view.ty) :
    (iprop((a9.view.loc (c : Thread nD τ) ↦[a9.view.set]{fullShare} f) ∗ (a3.view.loc (c : Thread nD τ) ↦[a3.view.set]{fullShare} g)) : sProp 𝕄) ⊢ BI.bigSep Finset.univ (blk4 (F := F) c 0) := by
  rw [yBuf_split, yBlk_split, ← BI.bigSep_sep']
  exact BI.bigSep_mono fun i _ => blk4_of c i f g

/-- What the region is entered with is what the body starts from. -/
theorem enter (c : Dev nD) (V : (c : Dev nD) → (b : Ref sig .tc) → Buf (Elt F) ((c : Thread nD τ).loc b)) :
    (iprop(Pipeline.ΦDRV osem0 (cfg0.spec) H0 R0 V V c ∗ ∃ O, owes (c : Thread nD τ) 0 O) : sProp 𝕄) ⊢ bodyPre c (V c main_v0) (V c main_arg1) (V c main_v1) := by
  unfold Pipeline.ΦDRV bodyPre
  rw [scoped_eq, sems_eq, H0_eq, R0_eq, bigSep_chunks, bigSep_slots]
  iintro ⟨⟨⟨⟨%f6, H6⟩, ⟨%f7, H7⟩, H8, ⟨%f9, H9⟩, H10, H11, H12⟩, ⟨Hu0, Hu1, Hu2, Hu3, Hp0, Hq0, Hp1, Hq1, Hp2, Hq2, Hp3, Hq3, Hp4, Hq4, Hc9, Ho0, Ho1, Ho2, Ho3, Hc11, Hc12⟩, ⟨H0, H1, H2⟩, ⟨H3, H4, H5⟩⟩, HO⟩
  ihave HA := (Entails.of_eq ((aRows_split c fullShare (V c main_v0)).trans (bigSep_chunks _))) $$ H0
  ihave HU := ((some_uRows c f6).trans (Entails.of_eq (bigSep_chunks _))) $$ H6
  ihave HC := ((some_cRows c f7).trans (Entails.of_eq (bigSep_chunks _))) $$ H7
  ihave HD := ((some_oRows c (V c main_v2_1)).trans (Entails.of_eq (bigSep_chunks _))) $$ H4
  ihave HS := ((slots_split c).trans (Entails.of_eq (bigSep_slots _))) $$ H8
  icases HA with ⟨HA0, HA1, HA2, HA3⟩
  icases HU with ⟨HU0, HU1, HU2, HU3⟩
  icases HC with ⟨HC0, HC1, HC2, HC3⟩
  icases HD with ⟨HD0, HD1, HD2, HD3⟩
  icases HS with ⟨HS0, HS1, HS2, HS3, HS4⟩
  isplitl [HA0 HA1 HA2 HA3 HU0 HU1 HU2 HU3 HC0 HC1 HC2 HC3 HD0 HD1 HD2 HD3 Hu0 Hu1 Hu2 Hu3 Ho0 Ho1 Ho2 Ho3]
  · isplitl [HA0 HU0 HC0 HD0 Hu0 Ho0]
    · isplitl [HA0]; · iexact HA0
      isplitl [HU0]; · iexact HU0
      isplitl [HC0]; · iexact HC0
      isplitl [HD0]; · iexact HD0
      isplitl [Hu0]; · iexact Hu0
      iexact Ho0
    isplitl [HA1 HU1 HC1 HD1 Hu1 Ho1]
    · isplitl [HA1]; · iexact HA1
      isplitl [HU1]; · iexact HU1
      isplitl [HC1]; · iexact HC1
      isplitl [HD1]; · iexact HD1
      isplitl [Hu1]; · iexact Hu1
      iexact Ho1
    isplitl [HA2 HU2 HC2 HD2 Hu2 Ho2]
    · isplitl [HA2]; · iexact HA2
      isplitl [HU2]; · iexact HU2
      isplitl [HC2]; · iexact HC2
      isplitl [HD2]; · iexact HD2
      isplitl [Hu2]; · iexact Hu2
      iexact Ho2
    · isplitl [HA3]; · iexact HA3
      isplitl [HU3]; · iexact HU3
      isplitl [HC3]; · iexact HC3
      isplitl [HD3]; · iexact HD3
      isplitl [Hu3]; · iexact Hu3
      iexact Ho3
  isplitl [H1]; · iapply (Entails.of_eq (srcs_split c (V c main_arg1))); iexact H1
  isplitl [HS0 HS1 HS2 HS3 HS4 Hp0 Hq0 Hp1 Hq1 Hp2 Hq2 Hp3 Hq3 Hp4 Hq4]
  · isplitl [HS0 Hp0 Hq0]
    · iapply (freeSlot_of c 0)
      isplitl [HS0]; · iexact HS0
      isplitl [Hp0]; · iexact Hp0
      iexact Hq0
    isplitl [HS1 Hp1 Hq1]
    · iapply (freeSlot_of c 1)
      isplitl [HS1]; · iexact HS1
      isplitl [Hp1]; · iexact Hp1
      iexact Hq1
    isplitl [HS2 Hp2 Hq2]
    · iapply (freeSlot_of c 2)
      isplitl [HS2]; · iexact HS2
      isplitl [Hp2]; · iexact Hp2
      iexact Hq2
    isplitl [HS3 Hp3 Hq3]
    · iapply (freeSlot_of c 3)
      isplitl [HS3]; · iexact HS3
      isplitl [Hp3]; · iexact Hp3
      iexact Hq3
    · iapply (freeSlot_of c 4)
      isplitl [HS4]; · iexact HS4
      isplitl [Hp4]; · iexact Hp4
      iexact Hq4
  isplitl [H9 H3]
  · iapply (some_blocks c f9 (V c main_v2_0))
    isplitl [H9]; · iexact H9
    iexact H3
  isplitl [H2]; · iexact H2
  isplitl [H10]; · iexact H10
  isplitl [H11]; · iexact H11
  isplitl [H12]; · iexact H12
  isplitl [H5]; · iexists _; iexact H5
  isplitl [Hc9]; · iexact Hc9
  isplitl [Hc11]; · iexact Hc11
  isplitl [Hc12]; · iexact Hc12
  iexact HO

/-- The halves of a buffer's share. -/
theorem a7_join (c : Dev nD) (f : BufTy.Contents (Elt F) a7.view.ty) :
    (iprop((a7.view.loc (c : Thread nD τ) ↦[a7.view.set]{fullShare.left} f) ∗ (a7.view.loc (c : Thread nD τ) ↦[a7.view.set]{fullShare.right} f)) : sProp 𝕄) ⊢ (a7.view.loc (c : Thread nD τ) ↦[a7.view.set]{fullShare} f) :=
  (pointsTo_share (PosShare.mem_left_op_right fullShare)).2

/-- A slab read, with its slot free from slab 2 on: after the last trip the five slots are free again. -/
theorem slabs_end (c : Dev nD) (W : BufTy.Contents (Elt F) a1.view.ty) :
    (BI.bigSep Finset.univ (slab4 c W 7) : sProp 𝕄) ⊢ iprop(BI.bigSep Finset.univ (srcs (F := F) c W) ∗ BI.bigSep Finset.univ (freeSlot (F := F) c)) := by
  rw [BI.bigSep_congr (Ψ := fun i : Fin 7 => iprop(srcs (F := F) c W i ∗ if 2 ≤ i.val then freeSlot c (Ring.sl 5 i.val) else iprop(emp))) (fun i _ => by unfold slab4; rw [if_pos i.isLt]),
    BI.bigSep_sep', bigSep_slots, bigSep_slabs (fun i : Fin 7 => if 2 ≤ i.val then freeSlot c (Ring.sl 5 i.val) else iprop(emp))]
  have hk : ∀ (i : Fin 7) (s : Fin 5), 2 ≤ i.val → i.val % 5 = s.val → (if 2 ≤ i.val then freeSlot c (Ring.sl 5 i.val) else iprop(emp) : sProp 𝕄) = freeSlot c s := fun i s h2 hs => by
    rw [if_pos h2, show Ring.sl 5 i.val = s from Fin.ext ((sl5_val _).trans hs)]
  iintro ⟨H, -, -, H2, H3, H4, H5, H6⟩
  isplitl [H]; · iexact H
  isplitl [H5]; · iapply (Entails.of_eq (hk 5 0 (by decide) (by decide))); iexact H5
  isplitl [H6]; · iapply (Entails.of_eq (hk 6 1 (by decide) (by decide))); iexact H6
  isplitl [H2]; · iapply (Entails.of_eq (hk 2 2 (by decide) (by decide))); iexact H2
  isplitl [H3]; · iapply (Entails.of_eq (hk 3 3 (by decide) (by decide))); iexact H3
  iapply (Entails.of_eq (hk 4 4 (by decide) (by decide))); iexact H4
/-- The free slots' halves, and their cells. -/
theorem freeSlots_apart (c : Dev nD) : (BI.bigSep Finset.univ (freeSlot (F := F) c) : sProp 𝕄)
    ⊢ iprop(BI.bigSep Finset.univ (slotMem (F := F) c) ∗ BI.bigSep Finset.univ fun s => iprop(semVal ((c : Thread nD τ), SemLoc.dma (SemArray.sem (cellA s))) 0 ∗ semVal ((c : Thread nD τ), SemLoc.dma (SemArray.sem (cellB s))) 0)) := by
  rw [← BI.bigSep_sep']
  exact BI.bigSep_mono fun s _ => of_freeSlot c s

theorem yDone_two (c : Dev nD) (P : BufTy.Contents (Elt F) a9.view.ty) (i : Fin 7) : (yDone c P i : sProp 𝕄)
    ⊢ iprop(((yBlk i).view.loc (c : Thread nD τ) ↦[(yBlk i).view.set]{fullShare} P) ∗ ((yBuf i).view.loc (c : Thread nD τ) ↦[(yBuf i).view.set]{fullShare} P)) :=
  Entails.of_eq (by unfold yDone; rfl)
theorem yDone_apart (c : Dev nD) (P : BufTy.Contents (Elt F) a9.view.ty) : (BI.bigSep Finset.univ (yDone (F := F) c P) : sProp 𝕄)
    ⊢ iprop((a3.view.loc (c : Thread nD τ) ↦[a3.view.set]{fullShare} P) ∗ (a9.view.loc (c : Thread nD τ) ↦[a9.view.set]{fullShare} P)) := by
  rw [yBlk_split, yBuf_split, ← BI.bigSep_sep']
  exact BI.bigSep_mono fun i _ => yDone_two c P i

/-- What the body leaves is what the region is left with, the results at their contents. -/
theorem leave (c : Dev nD) (V G : (c : Dev nD) → (b : Ref sig .tc) → Buf (Elt F) ((c : Thread nD τ).loc b))
    (h0 : G c main_v2_0 = prodOf (codesOf (V c main_v0)) (V c main_arg1) (V c main_v1) (scalesOf (V c main_v0)))
    (h1 : G c main_v2_1 = codesOf (V c main_v0)) (h2 : G c main_v2_2 = hsOf (scalesOf (V c main_v0))) :
    bodyPost c (V c main_v0) (V c main_arg1) (V c main_v1) ⊢ (iprop(Pipeline.ΦDRV osem0 (cfg0.spec) H0 R0 V G c ∗ ∃ O, owes (c : Thread nD τ) 0 O) : sProp 𝕄) := by
  unfold Pipeline.ΦDRV bodyPost
  rw [scoped_eq, sems_eq, H0_eq, R0_eq, h0, h1, h2, bigSep_chunks]
  iintro ⟨⟨⟨HA0, HU0, HD0, Hu0, Ho0⟩, ⟨HA1, HU1, HD1, Hu1, Ho1⟩, ⟨HA2, HU2, HD2, Hu2, Ho2⟩, ⟨HA3, HU3, HD3, Hu3, Ho3⟩⟩, HW, -, HC, HC', H2, H10, H11, H12, H5, HY, Hc9, Hc11, Hc12, HO⟩
  ihave HW := (slabs_end c (V c main_arg1)) $$ HW
  icases HW with ⟨HW, HF⟩
  ihave HF := (freeSlots_apart c) $$ HF
  icases HF with ⟨HM, HF⟩
  ihave HF := (Entails.of_eq (bigSep_slots _)) $$ HF
  icases HF with ⟨⟨Hp0, Hq0⟩, ⟨Hp1, Hq1⟩, ⟨Hp2, Hq2⟩, ⟨Hp3, Hq3⟩, ⟨Hp4, Hq4⟩⟩
  ihave HY := (yDone_apart c _) $$ HY
  icases HY with ⟨HY3, HY9⟩
  isplitr [HO]; swap; · iexact HO
  isplitl [HU0 HU1 HU2 HU3 HC HC' HM HY9 H10 H11 H12]
  · isplitl [HU0 HU1 HU2 HU3]
    · iexists (V c main_v0)
      iapply (Entails.of_eq ((bigSep_chunks _).symm.trans (uRows_split c fullShare (V c main_v0)).symm))
      isplitl [HU0]; · iexact HU0
      isplitl [HU1]; · iexact HU1
      isplitl [HU2]; · iexact HU2
      iexact HU3
    isplitl [HC HC']
    · iexists _
      iapply (a7_join c _)
      isplitl [HC]; · iexact HC
      iexact HC'
    isplitl [HM]
    · iapply (slots_join c (fun _ => default))
      iexact HM
    isplitl [HY9]
    · iexists _; iexact HY9
    isplitl [H10]; · iexact H10
    isplitl [H11]; · iexact H11
    iexact H12
  isplitl [Hu0 Hu1 Hu2 Hu3 Hp0 Hq0 Hp1 Hq1 Hp2 Hq2 Hp3 Hq3 Hp4 Hq4 Hc9 Ho0 Ho1 Ho2 Ho3 Hc11 Hc12]
  · isplitl [Hu0]; · iexact Hu0
    isplitl [Hu1]; · iexact Hu1
    isplitl [Hu2]; · iexact Hu2
    isplitl [Hu3]; · iexact Hu3
    isplitl [Hp0]; · iexact Hp0
    isplitl [Hq0]; · iexact Hq0
    isplitl [Hp1]; · iexact Hp1
    isplitl [Hq1]; · iexact Hq1
    isplitl [Hp2]; · iexact Hp2
    isplitl [Hq2]; · iexact Hq2
    isplitl [Hp3]; · iexact Hp3
    isplitl [Hq3]; · iexact Hq3
    isplitl [Hp4]; · iexact Hp4
    isplitl [Hq4]; · iexact Hq4
    isplitl [Hc9]; · iexact Hc9
    isplitl [Ho0]; · iexact Ho0
    isplitl [Ho1]; · iexact Ho1
    isplitl [Ho2]; · iexact Ho2
    isplitl [Ho3]; · iexact Ho3
    isplitl [Hc11]; · iexact Hc11
    iexact Hc12
  isplitl [HA0 HA1 HA2 HA3 HW H2]
  · isplitl [HA0 HA1 HA2 HA3]
    · iapply (Entails.of_eq ((bigSep_chunks _).symm.trans (aRows_split c fullShare (V c main_v0)).symm))
      isplitl [HA0]; · iexact HA0
      isplitl [HA1]; · iexact HA1
      isplitl [HA2]; · iexact HA2
      iexact HA3
    isplitl [HW]; · iapply (Entails.of_eq (srcs_split c (V c main_arg1)).symm); iexact HW
    iexact H2
  isplitl [HY3]
  · iexact HY3
  isplitl [HD0 HD1 HD2 HD3]
  · iapply (Entails.of_eq ((bigSep_chunks _).symm.trans (oRows_split c fullShare _).symm))
    isplitl [HD0]; · iexact HD0
    isplitl [HD1]; · iexact HD1
    isplitl [HD2]; · iexact HD2
    iexact HD3
  iexact H5

end Cert.KernelIdeal.Hand

end
-- ==== Proof.KI.Run.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Loops
public import proofs.«01_k».proof.Proof.KI.Region
public import Idealize.ShloMosaic.Lib.Pipeline.FrameSuffixV
public import Idealize.ShloMosaic.Lib.Batch
public import Idealize.ShloMosaic.Lib.Ring
public import Idealize.ShloMosaic.Lib.Tactic
public import proofs.«01_k».proof.Proof.Gen.KernelIdeal.Frame

@[expose] public section

set_option maxRecDepth 16384
set_option maxHeartbeats 2000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The proof's resource algebra: the pipeline library's beside the transfers' counters. -/
local notation "𝕄" => MT nD τ sig Unit (Elt F) ℕ (Pipeline.UD sig nD τ) ℕ

/-! The run of the program around the region. -/

variable (m : (ℓ : Loc nD τ sig) → Buf (Elt F) ℓ) (ρ : Dev nD → PrngReg)

set_option maxHeartbeats 800000 in
/-- The host lines before the region, the region, the host lines after it. -/
theorem hmain' (𝒱₀ : Variants) : Pipeline.HMainK (Ix := Unit) (Name := ℕ) (U := Pipeline.UD sig nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact hostOps0_fresh) main_chain

/-- What the kernel leaves in its three results. -/
def yRes (c : Dev nD) : Buf (Elt F) ((c : Thread nD τ).loc main_v2_0) :=
  prodOf (codesOf (V m c main_v0)) (V m c main_arg1) (V m c main_v1) (scalesOf (V m c main_v0))
def cRes (c : Dev nD) : Buf (Elt F) ((c : Thread nD τ).loc main_v2_1) := codesOf (V m c main_v0)
def hRes (c : Dev nD) : Buf (Elt F) ((c : Thread nD τ).loc main_v2_2) := hsOf (scalesOf (V m c main_v0))

/-- The buffers at the region's end. -/
def G (c : Dev nD) : (b : Ref sig .tc) → Buf (Elt F) ((c : Thread nD τ).loc b) :=
  Function.update (Function.update (Function.update (V m c) main_v2_0 (yRes m c)) main_v2_1 (cRes m c)) main_v2_2 (hRes m c)
theorem G_0 (c : Dev nD) : G m c main_v2_0 = yRes m c := by
  unfold G
  rw [Function.update_of_ne (by decide), Function.update_of_ne (by decide), Function.update_self]
theorem G_1 (c : Dev nD) : G m c main_v2_1 = cRes m c := by
  unfold G
  rw [Function.update_of_ne (by decide), Function.update_self]
theorem G_2 (c : Dev nD) : G m c main_v2_2 = hRes m c := by
  unfold G
  rw [Function.update_self]

/-- The launch's data: no window; the invariant is the region's buffers, before the one step and after it. -/
def dats (_ : Fin 1) (c : Dev nD) : Pipeline.Dat τ (Elt F) Unit ℕ (Pipeline.UD sig nD τ) ℕ cfg0 c where
  A w := w.elim0
  after w _ := w.elim0
  Φ t := Pipeline.ΦDRV osem0 (cfg0.spec) H0 R0 (V m) (if t.val = 0 then V m else G m) c
  q _ := fullShare
  owed _ := 0

theorem defs₀_row (t : Fin cfg0.N) :
    defs₀ (F := F) .tc cfg0.body (cfg0.bodyArgs t (cfg0.slots t)) = bodyAt0 t := by
  unfold defs₀; rw [Defs.onTc_tc]

theorem body_whole (c : Dev nD) :
    (iprop(Pipeline.ΦDRV osem0 (cfg0.spec) H0 R0 (V m) (V m) c ∗ ∃ O, owes (c : Thread nD τ) 0 O) : sProp 𝕄)
    ⊢ wp frame (wpE (defs₀ (F := F)) Variants.none (c : Thread nD τ) none) Set.univ
      (cc0_prune_quant_down_proj (F := F) a0 (Memref.isWhole_whole _) a1 (Memref.isWhole_whole _) a2 (Memref.isWhole_whole _) a3 (Memref.isWhole_whole _) a4 (Memref.isWhole_whole _) a5 (Memref.isWhole_whole _) a6 (Memref.isWhole_whole _) a7 (Memref.isWhole_whole _) a8 (Memref.isWhole_whole _) a9 (Memref.isWhole_whole _) a10 (Memref.isWhole_whole _) a11 (Memref.isWhole_whole _) a12 (Memref.isWhole_whole _) cc0_scratch7 cc0_scratch8 cc0_scratch9 cc0_scratch10 cc0_scratch11 cc0_scratch12)
      (fun _ => iprop(Pipeline.ΦDRV osem0 (cfg0.spec) H0 R0 (V m) (G m) c ∗ ∃ O, owes (c : Thread nD τ) 0 O)) :=
  ((enter c (V m)).trans (body_run Variants.none c none _ _ _)).trans
    (wp_mono _ _ _ fun _ => leave c (V m) (G m) (G_0 m c) (G_1 m c) (G_2 m c))

theorem owes_of (c : Dev nD) (t : Fin (cfg0.N + 1)) : ((dats m 0 c).owesAt () t : sProp 𝕄) ⊢ iprop(∃ O, owes (c : Thread nD τ) 0 O) := by
  unfold Pipeline.Dat.owesAt Pipeline.owesWithin
  iintro ⟨%O, -, H⟩
  iexists O
  iexact H
theorem owes_to (c : Dev nD) (t : Fin (cfg0.N + 1)) : (iprop(∃ O, owes (c : Thread nD τ) 0 O) : sProp 𝕄) ⊢ (dats m 0 c).owesAt () t := by
  unfold Pipeline.Dat.owesAt Pipeline.owesWithin
  iintro ⟨%O, H⟩
  iexists O
  isplitr
  · ipureintro; exact fun _ _ => Or.inl trivial
  · iexact H
theorem phi_first (c : Dev nD) (t : Fin cfg0.N) : ((dats m 0 c).Φ t.castSucc : sProp 𝕄) = Pipeline.ΦDRV osem0 (cfg0.spec) H0 R0 (V m) (V m) c := by
  rw [fin_N0 t]
  unfold dats
  dsimp only
  rw [if_pos (by decide)]
theorem phi_last (c : Dev nD) (t : Fin (cfg0.N + 1)) (h : t.val ≠ 0) : ((dats m 0 c).Φ t : sProp 𝕄) = Pipeline.ΦDRV osem0 (cfg0.spec) H0 R0 (V m) (G m) c := by
  unfold dats
  dsimp only
  rw [if_neg h]
theorem no_windows (Ψ : Fin cfg0.W → sProp 𝕄) : BI.bigSep Finset.univ Ψ = (iprop(emp) : sProp 𝕄) := by
  rw [show (Finset.univ : Finset (Fin cfg0.W)) = ∅ from Finset.univ_eq_empty, BI.bigSep_empty]; rfl

theorem sound_body (c : Dev nD) (t : Fin cfg0.N) :
    (iprop((dats m 0 c).Φ t.castSucc ∗ (dats m 0 c).owesAt () t.castSucc ∗ emp) : sProp 𝕄)
    ⊢ wp frame (wpE (defs₀ (F := F)) Variants.none (c : Thread nD τ) none) Set.univ (bodyAt0 t)
      (fun _ => iprop((dats m 0 c).Φ t.succ ∗ (dats m 0 c).owesAt () t.succ ∗ emp)) := by
  rw [phi_first, phi_last m c t.succ (by simp)]
  refine BIBase.Entails.trans ?_ ((body_whole m c).trans (wp_mono _ _ _ fun _ => ?_))
  · iintro ⟨H, HO, -⟩
    isplitl [H]; · iexact H
    iapply (owes_of m c t.castSucc); iexact HO
  · iintro ⟨H, HO⟩
    isplitl [H]; · iexact H
    isplitl [HO]; · iapply (owes_to m c t.succ); iexact HO
    iempintro

theorem body_obligation (c : Dev nD) : Pipeline.BodyObligation (dats m 0 c) (defs₀ (F := F)) Variants.none () Set.univ := fun t => by
  rw [no_windows, no_windows, defs₀_row]
  exact sound_body m c t

/-- Every buffer the region does not own, after the run. -/
abbrev VF (c : Dev nD) (b : Ref sig .tc) : Buf (Elt F) ((c : Thread nD τ).loc b) :=
  StableHlo.after (List.flatten [hostOps1]) (Pipeline.withArrays (cfg0.spec) c (Pipeline.withR (V0 m c) R0 c (G m c)) fun w => (dats m 0 c).arrAt w cfg0.N) (Proc.devRef .tc b)

set_option backward.isDefEq.respectTransparency.types false in
theorem run_main : θ_run defs (onTc (τ := τ) (main (F := F))) (s₀ m ρ) (fun r => (∀ c : Dev nD, ∀ b ∈ Pipeline.restRefs sig (cfg0.spec),
      r.2.mem ((c.tc : Thread nD τ).loc b) = VF m c b) ∧ r.2.sem = fun _ => 0) :=
  Pipeline.θ_run_frame_dmaR_aroundV (Q' := _) cfgs (dats m) (0 : Fin 1) launch0 osem0 defs₀ Variants.none ownSemFacts0 H0 R0 H0_sub R0_sub m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps) (G := G m)
    (hmain := hmain' m Variants.none) (hA := fun _ w => w.elim0)
    (hin := fun c => Entails.of_eq rfl) (hout := fun c => Entails.of_eq (phi_last m c _ (by decide)))
    (hQ' := fun r h => ⟨fun c => (h.1 c).2, h.2⟩)

theorem VF_of_not_written (c : Dev nD) (b : Ref sig .tc) (h3 : b ≠ main_v3) (h4 : b ≠ main_v4) (h0 : b ∉ R0) : VF m c b = V m c b := by
  unfold VF
  refine (StableHlo.after_of_forall_not_mem (b := Proc.devRef .tc b) _ _ (List.forall_iff_forall_mem.mp (by
    simp only [hostOps1, List.flatten_cons, List.flatten_nil, List.append_nil, List.cons_append,
      List.nil_append, List.Forall, StableHlo.reshape_writes, Finset.mem_singleton]
    exact ⟨StableHlo.devRef_ne_of_ne h3, StableHlo.devRef_ne_of_ne h4⟩))).trans ?_
  rw [Pipeline.withArrays_of_ne _ c _ _ b (fun w => w.elim0)]
  exact Pipeline.withR_of_not_mem _ _ _ _ _ h0
theorem before_tail (c : Dev nD) (b : Ref sig .tc) (h0 : b ∈ R0) :
    Pipeline.withArrays (cfg0.spec) c (Pipeline.withR (V0 m c) R0 c (G m c)) (fun w => (dats m 0 c).arrAt w cfg0.N) (Proc.devRef .tc b) = G m c b := by
  rw [Pipeline.withArrays_of_ne _ c _ _ b (fun w => w.elim0)]
  exact Pipeline.withR_of_mem _ _ _ _ _ h0

/-- The results after the whole program. -/
theorem VF_h (c : Dev nD) : VF m c main_v2_2 = hRes m c := by
  unfold VF
  refine (StableHlo.after_of_forall_not_mem (b := Proc.devRef .tc main_v2_2) _ _ (List.forall_iff_forall_mem.mp (by
    simp only [hostOps1, List.flatten_cons, List.flatten_nil, List.append_nil, List.cons_append,
      List.nil_append, List.Forall, StableHlo.reshape_writes, Finset.mem_singleton]
    exact ⟨StableHlo.devRef_ne_of_ne (by decide), StableHlo.devRef_ne_of_ne (by decide)⟩))).trans ?_
  rw [before_tail m c main_v2_2 (by decide), G_2]

/-- The program runs to its end, its arguments unchanged, its results as computed, every counter back at zero. -/
theorem run_results : θ_run defs (onTc (τ := τ) (main (F := F))) ⟨m, fun _ => 0, ρ⟩ (fun r => (∀ c : Dev nD,
      (r.2.mem ((c.tc : Thread nD τ).loc main_v3) = VF m c main_v3
      ∧ r.2.mem ((c.tc : Thread nD τ).loc main_v4) = VF m c main_v4
      ∧ r.2.mem ((c.tc : Thread nD τ).loc main_v2_2) = hRes m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r h => ⟨fun c => ⟨⟨h.1 c main_v3 (Pipeline.mem_restRefs_of main_v3 (by decide) (by decide)),
      h.1 c main_v4 (Pipeline.mem_restRefs_of main_v4 (by decide) (by decide)),
      (h.1 c main_v2_2 (Pipeline.mem_restRefs_of main_v2_2 (by decide) (by decide))).trans (VF_h m c)⟩,
      ((h.1 c main_arg0 (Pipeline.mem_restRefs_of main_arg0 (by decide) (by decide))).trans (VF_of_not_written m c main_arg0 (by decide) (by decide) (by decide))).trans (V_main_arg0 m c),
      ((h.1 c main_arg1 (Pipeline.mem_restRefs_of main_arg1 (by decide) (by decide))).trans (VF_of_not_written m c main_arg1 (by decide) (by decide) (by decide))).trans (V_main_arg1 m c),
      ((h.1 c main_arg2 (Pipeline.mem_restRefs_of main_arg2 (by decide) (by decide))).trans (VF_of_not_written m c main_arg2 (by decide) (by decide) (by decide))).trans (V_main_arg2 m c)⟩, h.2⟩) (run_main m ρ)

/-- The frame. -/
theorem unchanged : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r h => ⟨fun c => (h.1 c).2, h.2⟩) (run_results m ρ)

end Cert.KernelIdeal.Hand

end
-- ==== Proof.V.Num.lean ====
module

public import Idealize.ShloMosaic.PureOps.Ideal

@[expose] public section

noncomputable section

namespace Cert.V

open Idealize.ShloMosaic

/-! Powers of two, by their bits, by a search for the exponent and by counting. -/

/-- The number whose single-precision bits have exponent field `k` and no fraction. -/
def thr (k : ℕ) : EReal := Ideal.ieee 8 23 (BitVec.ofNat 32 k <<< 23)

theorem field_exp : ∀ k : Fin 256, ((BitVec.ofNat 32 k.val <<< 23).extractLsb' 23 8).toNat = k.val := by decide +kernel
theorem field_frac : ∀ k : Fin 256, ((BitVec.ofNat 32 k.val <<< 23).extractLsb' 0 23).toNat = 0 := by decide +kernel
theorem field_sign : ∀ k : Fin 256, ((BitVec.ofNat 32 k.val <<< 23).extractLsb' 31 1 == 1#1) = false := by decide +kernel

theorem thr_zero : thr 0 = 0 := by
  have a := field_exp 0; have b := field_frac 0; have c := field_sign 0
  simp only [Fin.val_zero] at a b c
  simp [thr, Ideal.ieee, a, b, c]
theorem thr_top : thr 255 = ⊤ := by
  have a := field_exp 255; have b := field_frac 255; have c := field_sign 255
  have e : ((255 : Fin 256).val) = 255 := rfl
  rw [e] at a b c
  simp [thr, Ideal.ieee, a, b, c]
theorem thr_pos {k : ℕ} (h0 : 1 ≤ k) (h1 : k ≤ 254) : thr k = (((2 : ℝ) ^ ((k : ℤ) - 127) : ℝ) : EReal) := by
  have a := field_exp ⟨k, by omega⟩; have b := field_frac ⟨k, by omega⟩; have c := field_sign ⟨k, by omega⟩
  simp only [Fin.val_mk] at a b c
  have n1 : k ≠ 255 := by omega
  have n0 : k ≠ 0 := by omega
  simp only [thr, Ideal.ieee, a, b, c]
  norm_num [n1, n0]
  have e : (k : ℤ) - 127 = 23 + ((k : ℤ) - 127 - 23) := by ring
  have e2 : ((2 : ℝ) ^ ((k : ℤ) - 127)) = 8388608 * (2 : ℝ) ^ ((k : ℤ) - 127 - 23) := by
    rw [e, zpow_add₀ (by norm_num)]; norm_num
  rw [e2, EReal.coe_mul]

theorem thr_le {j k : ℕ} (h : j ≤ k) (h1 : k ≤ 255) : thr j ≤ thr k := by
  rcases Nat.eq_zero_or_pos j with rfl | hj
  · rcases Nat.eq_zero_or_pos k with rfl | hk
    · exact le_rfl
    · rcases Nat.lt_or_ge k 255 with h2 | h2
      · rw [thr_zero, thr_pos hk (by omega)]; exact_mod_cast (zpow_pos (by norm_num : (0 : ℝ) < 2) _).le
      · obtain rfl : k = 255 := by omega
        rw [thr_top]; exact le_top
  · rcases Nat.lt_or_ge k 255 with h2 | h2
    · rw [thr_pos hj (by omega), thr_pos (by omega) (by omega)]
      exact EReal.coe_le_coe_iff.mpr (zpow_le_zpow_right₀ (by norm_num) (by omega))
    · obtain rfl : k = 255 := by omega
      rw [thr_top]; exact le_top

/-- A power of two of an integer exponent. -/
theorem exp2_int (z : ℤ) (b : BitVec 32) (h : b.toInt = z) : Ideal.exp2 (((b.toInt : ℝ) : EReal)) = (((2 : ℝ) ^ z : ℝ) : EReal) := by
  subst h
  show ((Real.rpow 2 (b.toInt : ℝ) : ℝ) : EReal) = _
  rw [show Real.rpow 2 (b.toInt : ℝ) = (2 : ℝ) ^ (b.toInt : ℝ) from rfl, Real.rpow_intCast]

/-- One step of the search: the bit is kept where the number reaches the power. -/
def stp (b : EReal) (w e : BitVec 32) : BitVec 32 := if Ideal.ieee 8 23 ((e + w) <<< 23) ≤ b then e + w else e

/-- What holds before the step of bit `w / 2`: the field lies in `[k, k + w)`. -/
def Within (b : EReal) (w : ℕ) (e : BitVec 32) : Prop := ∃ k : ℕ, e = BitVec.ofNat 32 k ∧ k + w ≤ 256 ∧ thr k ≤ b ∧ (k + w = 256 ∨ b < thr (k + w))

theorem stp_within {b : EReal} {w : ℕ} {e : BitVec 32} (hw : 0 < w) (h : Within b (2 * w) e) : Within b w (stp b (BitVec.ofNat 32 w) e) := by
  obtain ⟨k, rfl, h1, h2, h3⟩ := h
  have e1 : BitVec.ofNat 32 k + BitVec.ofNat 32 w = BitVec.ofNat 32 (k + w) := (BitVec.ofNat_add ..).symm
  have e2 : stp b (BitVec.ofNat 32 w) (BitVec.ofNat 32 k) = if thr (k + w) ≤ b then BitVec.ofNat 32 (k + w) else BitVec.ofNat 32 k := by
    unfold stp; rw [e1]; rfl
  rw [e2]
  by_cases hb : thr (k + w) ≤ b
  · rw [if_pos hb]
    exact ⟨k + w, rfl, by omega, hb, by rw [show k + w + w = k + 2 * w by omega]; exact h3⟩
  · rw [if_neg hb]
    exact ⟨k, rfl, by omega, h2, .inr (lt_of_not_ge hb)⟩

/-- The eight steps. -/
def search (b : EReal) : BitVec 32 := stp b 1#32 (stp b 2#32 (stp b 4#32 (stp b 8#32 (stp b 16#32 (stp b 32#32 (stp b 64#32 (stp b 128#32 0#32)))))))

theorem search_spec {b : EReal} (h0 : 0 ≤ b) (h1 : b < thr 253) : ∃ k : ℕ, search b = BitVec.ofNat 32 k ∧ k ≤ 252 ∧ thr k ≤ b ∧ b < thr (k + 1) := by
  have h : Within b (2 * 128) 0#32 := ⟨0, rfl, by norm_num, by rw [thr_zero]; exact h0, .inl rfl⟩
  obtain ⟨k, a, c, d, e⟩ := stp_within (w := 1) (by norm_num) (stp_within (w := 2) (by norm_num) (stp_within (w := 4) (by norm_num) (stp_within (w := 8) (by norm_num)
    (stp_within (w := 16) (by norm_num) (stp_within (w := 32) (by norm_num) (stp_within (w := 64) (by norm_num) (stp_within (w := 128) (by norm_num) h)))))))
  have hk : k ≤ 252 := by
    by_contra hc
    exact absurd (lt_of_lt_of_le h1 (thr_le (j := 253) (k := k) (by omega) (by omega))) (not_lt.mpr d)
  exact ⟨k, a, hk, d, e.resolve_left (by omega)⟩

/-- The exponent from its field. -/
def expo (e : BitVec 32) : BitVec 32 := if e = 0#32 then 0#32 else e - 126#32

theorem expo_bounds : ∀ k : Fin 253, (expo (BitVec.ofNat 32 k.val) = BitVec.ofInt 32 (if k.val = 0 then 0 else (k.val : ℤ) - 126))
    ∧ (expo (BitVec.ofNat 32 k.val)).toInt = (if k.val = 0 then 0 else (k.val : ℤ) - 126)
    ∧ (0#32 - expo (BitVec.ofNat 32 k.val)).toInt = -(if k.val = 0 then 0 else (k.val : ℤ) - 126)
    ∧ (127#32 + expo (BitVec.ofNat 32 k.val)) = BitVec.ofNat 32 (if k.val = 0 then 127 else k.val + 1)
    ∧ (127#32 - expo (BitVec.ofNat 32 k.val)) = BitVec.ofNat 32 (if k.val = 0 then 127 else 253 - k.val) := by decide +kernel

/-- The scale from its bits is the power of two of the exponent. -/
theorem scale_eq {k : ℕ} (h : k ≤ 252) : Ideal.ieee 8 23 ((127#32 + expo (BitVec.ofNat 32 k)) <<< 23) = Ideal.exp2 ((((expo (BitVec.ofNat 32 k)).toInt : ℝ) : EReal)) := by
  obtain ⟨-, a, -, b, -⟩ := expo_bounds ⟨k, by omega⟩
  simp only [Fin.val_mk] at a b
  rw [exp2_int _ _ a, b]
  by_cases h0 : k = 0
  · subst h0; exact (thr_pos (k := 127) (by norm_num) (by norm_num)).trans (by norm_num)
  · rw [if_neg h0, if_neg h0]
    refine (thr_pos (k := k + 1) (by omega) (by omega)).trans ?_
    rw [show ((k + 1 : ℕ) : ℤ) - 127 = (k : ℤ) - 126 by push_cast; ring]
/-- The same of its inverse. -/
theorem inv_eq {k : ℕ} (h : k ≤ 252) : Ideal.ieee 8 23 ((127#32 - expo (BitVec.ofNat 32 k)) <<< 23) = Ideal.exp2 ((((0#32 - expo (BitVec.ofNat 32 k)).toInt : ℝ) : EReal)) := by
  obtain ⟨-, -, a, -, b⟩ := expo_bounds ⟨k, by omega⟩
  simp only [Fin.val_mk] at a b
  rw [exp2_int _ _ a, b]
  by_cases h0 : k = 0
  · subst h0; exact (thr_pos (k := 127) (by norm_num) (by norm_num)).trans (by norm_num)
  · rw [if_neg h0, if_neg h0]
    refine (thr_pos (k := 253 - k) (by omega) (by omega)).trans ?_
    rw [show ((253 - k : ℕ) : ℤ) - 127 = -((k : ℤ) - 126) by rw [Nat.cast_sub (by omega)]; push_cast; ring]

/-- The power the count compares with at place `j`. -/
theorem power_eq : ∀ j : Fin 254, (BitVec.ofNat 32 j.val - 126#32).toInt = (j.val : ℤ) - 126 := by decide +kernel
theorem power_thr (j : Fin 254) : Ideal.exp2 ((((BitVec.ofNat 32 j.val - 126#32).toInt : ℝ) : EReal)) = thr (j.val + 1) := by
  rw [exp2_int _ _ (power_eq j), thr_pos (by omega) (by omega)]
  rw [show ((j.val + 1 : ℕ) : ℤ) - 127 = (j.val : ℤ) - 126 by push_cast; ring]

/-- The count of the powers that the number reaches is the field the search finds. -/
theorem count_eq {b : EReal} (h0 : 0 ≤ b) (h1 : b < thr 253) {v : BitVec 32}
    (hv : v.toNat = ∑ j : Fin 254, if thr (j.val + 1) ≤ b then 1 else 0) : v = search b := by
  obtain ⟨k, e, hk, h2, h3⟩ := search_spec h0 h1
  have hj (j : Fin 254) : (thr (j.val + 1) ≤ b) ↔ j.val < k := by
    constructor
    · intro h
      by_contra hc
      exact absurd (lt_of_lt_of_le h3 (thr_le (j := k + 1) (k := j.val + 1) (by omega) (by omega))) (not_lt.mpr h)
    · intro h
      exact le_trans (thr_le (by omega) (by omega)) h2
  simp only [hj, Finset.sum_boole, Nat.cast_id, Fin.card_filter_val_lt] at hv
  rw [e]
  apply BitVec.eq_of_toNat_eq
  rw [hv, BitVec.toNat_ofNat]
  omega

end Cert.V
end
-- ==== Proof.V.Spec.lean ====
module

public import proofs.«01_k».proof.Proof.V.Num
public import Idealize.ShloMosaic.Lib.Pointwise

@[expose] public section

noncomputable section

namespace Cert.V

open Idealize.ShloMosaic

/-! One row's pruning, bound, scale and codes, as functions of the row's positive parts. -/

/-- An entry of a group of four is kept if fewer than two come before it: the greater ones, and the equal ones to its left. -/
def Keeps (f : Fin 4 → EReal) (i : Fin 4) : Prop := (∑ l : Fin 4, if f i < f l ∨ (f l = f i ∧ l < i) then 1 else 0) < 2

instance (f : Fin 4 → EReal) (i : Fin 4) : Decidable (Keeps f i) := inferInstanceAs (Decidable (_ < 2))

/-- The other lanes of a group, by distance. -/
def lane (k : ℕ) (i : Fin 4) : Fin 4 := ⟨(i.val ^^^ k) % 4, by omega⟩

/-- The neighbour comes before. -/
def Beaten (f : Fin 4 → EReal) (i : Fin 4) : Prop := f i ≤ f (lane 1 i) ∧ (i.val % 2 = 1 ∨ f i < f (lane 1 i))
/-- Of the other pair, the entry that decides. -/
def rival (f : Fin 4 → EReal) (i : Fin 4) : EReal := by
  classical exact if Beaten f i then max (f (lane 2 i)) (f (lane 3 i)) else min (f (lane 2 i)) (f (lane 3 i))
/-- The entry is dropped. -/
def Drops (f : Fin 4 → EReal) (i : Fin 4) : Prop := f i ≤ rival f i ∧ (2 ≤ i.val ∨ f i < rival f i)

/-- Comparing pair against pair finds the entries with fewer than two before them. -/
theorem drops_iff (f : Fin 4 → EReal) (i : Fin 4) : Drops f i ↔ ¬ Keeps f i := by
  have h (a b : EReal) : (a < b ∧ ¬ b = a ∧ a ≤ b) ∨ (¬ a < b ∧ b = a ∧ a ≤ b) ∨ (¬ a < b ∧ ¬ b = a ∧ ¬ a ≤ b) := by
    rcases lt_trichotomy a b with h | h | h
    · exact .inl ⟨h, h.ne', h.le⟩
    · exact .inr (.inl ⟨h ▸ lt_irrefl _, h.symm, h.le⟩)
    · exact .inr (.inr ⟨h.le.not_gt, h.ne, h.not_ge⟩)
  unfold Drops Keeps rival Beaten
  rw [Fin.sum_univ_four]
  fin_cases i
  · rcases h (f 0) (f 1) with ⟨a1, a2, a3⟩ | ⟨a1, a2, a3⟩ | ⟨a1, a2, a3⟩ <;> rcases h (f 0) (f 2) with ⟨b1, b2, b3⟩ | ⟨b1, b2, b3⟩ | ⟨b1, b2, b3⟩ <;> rcases h (f 0) (f 3) with ⟨c1, c2, c3⟩ | ⟨c1, c2, c3⟩ | ⟨c1, c2, c3⟩ <;>
      simp [lane, a1, a2, a3, b1, b2, b3, c1, c2, c3]
  · rcases h (f 1) (f 0) with ⟨a1, a2, a3⟩ | ⟨a1, a2, a3⟩ | ⟨a1, a2, a3⟩ <;> rcases h (f 1) (f 2) with ⟨b1, b2, b3⟩ | ⟨b1, b2, b3⟩ | ⟨b1, b2, b3⟩ <;> rcases h (f 1) (f 3) with ⟨c1, c2, c3⟩ | ⟨c1, c2, c3⟩ | ⟨c1, c2, c3⟩ <;>
      simp [lane, a1, a2, a3, b1, b2, b3, c1, c2, c3]
  · rcases h (f 2) (f 0) with ⟨a1, a2, a3⟩ | ⟨a1, a2, a3⟩ | ⟨a1, a2, a3⟩ <;> rcases h (f 2) (f 1) with ⟨b1, b2, b3⟩ | ⟨b1, b2, b3⟩ | ⟨b1, b2, b3⟩ <;> rcases h (f 2) (f 3) with ⟨c1, c2, c3⟩ | ⟨c1, c2, c3⟩ | ⟨c1, c2, c3⟩ <;>
      simp [lane, a1, a2, a3, b1, b2, b3, c1, c2, c3]
  · rcases h (f 3) (f 0) with ⟨a1, a2, a3⟩ | ⟨a1, a2, a3⟩ | ⟨a1, a2, a3⟩ <;> rcases h (f 3) (f 1) with ⟨b1, b2, b3⟩ | ⟨b1, b2, b3⟩ | ⟨b1, b2, b3⟩ <;> rcases h (f 3) (f 2) with ⟨c1, c2, c3⟩ | ⟨c1, c2, c3⟩ | ⟨c1, c2, c3⟩ <;>
      simp [lane, a1, a2, a3, b1, b2, b3, c1, c2, c3]

/-- A row's entries lie between zero and the greatest number the activation keeps. -/
def InRange (x : Fin 18944 → EReal) : Prop := ∀ o, 0 ≤ x o ∧ x o ≤ (((2 : ℝ) ^ 64 : ℝ) : EReal)

/-- The group of an entry, its lane, and what pruning and squaring leave of the entry. -/
def grp (x : Fin 18944 → EReal) (o : Fin 18944) (l : Fin 4) : EReal := x ⟨o.val / 4 * 4 + l.val, by omega⟩
def lan (o : Fin 18944) : Fin 4 := ⟨o.val % 4, by omega⟩
def kept (x : Fin 18944 → EReal) (o : Fin 18944) : EReal := if Keeps (grp x o) (lan o) then x o * x o else 0

theorem grp_lan (x : Fin 18944 → EReal) (o : Fin 18944) : grp x o (lan o) = x o := by
  unfold grp lan
  congr 1
  apply Fin.ext
  show o.val / 4 * 4 + o.val % 4 = o.val
  omega

/-- The row's greatest entry after pruning. -/
def amax (x : Fin 18944 → EReal) : EReal := Finset.univ.fold max ⊥ (kept x)

theorem amax_le (x : Fin 18944 → EReal) (z : EReal) : amax x ≤ z ↔ ∀ o, kept x o ≤ z := by
  unfold amax
  rw [Finset.fold_max_le]
  simp

theorem kept_nonneg {x : Fin 18944 → EReal} (hx : InRange x) (o : Fin 18944) : 0 ≤ kept x o := by
  unfold kept
  split
  · exact mul_nonneg (hx o).1 (hx o).1
  · exact le_rfl
theorem kept_le {x : Fin 18944 → EReal} (hx : InRange x) (o : Fin 18944) : kept x o ≤ x o * x o := by
  unfold kept
  split
  · exact le_rfl
  · exact mul_nonneg (hx o).1 (hx o).1

/-- The greatest entry survives pruning, so the row's bound is the square of the greatest entry. -/
theorem amax_eq {x : Fin 18944 → EReal} (hx : InRange x) {M : EReal} (hM : ∀ z, M ≤ z ↔ 0 ≤ z ∧ ∀ o, x o ≤ z) : amax x = M * M := by
  have h0 : 0 ≤ M := ((hM M).mp le_rfl).1
  have h1 : ∀ o, x o ≤ M := ((hM M).mp le_rfl).2
  refine le_antisymm ((amax_le ..).mpr fun o => (kept_le hx o).trans (mul_le_mul (h1 o) (h1 o) (hx o).1 h0)) ?_
  obtain ⟨o, ho, hlt⟩ : ∃ o, (∀ p, x p ≤ x o) ∧ ∀ p, p < o → x p < x o := by
    obtain ⟨q, -, hq⟩ := Finset.exists_max_image (Finset.univ : Finset (Fin 18944)) x ⟨0, Finset.mem_univ _⟩
    obtain ⟨o, ho, hmin⟩ := Finset.exists_min_image (Finset.univ.filter fun p => x q ≤ x p) (fun p => p) ⟨q, by simp⟩
    have hqo : x q ≤ x o := (Finset.mem_filter.mp ho).2
    refine ⟨o, fun p => (hq p (Finset.mem_univ _)).trans hqo, fun p hp => ?_⟩
    by_contra hc
    exact absurd (hmin p (Finset.mem_filter.mpr ⟨Finset.mem_univ _, hqo.trans (not_lt.mp hc)⟩)) (not_le.mpr hp)
  have hMo : M = x o := le_antisymm ((hM _).mpr ⟨(hx o).1, ho⟩) (h1 o)
  have hk : Keeps (grp x o) (lan o) := by
    unfold Keeps
    rw [grp_lan, Finset.sum_eq_zero]
    · norm_num
    · intro l _
      rw [if_neg]
      rintro (h | ⟨h, hl⟩)
      · exact absurd h (not_lt.mpr (ho _))
      · have := hlt ⟨o.val / 4 * 4 + l.val, by omega⟩ (by
          have : l.val < o.val % 4 := hl
          show o.val / 4 * 4 + l.val < o.val
          omega)
        exact absurd h this.ne
  have hv : kept x o = M * M := by
    unfold kept
    rw [if_pos hk, hMo]
  rw [← hv]
  exact ((amax_le x _).mp le_rfl) o

/-- The factor between a row's greatest entry and the bound of its scale. -/
def factor : EReal := Ideal.ieee 8 23 0x3B124925#32

theorem factor_real : ∃ r : ℝ, factor = (r : EReal) ∧ 0 ≤ r ∧ r ≤ 2⁻¹ ^ 8 := by
  have a : ((0x3B124925#32).extractLsb' 23 8).toNat = 118 := by decide
  have b : ((0x3B124925#32).extractLsb' 0 23).toNat = 1198373 := by decide
  have c : ((0x3B124925#32).extractLsb' 31 1 == 1#1) = false := by decide
  refine ⟨(2 ^ 23 + 1198373 : ℕ) * (2 : ℝ) ^ ((118 : ℤ) - 127 - 23), ?_, by positivity, by norm_num⟩
  unfold factor Ideal.ieee
  simp only [a, b, c]
  norm_num

/-- The bound of a row's scale. -/
def bnd (x : Fin 18944 → EReal) : EReal := amax x * factor

theorem bnd_range {x : Fin 18944 → EReal} (hx : InRange x) : 0 ≤ bnd x ∧ bnd x < thr 253 := by
  obtain ⟨r, e, h0, h1⟩ := factor_real
  have ha : 0 ≤ amax x := (kept_nonneg hx 0).trans (((amax_le x _).mp le_rfl) 0)
  have hb : amax x ≤ (((2 : ℝ) ^ 128 : ℝ) : EReal) := (amax_le ..).mpr fun o => (kept_le hx o).trans ((mul_le_mul (hx o).2 (hx o).2 (hx o).1 (by exact_mod_cast (by positivity : (0 : ℝ) ≤ 2 ^ 64))).trans (by
    rw [← EReal.coe_mul]
    exact EReal.coe_le_coe_iff.mpr (by norm_num)))
  have hr : (0 : EReal) ≤ (r : EReal) := by exact_mod_cast h0
  refine ⟨by unfold bnd; rw [e]; exact mul_nonneg ha hr, ?_⟩
  unfold bnd
  rw [e]
  refine lt_of_le_of_lt (mul_le_mul hb (EReal.coe_le_coe_iff.mpr h1) hr (by exact_mod_cast (by positivity : (0 : ℝ) ≤ 2 ^ 128))) ?_
  rw [thr_pos (by norm_num) (by norm_num), ← EReal.coe_mul]
  exact EReal.coe_lt_coe_iff.mpr (by norm_num)

/-- The exponent's field, the scale, its inverse and the codes of a row. -/
def fld (x : Fin 18944 → EReal) : BitVec 32 := search (bnd x)
def scl (x : Fin 18944 → EReal) : EReal := Ideal.exp2 ((((expo (fld x)).toInt : ℝ) : EReal))
def inv (x : Fin 18944 → EReal) : EReal := Ideal.exp2 ((((0#32 - expo (fld x)).toInt : ℝ) : EReal))
def code (x : Fin 18944 → EReal) (o : Fin 18944) : EReal :=
  min (Ideal.ofBits .f32 0x43E00000#32) (max (Ideal.ofBits .f32 0xC3E00000#32) (kept x o * inv x))

/-- The positive parts of a row of the activations. -/
def row (U : (⟨3, ![1, 128, 18944]⟩ : Shape).Idx → EReal) (r : Fin 128) (o : Fin 18944) : EReal := max (U (ix3 0 r o)) 0

/-- The scale and its inverse from their bits. -/
theorem scl_bits {x : Fin 18944 → EReal} (hx : InRange x) : Ideal.ieee 8 23 ((127#32 + expo (fld x)) <<< 23) = scl x := by
  obtain ⟨h0, h1⟩ := bnd_range hx
  obtain ⟨k, e, hk, -⟩ := search_spec h0 h1
  unfold scl fld
  rw [e]
  exact scale_eq hk
theorem inv_bits {x : Fin 18944 → EReal} (hx : InRange x) : Ideal.ieee 8 23 ((127#32 - expo (fld x)) <<< 23) = inv x := by
  obtain ⟨h0, h1⟩ := bnd_range hx
  obtain ⟨k, e, hk, -⟩ := search_spec h0 h1
  unfold inv fld
  rw [e]
  exact inv_eq hk

/-- The field is none of the two that mark no number. -/
theorem fld_ne {x : Fin 18944 → EReal} (hx : InRange x) : fld x ≠ 255#32 := by
  obtain ⟨h0, h1⟩ := bnd_range hx
  obtain ⟨k, e, hk, -⟩ := search_spec h0 h1
  unfold fld
  rw [e]
  intro h
  have := congrArg BitVec.toNat h
  rw [BitVec.toNat_ofNat] at this
  simp at this
  omega

end Cert.V
end
-- ==== Proof.V.KMax.lean ====
module

public import proofs.«01_k».proof.Proof.KI.Vals
public import proofs.«01_k».proof.Proof.V.Spec
public import Idealize.ShloMosaic.Lib.Pointwise

@[expose] public section

set_option maxRecDepth 16384

noncomputable section

namespace Cert.KernelIdeal.Hand

open Cert.KernelIdeal Cert.KernelIdeal.Gen
open Idealize.ShloMosaic Idealize.ShloMosaic.TcCoe Idealize.SL.Sem

/-! The greatest entry of a row, as the kernel combines it, and the row's bound. -/

section
variable {s : Shape}

theorem pairUp_le (y : s.Idx) (z : EReal) (l : List (FVec Ideal s .bf16)) : (∀ v ∈ pairUp maximumf l, (v y : EReal) ≤ z) ↔ ∀ v ∈ l, (v y : EReal) ≤ z := by
  induction l using pairUp.induct with
  | case1 a b l ih =>
    unfold pairUp
    rw [List.forall_mem_cons, ih, List.forall_mem_cons, List.forall_mem_cons, ← and_assoc]
    exact and_congr_left fun _ => max_le_iff
  | case2 l h => rw [pairUp.eq_2 _ _ h]

theorem pairUp_length (l : List (FVec Ideal s .bf16)) : (pairUp maximumf l).length = (l.length + 1) / 2 := by
  induction l using pairUp.induct with
  | case1 a b l ih => unfold pairUp; simp only [List.length_cons, ih]; omega
  | case2 l h =>
    rw [pairUp.eq_2 _ _ h]
    match l, h with
    | [], _ => simp
    | [a], _ => simp
    | a :: b :: l, h => exact absurd rfl (h a b l)

theorem pairUps_le (y : s.Idx) (z : EReal) (n : ℕ) (l : List (FVec Ideal s .bf16)) : (∀ v ∈ (pairUp maximumf)^[n] l, (v y : EReal) ≤ z) ↔ ∀ v ∈ l, (v y : EReal) ≤ z := by
  induction n generalizing l with
  | zero => rfl
  | succ n ih => rw [Function.iterate_succ_apply, ih, pairUp_le]

end

/-- One trip's maximum is the least number above the old one and the trip's tiles. -/
theorem maxStep_le (X : BufTy.Contents (Elt Ideal) a6.view.ty) (r k : ℕ) (acc : FVec Ideal S32x128 .bf16) (y : S32x128.Idx) (z : EReal) :
    (maxStep X r k acc y : EReal) ≤ z ↔ (acc y : EReal) ≤ z ∧ ∀ j : Fin 37, (xTile X r (37 * k + j.val) y : EReal) ≤ z := by
  have h := pairUps_le y z 6 (acc :: List.ofFn fun j : Fin 37 => xTile X r (37 * k + j.val))
  have hl : ((pairUp maximumf)^[6] (acc :: List.ofFn fun j : Fin 37 => xTile X r (37 * k + j.val))).length = 1 := by
    simp only [Function.iterate_succ_apply, Function.iterate_zero_apply, pairUp_length, List.length_cons, List.length_ofFn]
  unfold maxStep
  revert h hl
  generalize (pairUp maximumf)^[6] (acc :: List.ofFn fun j : Fin 37 => xTile X r (37 * k + j.val)) = L
  intro h hl
  obtain ⟨v, rfl⟩ := List.length_eq_one_iff.mp hl
  rw [List.forall_mem_singleton, List.forall_mem_cons, List.forall_mem_ofFn_iff] at h
  exact h

theorem maxSt_le (X : BufTy.Contents (Elt Ideal) a6.view.ty) (r : ℕ) (init : FVec Ideal S32x128 .bf16) (y : S32x128.Idx) (z : EReal) (k : ℕ) :
    (maxSt X r init k y : EReal) ≤ z ↔ (init y : EReal) ≤ z ∧ ∀ t < 37 * k, (xTile X r t y : EReal) ≤ z := by
  induction k with
  | zero => exact ⟨fun h => ⟨h, fun t ht => absurd ht (by omega)⟩, fun h => h.1⟩
  | succ k ih =>
    show (maxStep X r k (maxSt X r init k) y : EReal) ≤ z ↔ _
    rw [maxStep_le, ih, and_assoc]
    refine and_congr_right fun _ => ⟨fun h t ht => ?_, fun h => ⟨fun t ht => h t (by omega), fun j => h _ (by omega)⟩⟩
    by_cases hk : t < 37 * k
    · exact h.1 t hk
    · have := h.2 ⟨t - 37 * k, by omega⟩
      rwa [show 37 * k + (t - 37 * k) = t by omega] at this

theorem zero_bf16 : Ideal.ofBits .bf16 0x0000#16 = 0 := by
  show Ideal.ieee 8 7 0x0000#16 = 0
  have a : ((0x0000#16).extractLsb' 7 8).toNat = 0 := by decide
  have b : ((0x0000#16).extractLsb' 0 7).toNat = 0 := by decide
  simp [Ideal.ieee, a, b]

theorem top_bf16 : Ideal.ofBits .bf16 0x5F80#16 = (((2 : ℝ) ^ 64 : ℝ) : EReal) := by
  show Ideal.ieee 8 7 0x5F80#16 = _
  have a : ((0x5F80#16).extractLsb' 7 8).toNat = 191 := by decide
  have b : ((0x5F80#16).extractLsb' 0 7).toNat = 0 := by decide
  have c : ((0x5F80#16).extractLsb' 15 1 == 1#1) = false := by decide
  unfold Ideal.ieee
  simp only [a, b, c]
  norm_num

theorem tileMax_le (U : BufTy.Contents (Elt Ideal) a6.view.ty) (q : ℕ) (y : S32x128.Idx) (z : EReal) :
    (tileMax U q y : EReal) ≤ z ↔ 0 ≤ z ∧ ∀ t < 148, (xTile U q t y : EReal) ≤ z := by
  unfold tileMax
  rw [maxSt_le]
  have h : (k0_pay185 (F := Ideal) y : EReal) = 0 := zero_bf16
  rw [h]

/-- The bound's parts: the capped maxima, the greatest of a row's lanes, and its scaled square. -/
def capped (T : FVec Ideal S32x128 .bf16) : FVec Ideal S32x128 .f32 := extf .f32 (minimumf T (broadcast S32x128 (Scalar.ofBits .bf16 0x5F80#16))) bitsLt_bf16_f32
def greatest (T : FVec Ideal S32x128 .f32) : FVec Ideal S32 .f32 := multiReduction .maximumf [1] S32 T 0xFF800000#32 reduces_S32x128_S32 (.inl rfl) rfl
def spread (M : FVec Ideal S32 .f32) : FVec Ideal S32x128 .f32 := broadcastTo S32x128 (shapeCast S32x1 (shapeCast S32x1 M shapeCasts_S32_S32x1) shapeCasts_S32x1_S32x1) broadcasts_S32x1_S32x128
def squared (M : FVec Ideal S32x128 .f32) : FVec Ideal S32x128 .f32 := mulf (mulf M M) (broadcast S32x128 (Scalar.ofBits .f32 0x3B124925#32))

theorem pay189_parts (T : FVec Ideal S32x128 .bf16) : k0_pay189 T = squared (spread (greatest (capped T))) := rfl

theorem capped_at (T : FVec Ideal S32x128 .bf16) (a : Fin 32) (b : Fin 128) : capped T (ix2 a b) = (min (T (ix2 a b)) (Ideal.ofBits .bf16 0x5F80#16) : EReal) := by
  pointwise [capped]
theorem greatest_at (T : FVec Ideal S32x128 .f32) (a : Fin 32) : greatest T (ix1 a) = (Finset.univ.fold max (Ideal.ofBits .f32 0xFF800000#32) fun l : Fin 128 => (T (ix2 a l) : EReal) : EReal) := by
  pointwise [greatest]
theorem spread_at (M : FVec Ideal S32 .f32) (a : Fin 32) (b : Fin 128) : spread M (ix2 a b) = M (ix1 a) := by
  pointwise [spread]
theorem squared_at (M : FVec Ideal S32x128 .f32) (a : Fin 32) (b : Fin 128) : squared M (ix2 a b) = ((M (ix2 a b) : EReal) * (M (ix2 a b) : EReal) * Ideal.ofBits .f32 0x3B124925#32 : EReal) := by
  pointwise [squared]

theorem bottom_f32 : Ideal.ofBits .f32 0xFF800000#32 = ⊥ := by
  show Ideal.ieee 8 23 0xFF800000#32 = ⊥
  have a : ((0xFF800000#32).extractLsb' 23 8).toNat = 255 := by decide
  have b : ((0xFF800000#32).extractLsb' 0 23).toNat = 0 := by decide
  have c : ((0xFF800000#32).extractLsb' 31 1 == 1#1) = true := by decide
  simp [Ideal.ieee, a, b, c]

variable (U : BufTy.Contents (Elt Ideal) a6.view.ty) {x : Fin 18944 → EReal} (hx : Cert.V.InRange x) (r : Fin 128)
  (hU : ∀ o : Fin 18944, max ((show S128x18944.Idx → EReal from U) (ix2 r o)) 0 = x o)

theorem xTile_at (t : ℕ) (ht : t < 148) (b : Fin 128) :
    (xTile U (r.val / 32) t (ix2 ⟨r.val % 32, Nat.mod_lt _ (by decide)⟩ b) : EReal) = (show S128x18944.Idx → EReal from U) (ix2 r ⟨128 * t + b.val, by omega⟩) := by
  have h : atU (32 * (r.val / 32) + r.val % 32) (128 * t + b.val) = ix2 r ⟨128 * t + b.val, by omega⟩ := by
    unfold atU at2
    congr 1
    · apply Fin.ext; show (32 * (r.val / 32) + r.val % 32) % 128 = r.val; omega
    · apply Fin.ext; show (128 * t + b.val) % 18944 = 128 * t + b.val; omega
  exact congrArg (show S128x18944.Idx → EReal from U) h

include hx hU in
theorem bound_at (b : Fin 128) : (boundOf U (r.val / 32) (ix2 ⟨r.val % 32, Nat.mod_lt _ (by decide)⟩ b) : EReal) = Cert.V.bnd x := by
  unfold boundOf
  rw [pay189_parts, squared_at, spread_at, greatest_at, bottom_f32]
  have hle (z : EReal) (l : Fin 128) : (tileMax U (r.val / 32) (ix2 ⟨r.val % 32, Nat.mod_lt _ (by decide)⟩ l) : EReal) ≤ z ↔ 0 ≤ z ∧ ∀ t : Fin 148, x ⟨128 * t.val + l.val, by omega⟩ ≤ z := by
    rw [tileMax_le]
    refine and_congr_right fun hz => ⟨fun h t => ?_, fun h t ht => ?_⟩
    · rw [← hU]
      refine max_le ?_ hz
      rw [← xTile_at U r t.val t.isLt l]
      exact h t.val t.isLt
    · rw [xTile_at U r t ht l]
      refine le_trans (le_max_left _ 0) ?_
      rw [hU]
      exact h ⟨t, ht⟩
  have hM : ∀ z : EReal, (Finset.univ.fold max ⊥ fun l : Fin 128 => (capped (tileMax U (r.val / 32)) (ix2 ⟨r.val % 32, Nat.mod_lt _ (by decide)⟩ l) : EReal)) ≤ z ↔ 0 ≤ z ∧ ∀ o, x o ≤ z := by
    intro z
    have hc (l : Fin 128) : (capped (tileMax U (r.val / 32)) (ix2 ⟨r.val % 32, Nat.mod_lt _ (by decide)⟩ l) : EReal) = tileMax U (r.val / 32) (ix2 ⟨r.val % 32, Nat.mod_lt _ (by decide)⟩ l) := by
      rw [capped_at, top_bf16]
      refine min_eq_left ((hle _ l).mpr ⟨(hx 0).1.trans (hx 0).2, fun t => (hx _).2⟩)
    rw [Finset.fold_max_le]
    constructor
    · rintro ⟨-, h⟩
      have h' (l : Fin 128) := (hle z l).mp (by rw [← hc]; exact h l (Finset.mem_univ _))
      refine ⟨(h' 0).1, fun o => ?_⟩
      have := (h' ⟨o.val % 128, by omega⟩).2 ⟨o.val / 128, by omega⟩
      have e : (⟨128 * (o.val / 128) + o.val % 128, by omega⟩ : Fin 18944) = o := Fin.ext (by show 128 * (o.val / 128) + o.val % 128 = o.val; omega)
      rw [← e]
      exact this
    · rintro ⟨h0, h⟩
      refine ⟨bot_le, fun l _ => ?_⟩
      rw [hc]
      exact (hle z l).mpr ⟨h0, fun t => h _⟩
  unfold Cert.V.bnd
  rw [Cert.V.amax_eq hx hM]
  rfl

end Cert.KernelIdeal.Hand
end
-- ==== Proof.V.KExp.lean ====
module

public import proofs.«01_k».proof.Proof.KI.Vals
public import proofs.«01_k».proof.Proof.V.Spec
public import Idealize.ShloMosaic.Lib.Pointwise

@[expose] public section

set_option maxRecDepth 16384

noncomputable section

namespace Cert.KernelIdeal.Hand

open Cert.KernelIdeal Cert.KernelIdeal.Gen
open Idealize.ShloMosaic Idealize.ShloMosaic.TcCoe Idealize.SL.Sem

/-! The kernel's search for the exponent's field of a row's bound, and the scale and its inverse. -/

/-- Whether the bound reaches the power of two whose field is `e + w`, and one step of the search. -/
def reach (B : FVec Ideal S32x128 .f32) (w : BitVec 32) (e : IVec S32x128 32) : IVec S32x128 1 :=
  cmpf .oge B (bitcastToFloat .f32 (shli (addi e (broadcast S32x128 w)) (broadcast S32x128 23#32)))
def advance (t : IVec S32x128 1) (w : BitVec 32) (e : IVec S32x128 32) : IVec S32x128 32 := select t (addi e (broadcast S32x128 w)) e
def stepV (B : FVec Ideal S32x128 .f32) (w : BitVec 32) (e : IVec S32x128 32) : IVec S32x128 32 := advance (reach B w e) w e
/-- The exponent of a field. -/
def unbias (v : IVec S32x128 32) : IVec S32x128 32 :=
  select (ori (cmpi .eq v (broadcast S32x128 0#32)) (cmpi .eq v (broadcast S32x128 255#32))) (broadcast S32x128 0#32) (subi v (broadcast S32x128 126#32))
/-- The floats of given fields. -/
def fieldUp (e : IVec S32x128 32) : FVec Ideal S32x128 .f32 := bitcastToFloat .f32 (shli (addi (broadcast S32x128 127#32) e) (broadcast S32x128 23#32))
def fieldDown (e : IVec S32x128 32) : FVec Ideal S32x128 .f32 := bitcastToFloat .f32 (shli (subi (broadcast S32x128 127#32) e) (broadcast S32x128 23#32))

theorem reach_at (B : FVec Ideal S32x128 .f32) (w : BitVec 32) (e : IVec S32x128 32) (y : S32x128.Idx) :
    reach B w e y = BitVec.ofBool (decide (Ideal.ieee 8 23 ((e y + w) <<< 23) ≤ (B y : EReal))) := rfl

theorem stepV_at (B : FVec Ideal S32x128 .f32) (w : BitVec 32) (e : IVec S32x128 32) (y : S32x128.Idx) : stepV B w e y = Cert.V.stp (B y) w (e y) := by
  show Scalar.select (reach B w e y) (e y + w) (e y) = _
  rw [reach_at]
  unfold Cert.V.stp
  by_cases h : Ideal.ieee 8 23 ((e y + w) <<< 23) ≤ (B y : EReal)
  · rw [if_pos h, decide_eq_true h]; rfl
  · rw [if_neg h, decide_eq_false h]; rfl

theorem unbias_at (v : IVec S32x128 32) (y : S32x128.Idx) (h : v y ≠ 255#32) : unbias v y = Cert.V.expo (v y) := by
  show Scalar.select (IntOp.ori (BitVec.ofBool (v y == 0#32)) (BitVec.ofBool (v y == 255#32))) 0#32 (v y - 126#32) = _
  rw [beq_false_of_ne h]
  unfold Cert.V.expo
  by_cases h0 : v y = 0#32
  · rw [if_pos h0, h0]; rfl
  · rw [if_neg h0, beq_false_of_ne h0]; rfl

theorem pay190_parts (T : FVec Ideal S32x128 .bf16) : k0_pay190 T = stepV (k0_pay189 T) 128#32 (broadcast S32x128 0#32) := rfl
theorem pay191_parts (T : FVec Ideal S32x128 .bf16) : k0_pay191 T = reach (k0_pay189 T) 64#32 (k0_pay190 T) := rfl
theorem pay192_parts (B : FVec Ideal S32x128 .f32) (e : IVec S32x128 32) (t : IVec S32x128 1) :
    k0_pay192 B e t = stepV B 4#32 (stepV B 8#32 (stepV B 16#32 (stepV B 32#32 (advance t 64#32 e)))) := rfl
theorem pay193_parts (B : FVec Ideal S32x128 .f32) (e : IVec S32x128 32) (t : IVec S32x128 1) : k0_pay193 B e t = reach B 2#32 (k0_pay192 B e t) := rfl
theorem pay194_parts (B : FVec Ideal S32x128 .f32) (e : IVec S32x128 32) (t : IVec S32x128 1) : k0_pay194 B e t = unbias (stepV B 1#32 (advance t 2#32 e)) := rfl
theorem pay195_parts (B : FVec Ideal S32x128 .f32) (e : IVec S32x128 32) (t : IVec S32x128 1) : k0_pay195 B e t = fieldDown (k0_pay194 B e t) := rfl
theorem cast_same (v : FVec Ideal S32x128 .f32) : shapeCast S32x128 v shapeCasts_S32x128_S32x128 = v := by
  funext y
  exact congrArg v (by simp)
theorem pay196_parts (B : FVec Ideal S32x128 .f32) (e : IVec S32x128 32) (t : IVec S32x128 1) : k0_pay196 B e t = fieldUp (k0_pay194 B e t) :=
  cast_same (fieldUp (k0_pay194 B e t))

variable (U : BufTy.Contents (Elt Ideal) a6.view.ty) {x : Fin 18944 → EReal} (hx : Cert.V.InRange x) (q : ℕ) (y : S32x128.Idx)
  (hB : (boundOf U q y : EReal) = Cert.V.bnd x)
include hx hB

theorem field_at : stepV (boundOf U q) 1#32 (advance (lastOf U q) 2#32 (expoOf U q)) y = Cert.V.fld x := by
  have h : stepV (boundOf U q) 1#32 (advance (lastOf U q) 2#32 (expoOf U q)) y = Cert.V.search (boundOf U q y) := by
    have e : advance (lastOf U q) 2#32 (expoOf U q) = stepV (boundOf U q) 2#32 (stepV (boundOf U q) 4#32 (stepV (boundOf U q) 8#32 (stepV (boundOf U q) 16#32 (stepV (boundOf U q) 32#32 (stepV (boundOf U q) 64#32 (stepV (boundOf U q) 128#32 (broadcast S32x128 0#32))))))) := by
      unfold lastOf expoOf
      rw [pay193_parts, pay192_parts, pay191_parts, pay190_parts]
      rfl
    rw [e]
    simp only [stepV_at]
    unfold Cert.V.search
    rfl
  rw [h, hB]
  rfl

theorem exponent_at : k0_pay194 (boundOf U q) (expoOf U q) (lastOf U q) y = Cert.V.expo (Cert.V.fld x) := by
  rw [pay194_parts, unbias_at, field_at U hx q y hB]
  rw [field_at U hx q y hB]
  exact Cert.V.fld_ne hx

theorem scl_at : (sclOf U q y : EReal) = Cert.V.scl x := by
  unfold sclOf
  rw [pay196_parts, ← Cert.V.scl_bits hx, ← exponent_at U hx q y hB]
  rfl

theorem inv_at : (invOf U q y : EReal) = Cert.V.inv x := by
  unfold invOf
  rw [pay195_parts, ← Cert.V.inv_bits hx, ← exponent_at U hx q y hB]
  rfl

end Cert.KernelIdeal.Hand
end
-- ==== Proof.V.KCode.lean ====
module

public import proofs.«01_k».proof.Proof.V.KMax
public import proofs.«01_k».proof.Proof.V.KExp
public import Idealize.ShloMosaic.Lib.Pointwise

@[expose] public section

set_option maxRecDepth 16384

noncomputable section

namespace Cert.KernelIdeal.Hand

open Cert.KernelIdeal Cert.KernelIdeal.Gen
open Idealize.ShloMosaic Idealize.ShloMosaic.TcCoe Idealize.SL.Sem

/-! The kernel's pruning and its codes. -/

theorem cast_same' {α : Type} (v : S32x128.Idx → α) : shapeCast S32x128 v shapeCasts_S32x128_S32x128 = v := by
  funext y
  exact congrArg v (by simp)

theorem iota_at (a : Fin 32) (b : Fin 128) : iota .tc S32x128 32 [1] iota_S32x128_d1_w32 (ix2 a b) = BitVec.ofNat 32 b.val := by
  pointwise []

theorem there_back (v : IVec S32x128 32) (a : Fin 32) (b : Fin 128) :
    shapeCast S32x128 (shapeCast S32x128x1 v shapeCasts_S32x128_S32x128x1) shapeCasts_S32x128x1_S32x128 (ix2 a b) = v (ix2 a b) := by
  pointwise []

/-- The lanes of a tile, moved to where an array of lane numbers says. -/
def permute (I : IVec S32x128 32) (Z : FVec Ideal S32x128 .bf16) : FVec Ideal S32x128 .bf16 :=
  truncf .bf16 (dynamicGather 1 (extf .f32 Z bitsLt_bf16_f32) (shapeCast S32x128 (shapeCast S32x128x1 (select (cmpi .slt I (broadcast S32x128 0#32)) (addi I (broadcast S32x128 128#32)) I) shapeCasts_S32x128_S32x128x1) shapeCasts_S32x128x1_S32x128)) bitsLt_bf16_f32

theorem lane_word : ∀ c : Fin 128, (Scalar.select (IntOp.cmpi .slt (BitVec.ofNat 32 c.val) 0#32) (IntOp.addi (BitVec.ofNat 32 c.val) 128#32) (BitVec.ofNat 32 c.val)).toNat % 128 = c.val := by decide +kernel

theorem permute_at (I : IVec S32x128 32) (Z : FVec Ideal S32x128 .bf16) (a : Fin 32) (b c : Fin 128) (h : I (ix2 a b) = BitVec.ofNat 32 c.val) :
    permute I Z (ix2 a b) = Z (ix2 a c) := by
  have hs : (shapeCast S32x128 (shapeCast S32x128x1 (select (cmpi .slt I (broadcast S32x128 0#32)) (addi I (broadcast S32x128 128#32)) I) shapeCasts_S32x128_S32x128x1) shapeCasts_S32x128x1_S32x128 (ix2 a b)).toNat % 128 = c.val := by
    rw [there_back]
    show (Scalar.select (IntOp.cmpi .slt (I (ix2 a b)) 0#32) (IntOp.addi (I (ix2 a b)) 128#32) (I (ix2 a b))).toNat % 128 = c.val
    rw [h]
    exact lane_word c
  refine congrArg Z ?_
  funext d
  match d with
  | 0 => rfl
  | 1 => exact Fin.ext hs

theorem word_one : ∀ b : Fin 128, IntOp.xori (BitVec.ofNat 32 b.val) 1#32 = BitVec.ofNat 32 (b.val ^^^ 1) := by decide +kernel
theorem word_two : ∀ b : Fin 128, IntOp.xori (BitVec.ofNat 32 b.val) 2#32 = BitVec.ofNat 32 (b.val ^^^ 2) := by decide +kernel
theorem word_three : ∀ b : Fin 128, IntOp.xori (BitVec.ofNat 32 b.val) 3#32 = BitVec.ofNat 32 (b.val ^^^ 3) := by decide +kernel
theorem odd_word : ∀ b : Fin 128, IntOp.cmpi .eq (Scalar.select (IntOp.cmpi .eq (IntOp.andi (BitVec.ofNat 32 b.val) 1#32) 0#32) 65537#32 0#32) 0#32 = BitVec.ofBool (decide (b.val % 4 % 2 = 1)) := by decide +kernel
theorem high_word : ∀ b : Fin 128, IntOp.cmpi .eq (Scalar.select (IntOp.cmpi .eq (IntOp.andi (BitVec.ofNat 32 b.val) 2#32) 0#32) 65537#32 0#32) 0#32 = BitVec.ofBool (decide (2 ≤ b.val % 4)) := by decide +kernel
theorem lane_xor : ∀ b : Fin 128, ∀ k : Fin 4, b.val / 4 * 4 + ((b.val % 4) ^^^ k.val) % 4 = b.val ^^^ k.val := by decide +kernel
theorem xor_lt (b : Fin 128) (k : Fin 4) : b.val ^^^ k.val < 128 := Nat.xor_lt_two_pow (n := 7) b.isLt (by omega)

theorem select_and {α : Type} (p q r : Bool) (a b : α) : Scalar.select (IntOp.andi (BitVec.ofBool p) (IntOp.ori (BitVec.ofBool q) (BitVec.ofBool r))) a b = if p = true ∧ (q = true ∨ r = true) then a else b := by
  cases p <;> cases q <;> cases r <;> rfl

/-- A code from the entry and its group, by comparing pair against pair. -/
theorem pay8_at (v90 : IVec S32x128 32) (w : FVec Ideal S32x128 .f32) (X P Q R : FVec Ideal S32x128 .bf16) (v83 : IVec S32x128 32) (y : S32x128.Idx) :
    (k0_pay8 v90 w X Q R (cmpf .oge P X) (k0_pay6 v83) (cmpf .ogt P X) y : EReal) =
      (let V : EReal := Scalar.select (IntOp.andi (BitVec.ofBool (decide ((X y : EReal) ≤ P y))) (IntOp.ori (IntOp.cmpi .eq (v83 y) 0#32) (BitVec.ofBool (decide ((X y : EReal) < P y))))) (max (Q y : EReal) (R y)) (min (Q y : EReal) (R y))
       let K : EReal := Scalar.select (IntOp.andi (BitVec.ofBool (decide ((X y : EReal) ≤ V))) (IntOp.ori (IntOp.cmpi .eq (v90 y) 0#32) (BitVec.ofBool (decide ((X y : EReal) < V))))) (Ideal.ofBits .bf16 0x0000#16) (X y)
       min (Ideal.ofBits .f32 0x43E00000#32) (max (Ideal.ofBits .f32 0xC3E00000#32) (K * K * w y))) := by
  unfold k0_pay8
  rw [cast_same']
  rfl

variable (U : BufTy.Contents (Elt Ideal) a6.view.ty) {x : Fin 18944 → EReal} (hx : Cert.V.InRange x) (r : Fin 128)
  (hU : ∀ o : Fin 18944, max ((show S128x18944.Idx → EReal from U) (ix2 r o)) 0 = x o)

include hx hU in
theorem entry_at (t : ℕ) (ht : t < 148) (b : Fin 128) :
    (k0_pay1 (xTile U (r.val / 32) t) (ix2 ⟨r.val % 32, Nat.mod_lt _ (by decide)⟩ b) : EReal) = x ⟨128 * t + b.val, by omega⟩ := by
  show (min (Ideal.ofBits .bf16 0x5F80#16) (max (Ideal.ofBits .bf16 0x0000#16) (xTile U (r.val / 32) t (ix2 ⟨r.val % 32, Nat.mod_lt _ (by decide)⟩ b))) : EReal) = _
  rw [xTile_at U r t ht b, zero_bf16, top_bf16, max_comm, hU]
  exact min_eq_right (hx _).2

include hx hU in
/-- The kernel's code at one position. -/
theorem code_at (o : Fin 18944) : ((show S128x18944.Idx → EReal from codesOf U) (ix2 r o) : EReal) = Cert.V.code x o := by
  have hat : atT r.val o.val = ix2 ⟨r.val % 32, Nat.mod_lt _ (by decide)⟩ ⟨o.val % 128, Nat.mod_lt _ (by decide)⟩ := rfl
  show (codeAt k0_pay212 k0_pay213 k0_pay214 k0_pay215 k0_pay216 (invOf U (r.val / 32)) U (r.val / 32) (ix2 r o) : EReal) = _
  have hinv : (invOf U (r.val / 32) (ix2 ⟨r.val % 32, Nat.mod_lt _ (by decide)⟩ ⟨o.val % 128, Nat.mod_lt _ (by decide)⟩) : EReal) = Cert.V.inv x :=
    inv_at U hx _ _ (bound_at U hx r hU _)
  have ht : o.val / 128 < 148 := by omega
  have hX := entry_at U hx r hU (o.val / 128) ht ⟨o.val % 128, Nat.mod_lt _ (by decide)⟩
  have hxo : x ⟨128 * (o.val / 128) + o.val % 128, by omega⟩ = x o := congrArg x (Fin.ext (by show 128 * (o.val / 128) + o.val % 128 = o.val; omega))
  have hP (k : Fin 4) (I : IVec S32x128 32) (hI : I (ix2 ⟨r.val % 32, Nat.mod_lt _ (by decide)⟩ ⟨o.val % 128, Nat.mod_lt _ (by decide)⟩) = BitVec.ofNat 32 (o.val % 128 ^^^ k.val)) :
      (permute I (k0_pay1 (xTile U (r.val / 32) (o.val / 128))) (ix2 ⟨r.val % 32, Nat.mod_lt _ (by decide)⟩ ⟨o.val % 128, Nat.mod_lt _ (by decide)⟩) : EReal) = Cert.V.grp x o (Cert.V.lane k.val (Cert.V.lan o)) := by
    rw [permute_at I _ _ _ ⟨o.val % 128 ^^^ k.val, xor_lt ⟨o.val % 128, Nat.mod_lt _ (by decide)⟩ k⟩ hI, entry_at U hx r hU _ ht]
    refine congrArg x (Fin.ext ?_)
    have h := lane_xor ⟨o.val % 128, Nat.mod_lt _ (by decide)⟩ k
    show 128 * (o.val / 128) + (o.val % 128 ^^^ k.val) = o.val / 4 * 4 + ((o.val % 4) ^^^ k.val) % 4
    have h' : o.val % 128 / 4 * 4 + ((o.val % 128 % 4) ^^^ k.val) % 4 = o.val % 128 ^^^ k.val := h
    have hm : o.val % 128 % 4 = o.val % 4 := by omega
    rw [hm] at h'
    omega
  have hi (a : Fin 32) (b : Fin 128) := iota_at a b
  have h1 : (permute k0_pay214 (k0_pay1 (xTile U (r.val / 32) (o.val / 128))) (ix2 ⟨r.val % 32, Nat.mod_lt _ (by decide)⟩ ⟨o.val % 128, Nat.mod_lt _ (by decide)⟩) : EReal) = Cert.V.grp x o (Cert.V.lane 1 (Cert.V.lan o)) := hP 1 k0_pay214 ((congrArg (IntOp.xori · 1#32) (hi _ _)).trans (word_one _))
  have h2 : (permute k0_pay215 (k0_pay1 (xTile U (r.val / 32) (o.val / 128))) (ix2 ⟨r.val % 32, Nat.mod_lt _ (by decide)⟩ ⟨o.val % 128, Nat.mod_lt _ (by decide)⟩) : EReal) = Cert.V.grp x o (Cert.V.lane 2 (Cert.V.lan o)) := hP 2 k0_pay215 ((congrArg (IntOp.xori · 2#32) (hi _ _)).trans (word_two _))
  have h3 : (permute k0_pay216 (k0_pay1 (xTile U (r.val / 32) (o.val / 128))) (ix2 ⟨r.val % 32, Nat.mod_lt _ (by decide)⟩ ⟨o.val % 128, Nat.mod_lt _ (by decide)⟩) : EReal) = Cert.V.grp x o (Cert.V.lane 3 (Cert.V.lan o)) := hP 3 k0_pay216 ((congrArg (IntOp.xori · 3#32) (hi _ _)).trans (word_three _))
  have ho := (congrArg (fun v => IntOp.cmpi .eq (Scalar.select (IntOp.cmpi .eq (IntOp.andi v 1#32) 0#32) 65537#32 0#32) 0#32) (hi ⟨r.val % 32, Nat.mod_lt _ (by decide)⟩ ⟨o.val % 128, Nat.mod_lt _ (by decide)⟩)).trans (odd_word _)
  have hh := (congrArg (fun v => IntOp.cmpi .eq (Scalar.select (IntOp.cmpi .eq (IntOp.andi v 2#32) 0#32) 65537#32 0#32) 0#32) (hi ⟨r.val % 32, Nat.mod_lt _ (by decide)⟩ ⟨o.val % 128, Nat.mod_lt _ (by decide)⟩)).trans (high_word _)
  have hc := pay8_at k0_pay213 (invOf U (r.val / 32)) (k0_pay1 (xTile U (r.val / 32) (o.val / 128))) (permute k0_pay214 (k0_pay1 (xTile U (r.val / 32) (o.val / 128)))) (permute k0_pay215 (k0_pay1 (xTile U (r.val / 32) (o.val / 128)))) (permute k0_pay216 (k0_pay1 (xTile U (r.val / 32) (o.val / 128)))) k0_pay212 (ix2 ⟨r.val % 32, Nat.mod_lt _ (by decide)⟩ ⟨o.val % 128, Nat.mod_lt _ (by decide)⟩)
  refine Eq.trans (b := (k0_pay8 k0_pay213 (invOf U (r.val / 32)) (k0_pay1 (xTile U (r.val / 32) (o.val / 128))) (permute k0_pay215 (k0_pay1 (xTile U (r.val / 32) (o.val / 128)))) (permute k0_pay216 (k0_pay1 (xTile U (r.val / 32) (o.val / 128)))) (cmpf .oge (permute k0_pay214 (k0_pay1 (xTile U (r.val / 32) (o.val / 128)))) (k0_pay1 (xTile U (r.val / 32) (o.val / 128)))) (k0_pay6 k0_pay212) (cmpf .ogt (permute k0_pay214 (k0_pay1 (xTile U (r.val / 32) (o.val / 128)))) (k0_pay1 (xTile U (r.val / 32) (o.val / 128)))) (ix2 ⟨r.val % 32, Nat.mod_lt _ (by decide)⟩ ⟨o.val % 128, Nat.mod_lt _ (by decide)⟩) : EReal)) rfl (hc.trans ?_)
  rw [hX, hxo, h1, h2, h3, hinv]
  have ho' : IntOp.cmpi .eq (k0_pay212 (ix2 ⟨r.val % 32, Nat.mod_lt _ (by decide)⟩ ⟨o.val % 128, Nat.mod_lt _ (by decide)⟩)) 0#32 = _ := ho
  have hh' : IntOp.cmpi .eq (k0_pay213 (ix2 ⟨r.val % 32, Nat.mod_lt _ (by decide)⟩ ⟨o.val % 128, Nat.mod_lt _ (by decide)⟩)) 0#32 = _ := hh
  rw [ho', hh']
  simp only [select_and, decide_eq_true_iff]
  rw [zero_bf16]
  have hl : o.val % 128 % 4 = (Cert.V.lan o).val := by show o.val % 128 % 4 = o.val % 4; omega
  have hg := Cert.V.grp_lan x o
  have hr : (if x o ≤ Cert.V.grp x o (Cert.V.lane 1 (Cert.V.lan o)) ∧ (o.val % 128 % 4 % 2 = 1 ∨ x o < Cert.V.grp x o (Cert.V.lane 1 (Cert.V.lan o)))
      then max (Cert.V.grp x o (Cert.V.lane 2 (Cert.V.lan o))) (Cert.V.grp x o (Cert.V.lane 3 (Cert.V.lan o)))
      else min (Cert.V.grp x o (Cert.V.lane 2 (Cert.V.lan o))) (Cert.V.grp x o (Cert.V.lane 3 (Cert.V.lan o)))) = Cert.V.rival (Cert.V.grp x o) (Cert.V.lan o) := by
    have hb : Cert.V.Beaten (Cert.V.grp x o) (Cert.V.lan o) ↔ x o ≤ Cert.V.grp x o (Cert.V.lane 1 (Cert.V.lan o)) ∧ (o.val % 128 % 4 % 2 = 1 ∨ x o < Cert.V.grp x o (Cert.V.lane 1 (Cert.V.lan o))) := by
      unfold Cert.V.Beaten
      rw [hg, hl]
    unfold Cert.V.rival
    by_cases hA : Cert.V.Beaten (Cert.V.grp x o) (Cert.V.lan o)
    · rw [if_pos hA, if_pos (hb.mp hA)]
    · rw [if_neg hA, if_neg fun h => hA (hb.mpr h)]
  have hd := Cert.V.drops_iff (Cert.V.grp x o) (Cert.V.lan o)
  unfold Cert.V.Drops at hd
  rw [hg, ← hl] at hd
  unfold Cert.V.code Cert.V.kept
  refine congrArg _ (congrArg _ (congrArg (· * _) ?_))
  rw [hr]
  by_cases hD : x o ≤ Cert.V.rival (Cert.V.grp x o) (Cert.V.lan o) ∧ (2 ≤ o.val % 128 % 4 ∨ x o < Cert.V.rival (Cert.V.grp x o) (Cert.V.lan o))
  · rw [if_pos hD, if_neg (hd.mp hD), mul_zero]
  · rw [if_neg hD, if_pos (not_not.mp fun h => hD (hd.mpr h))]

end Cert.KernelIdeal.Hand
end
-- ==== Proof.V.KSum.lean ====
module

public import proofs.«01_k».proof.Proof.KI.YVals
public import proofs.«01_k».proof.Proof.V.Spec
public import Idealize.ShloMosaic.Lib.Pointwise

@[expose] public section

set_option maxRecDepth 16384

noncomputable section

namespace Cert.KernelIdeal.Hand

open Cert.KernelIdeal Cert.KernelIdeal.Gen
open Idealize.ShloMosaic Idealize.ShloMosaic.TcCoe Idealize.SL.Sem

/-! The kernel's sum of products, taken in blocks of columns. -/

theorem zero_f32 : Ideal.ofBits .f32 0x00000000#32 = 0 := by
  show Ideal.ieee 8 23 0x00000000#32 = 0
  have a : ((0x00000000#32).extractLsb' 23 8).toNat = 0 := by decide
  have b : ((0x00000000#32).extractLsb' 0 23).toNat = 0 := by decide
  simp [Ideal.ieee, a, b]

theorem addDot_at (acc : FVec Ideal S128x512 .f32) (a : Vec Ideal S128x512 .fp8e4m3) (w : Vec Ideal S1x512x512 .fp8e4m3) (r : Fin 128) (p : Fin 512) :
    addDot acc a w (ix2 r p) = ((acc (ix2 r p) : EReal) + ∑ k : Fin 512, (a (ix2 r k) : EReal) * (w (ix3 0 k p) : EReal) : EReal) := by
  pointwise [addDot]

theorem addDot'_at (acc : FVec Ideal S128x512 .f32) (a : Vec Ideal S128x256 .fp8e4m3) (w : Vec Ideal S1x256x512 .fp8e4m3) (r : Fin 128) (p : Fin 512) :
    addDot' acc a w (ix2 r p) = ((acc (ix2 r p) : EReal) + ∑ k : Fin 256, (a (ix2 r k) : EReal) * (w (ix3 0 k p) : EReal) : EReal) := by
  pointwise [addDot']

variable (C : BufTy.Contents (Elt Ideal) a7.view.ty) (W : BufTy.Contents (Elt Ideal) a1.view.ty) (r : Fin 128) (i : ℕ) (p : Fin 512)

/-- One product of the sum. -/
def term (o : ℕ) : EReal :=
  ((show S128x18944.Idx → EReal from C) (at2 (n := 128) (m := 18944) (by decide) (by decide) r.val o)) * ((show S18944x3584.Idx → EReal from W) (at2 (n := 18944) (m := 3584) (by decide) (by decide) o (512 * i + p.val)))

theorem sum_block (o n : ℕ) (f : ℕ → EReal) : (∑ k ∈ Finset.range o, f k) + (∑ k : Fin n, f (o + k.val)) = ∑ k ∈ Finset.range (o + n), f k := by
  rw [Finset.sum_range_add, Fin.sum_univ_eq_sum_range (fun k => f (o + k)) n]

theorem sumSt_at (o : ℕ) (init : FVec Ideal S128x512 .f32) (h : (init (ix2 r p) : EReal) = ∑ k ∈ Finset.range o, term C W r i p k) (j : ℕ) :
    (sumSt C W i o init j (ix2 r p) : EReal) = ∑ k ∈ Finset.range (o + 512 * j), term C W r i p k := by
  induction j with
  | zero => exact h
  | succ j ih =>
    show (addDot (sumSt C W i o init j) (codeCols 512 C (o + 512 * j)) (slabRows 512 W i (o + 512 * j)) (ix2 r p) : EReal) = _
    rw [addDot_at, ih]
    exact sum_block (o + 512 * j) 512 (term C W r i p)

theorem sumHalf_at (o : ℕ) (init : FVec Ideal S128x512 .f32) (h : (init (ix2 r p) : EReal) = ∑ k ∈ Finset.range o, term C W r i p k) :
    (sumHalf C W i o init (ix2 r p) : EReal) = ∑ k ∈ Finset.range (o + 9472), term C W r i p k := by
  unfold sumHalf
  rw [addDot'_at, sumSt_at C W r i p o init h 18]
  exact sum_block (o + 9216) 256 (term C W r i p)

theorem sumOf_at : (sumOf C W i (ix2 r p) : EReal) = ∑ k ∈ Finset.range 18944, term C W r i p k := by
  unfold sumOf
  exact sumHalf_at C W r i p 9472 _ (sumHalf_at C W r i p 0 _ zero_f32)

/-- The kernel's product at one position. -/
theorem prod_at (S : BufTy.Contents (Elt Ideal) a10.view.ty) (R : BufTy.Contents (Elt Ideal) a11.view.ty) (o : Fin 3584) :
    ((show S128x3584.Idx → EReal from prodOf C W S R) (ix2 r o)) = (∑ k : Fin 18944, (show S128x18944.Idx → EReal from C) (ix2 r k) * (show S18944x3584.Idx → EReal from W) (ix2 k o))
      * (show S128x128.Idx → EReal from R) (ix2 r ⟨o.val % 128, Nat.mod_lt _ (by decide)⟩) * (show S1x3584.Idx → EReal from S) (ix2 0 o) := by
  have hr : (⟨r.val % 128, Nat.mod_lt _ (by decide)⟩ : Fin 128) = r := Fin.ext (Nat.mod_eq_of_lt r.isLt)
  have ho : (⟨o.val % 3584, Nat.mod_lt _ (by decide)⟩ : Fin 3584) = o := Fin.ext (Nat.mod_eq_of_lt o.isLt)
  have hs := sumOf_at C W r (o.val / 512) ⟨o.val % 512, Nat.mod_lt _ (by decide)⟩
  have ht (k : Fin 18944) : term C W r (o.val / 512) ⟨o.val % 512, Nat.mod_lt _ (by decide)⟩ k.val = (show S128x18944.Idx → EReal from C) (ix2 r k) * (show S18944x3584.Idx → EReal from W) (ix2 k o) := by
    have e1 : at2 (n := 128) (m := 18944) (by decide) (by decide) r.val k.val = ix2 r k := by
      unfold at2
      rw [hr]
      exact congrArg (ix2 r) (Fin.ext (Nat.mod_eq_of_lt k.isLt))
    have e2 : at2 (n := 18944) (m := 3584) (by decide) (by decide) k.val (512 * (o.val / 512) + o.val % 512) = ix2 k o := by
      unfold at2
      congr 1
      · exact Fin.ext (Nat.mod_eq_of_lt k.isLt)
      · apply Fin.ext; show (512 * (o.val / 512) + o.val % 512) % 3584 = o.val; omega
    unfold term
    rw [e1, e2]
  rw [← Fin.sum_univ_eq_sum_range, Finset.sum_congr rfl fun k _ => ht k] at hs
  have ea : at2 (n := 128) (m := 512) (by decide) (by decide) r.val o.val = ix2 r ⟨o.val % 512, Nat.mod_lt _ (by decide)⟩ := by
    unfold at2
    rw [hr]
  have eb : at2 (n := 128) (m := 128) (by decide) (by decide) r.val o.val = ix2 r ⟨o.val % 128, Nat.mod_lt _ (by decide)⟩ := by
    unfold at2
    rw [hr]
  have ec : at2 (n := 1) (m := 3584) (by decide) (by decide) 0 o.val = ix2 0 o := by
    unfold at2
    rw [ho]
    rfl
  show ((sumOf C W (o.val / 512) (at2 (n := 128) (m := 512) (by decide) (by decide) r.val o.val) : EReal) * (show S128x128.Idx → EReal from R) (at2 (n := 128) (m := 128) (by decide) (by decide) r.val o.val)) * (show S1x3584.Idx → EReal from S) (at2 (n := 1) (m := 3584) (by decide) (by decide) 0 o.val) = _
  rw [ea, eb, ec, hs]

end Cert.KernelIdeal.Hand
end
-- ==== Proof.V.KRun.lean ====
module

public import proofs.«01_k».proof.Proof.KI.Run
public import proofs.«01_k».proof.Proof.V.KCode
public import proofs.«01_k».proof.Proof.V.KSum
public import Idealize.ShloMosaic.Lib.Pointwise

@[expose] public section

set_option maxRecDepth 16384

noncomputable section

namespace Cert.KernelIdeal.Hand

open Cert.KernelIdeal Cert.KernelIdeal.Gen
open Idealize.ShloMosaic Idealize.ShloMosaic.TcCoe Idealize.SL.Sem

/-! The kernel's three results, index by index, from the program's arguments. -/

variable (m : (ℓ : Loc nD τ sig) → Buf (Elt Ideal) ℓ) (c : Dev nD)

theorem entry0 : V m c main_v0 = shapeCast S128x18944 (m ((c : Thread nD τ).loc main_arg0)) shapeCasts_S1x128x18944_S128x18944 := by
  show StableHlo.after (List.flatten [hostOps0]) (fun b => m (c, b)) (Proc.devRef .tc main_v0) = _
  simp only [hostOps0, List.flatten_cons, List.flatten_nil, List.append_nil]
  after_results
  rfl
theorem entry1 : V m c main_v1 = shapeCast S1x3584 (m ((c : Thread nD τ).loc main_arg2)) shapeCasts_S3584_S1x3584 := by
  show StableHlo.after (List.flatten [hostOps0]) (fun b => m (c, b)) (Proc.devRef .tc main_v1) = _
  simp only [hostOps0, List.flatten_cons, List.flatten_nil, List.append_nil]
  after_results
  rfl
theorem entryW : V m c main_arg1 = m ((c : Thread nD τ).loc main_arg1) := by
  show StableHlo.after (List.flatten [hostOps0]) (fun b => m (c, b)) (Proc.devRef .tc main_arg1) = _
  simp only [hostOps0, List.flatten_cons, List.flatten_nil, List.append_nil]
  after_results

theorem tail3 (σ : Valuation τ sig (Elt Ideal)) : StableHlo.after (List.flatten [hostOps1]) σ (Proc.devRef .tc main_v3) = shapeCast S1x128x3584 (σ (Proc.devRef .tc main_v2_0)) shapeCasts_S128x3584_S1x128x3584 := by
  simp only [hostOps1, List.flatten_cons, List.flatten_nil, List.append_nil]
  after_results
  rfl
theorem tail4 (σ : Valuation τ sig (Elt Ideal)) : StableHlo.after (List.flatten [hostOps1]) σ (Proc.devRef .tc main_v4) = shapeCast S1x128x18944 (σ (Proc.devRef .tc main_v2_1)) shapeCasts_S128x18944_S1x128x18944 := by
  simp only [hostOps1, List.flatten_cons, List.flatten_nil, List.append_nil]
  after_results
  rfl

theorem VF_y : VF m c main_v3 = shapeCast S1x128x3584 (yRes m c) shapeCasts_S128x3584_S1x128x3584 := by
  unfold VF
  rw [tail3, before_tail m c main_v2_0 (by decide), G_0]
theorem VF_c : VF m c main_v4 = shapeCast S1x128x18944 (cRes m c) shapeCasts_S128x18944_S1x128x18944 := by
  unfold VF
  rw [tail4, before_tail m c main_v2_1 (by decide), G_1]

theorem flat_at {α : Type} (v : S1x128x18944.Idx → α) (r : Fin 128) (o : Fin 18944) : shapeCast S128x18944 v shapeCasts_S1x128x18944_S128x18944 (ix2 r o) = v (ix3 0 r o) := by
  pointwise []
theorem column_at {α : Type} (v : S3584.Idx → α) (o : Fin 3584) : shapeCast S1x3584 v shapeCasts_S3584_S1x3584 (ix2 0 o) = v (ix1 o) := by
  pointwise []
theorem ycast_at {α : Type} (v : S128x3584.Idx → α) (r : Fin 128) (o : Fin 3584) : shapeCast S1x128x3584 v shapeCasts_S128x3584_S1x128x3584 (ix3 0 r o) = v (ix2 r o) := by
  pointwise []
theorem ccast_at {α : Type} (v : S128x18944.Idx → α) (r : Fin 128) (o : Fin 18944) : shapeCast S1x128x18944 v shapeCasts_S128x18944_S1x128x18944 (ix3 0 r o) = v (ix2 r o) := by
  pointwise []
theorem pay217_at (R : Vec Ideal S128x128 .f32) (r : Fin 128) : k0_pay217 R (ix2 0 r) = R (ix2 r 0) := by
  pointwise [k0_pay217]

section
variable (A : Vec Ideal S1x128x18944 .bf16) (W : BufTy.Contents (Elt Ideal) a1.view.ty) (S : Vec Ideal S3584 .f32) (r : Fin 128)
  (hx : Cert.V.InRange (Cert.V.row A r))
include hx

theorem code_of (o : Fin 18944) : ((show S128x18944.Idx → EReal from codesOf (F := Ideal) (shapeCast S128x18944 A shapeCasts_S1x128x18944_S128x18944)) (ix2 r o)) = Cert.V.code (Cert.V.row A r) o :=
  code_at _ hx r (fun o => congrArg (fun z : EReal => max z 0) (flat_at A r o)) o

theorem scale_of (b : Fin 128) : ((show S128x128.Idx → EReal from scalesOf (F := Ideal) (shapeCast S128x18944 A shapeCasts_S1x128x18944_S128x18944)) (ix2 r b)) = Cert.V.scl (Cert.V.row A r) := by
  have hb : (⟨b.val % 128, Nat.mod_lt _ (by decide)⟩ : Fin 128) = b := Fin.ext (Nat.mod_eq_of_lt b.isLt)
  exact scl_at _ hx _ _ (bound_at _ hx r (fun o => congrArg (fun z : EReal => max z 0) (flat_at A r o)) ⟨b.val % 128, Nat.mod_lt _ (by decide)⟩)

theorem prod_of (o : Fin 3584) : ((show S128x3584.Idx → EReal from prodOf (F := Ideal) (codesOf (shapeCast S128x18944 A shapeCasts_S1x128x18944_S128x18944)) W (shapeCast S1x3584 S shapeCasts_S3584_S1x3584) (scalesOf (shapeCast S128x18944 A shapeCasts_S1x128x18944_S128x18944))) (ix2 r o))
    = (∑ k : Fin 18944, Cert.V.code (Cert.V.row A r) k * (show S18944x3584.Idx → EReal from W) (ix2 k o)) * Cert.V.scl (Cert.V.row A r) * (S (ix1 o) : EReal) := by
  have h := prod_at (codesOf (shapeCast S128x18944 A shapeCasts_S1x128x18944_S128x18944)) W r (shapeCast S1x3584 S shapeCasts_S3584_S1x3584) (scalesOf (shapeCast S128x18944 A shapeCasts_S1x128x18944_S128x18944)) o
  rw [Finset.sum_congr rfl fun k _ => congrArg (· * _) (code_of A r hx k), scale_of A r hx] at h
  rw [← column_at S o]
  exact h

end

variable (r : Fin 128) (hx : Cert.V.InRange (Cert.V.row (m ((c : Thread nD τ).loc main_arg0)) r))
include hx

/-- The product. -/
theorem y_at (o : Fin 3584) : ((show S1x128x3584.Idx → EReal from VF m c main_v3) (ix3 0 r o))
    = (∑ k : Fin 18944, Cert.V.code (Cert.V.row (m ((c : Thread nD τ).loc main_arg0)) r) k * (show S18944x3584.Idx → EReal from m ((c : Thread nD τ).loc main_arg1)) (ix2 k o)) * Cert.V.scl (Cert.V.row (m ((c : Thread nD τ).loc main_arg0)) r) * (show S3584.Idx → EReal from m ((c : Thread nD τ).loc main_arg2)) (ix1 o) := by
  rw [VF_y]
  refine (ycast_at (yRes m c) r o).trans ?_
  unfold yRes
  rw [entry0, entry1, entryW]
  exact prod_of _ _ _ r hx o

/-- The codes. -/
theorem c_at (o : Fin 18944) : ((show S1x128x18944.Idx → EReal from VF m c main_v4) (ix3 0 r o)) = Cert.V.code (Cert.V.row (m ((c : Thread nD τ).loc main_arg0)) r) o := by
  rw [VF_c]
  refine (ccast_at (cRes m c) r o).trans ?_
  unfold cRes
  rw [entry0]
  exact code_of _ r hx o

/-- The scales. -/
theorem h_at : ((show S1x128.Idx → EReal from hRes m c) (ix2 0 r)) = Cert.V.scl (Cert.V.row (m ((c : Thread nD τ).loc main_arg0)) r) := by
  unfold hRes hsOf
  rw [entry0]
  exact (pay217_at _ r).trans (scale_of _ r hx 0)

end Cert.KernelIdeal.Hand
end
-- ==== Proof.V.RefHost.lean ====
module

public import proofs.«01_k».proof.Proof.Gen.ReferenceIdeal.Frame
public import Idealize.ShloMosaic.Lib.Pipeline.ValueKit
public import Idealize.ShloMosaic.Lib.Pointwise
public import Idealize.ShloMosaic.Lib.Claim

@[expose] public section

set_option maxRecDepth 16384

noncomputable section

namespace Cert.ReferenceIdeal.Hand

open Cert.ReferenceIdeal Cert.ReferenceIdeal.Gen
open Idealize.ShloMosaic Idealize.ShloMosaic.TcCoe Idealize.SL.Sem
open Idealize.ShloMosaic.Pipeline (Dat)

/-! What the reference's host lines compute before its region. -/

/-- The squared positive part. -/
def hRef (U : FVec Ideal S1x128x18944 .bf16) : FVec Ideal S1x128x18944 .f32 :=
  mulf (maximumf (extf .f32 U bitsLt_bf16_f32) (broadcastInDim S1x128x18944 ![] bcast_S_S1x128x18944 (constant S_ .f32 0x00000000#32)))
    (maximumf (extf .f32 U bitsLt_bf16_f32) (broadcastInDim S1x128x18944 ![] bcast_S_S1x128x18944 (constant S_ .f32 0x00000000#32)))

/-- The number of members of its group that come before each entry. -/
def rankRef (h : FVec Ideal S1x128x4736x4 .f32) : IVec S1x128x4736x4 32 :=
  Host.reduce IntOp.addi
    (extui 32 (ori
      (cmpf .ogt (broadcastInDim S1x128x4736x4x4 ![0, 1, 2, 3, 4] bcast_S1x128x4736x1x4_S1x128x4736x4x4_0_1_2_3_4 (broadcastInDim S1x128x4736x1x4 ![0, 1, 2, 4] bcast_S1x128x4736x4_S1x128x4736x1x4_0_1_2_4 h))
        (broadcastInDim S1x128x4736x4x4 ![0, 1, 2, 3, 4] bcast_S1x128x4736x4x1_S1x128x4736x4x4_0_1_2_3_4 (broadcastInDim S1x128x4736x4x1 ![0, 1, 2, 3] bcast_S1x128x4736x4_S1x128x4736x4x1_0_1_2_3 h)))
      (andi (cmpf .oeq (broadcastInDim S1x128x4736x4x4 ![0, 1, 2, 3, 4] bcast_S1x128x4736x1x4_S1x128x4736x4x4_0_1_2_3_4 (broadcastInDim S1x128x4736x1x4 ![0, 1, 2, 4] bcast_S1x128x4736x4_S1x128x4736x1x4_0_1_2_4 h))
        (broadcastInDim S1x128x4736x4x4 ![0, 1, 2, 3, 4] bcast_S1x128x4736x4x1_S1x128x4736x4x4_0_1_2_3_4 (broadcastInDim S1x128x4736x4x1 ![0, 1, 2, 3] bcast_S1x128x4736x4_S1x128x4736x4x1_0_1_2_3 h)))
        (broadcastInDim S1x128x4736x4x4 ![0, 1, 2, 3, 4] bcast_S1x1x1x4x4_S1x128x4736x4x4_0_1_2_3_4 (broadcastInDim S1x1x1x4x4 ![3, 4] bcast_S4x4_S1x1x1x4x4_3_4
          (cmpi .slt (broadcastInDim S4x4 ![0, 1] bcast_S1x4_S4x4_0_1 (broadcastInDim S1x4 ![1] bcast_S4_S1x4_1 (iotaInDim S4 32 0)))
            (broadcastInDim S4x4 ![0, 1] bcast_S4x1_S4x4_0_1 (broadcastInDim S4x1 ![0] bcast_S4_S4x1_0 (iotaInDim S4 32 0)))))))) natLt_1_32)
    (constantI S_ 32 0#32) reducesTo_S1x128x4736x4x4_S1x128x4736x4_d4 h_S_

/-- The entries with fewer than two before them, and zero elsewhere. -/
def prunedRef (h : FVec Ideal S1x128x4736x4 .f32) : FVec Ideal S1x128x4736x4 .f32 :=
  select (cmpi .slt (rankRef h) (broadcastInDim S1x128x4736x4 ![] bcast_S_S1x128x4736x4 (constantI S_ 32 2#32))) h
    (broadcastInDim S1x128x4736x4 ![] bcast_S_S1x128x4736x4 (constant S_ .f32 0x00000000#32))

/-- The region's first operand. -/
def hpRef (U : FVec Ideal S1x128x18944 .bf16) : FVec Ideal S128x18944 .f32 :=
  shapeCast S128x18944 (shapeCast S1x128x18944 (prunedRef (shapeCast S1x128x4736x4 (hRef U) shapeCasts_S1x128x18944_S1x128x4736x4)) shapeCasts_S1x128x4736x4_S1x128x18944) shapeCasts_S1x128x18944_S128x18944

variable (m : (ℓ : Loc nD τ sig) → Buf (Elt Ideal) ℓ)

/-! The host lines in stretches: up to the groups, up to the test of the ranks, the choice and the last reshapes. -/

theorem after_two (l l' : List (HloOp τ sig (Elt Ideal))) (σ : Valuation τ sig (Elt Ideal)) : StableHlo.after (l ++ l') σ = StableHlo.after l' (StableHlo.after l σ) := by
  induction l generalizing σ with
  | nil => rfl
  | cons op l ih => exact ih _

theorem first_v4 (c : Dev nD) : StableHlo.after (hostOps0.take 6) (fun b => m (c, b)) (Proc.devRef .tc main_v4) = (shapeCast S1x128x4736x4 (hRef (m ((c : Thread nD τ).loc main_arg0))) shapeCasts_S1x128x18944_S1x128x4736x4) := by
  simp only [hostOps0, List.take]
  after_results
  rfl

theorem second_v26 (σ : Valuation τ sig (Elt Ideal)) :
    StableHlo.after (hostOps0.drop 6) σ (Proc.devRef .tc main_v26) = cmpi .slt (rankRef (σ (Proc.devRef .tc main_v4))) (broadcastInDim S1x128x4736x4 ![] bcast_S_S1x128x4736x4 (constantI S_ 32 2#32)) := by
  simp only [hostOps0, List.drop]
  after_results
  rfl
theorem second_v4 (σ : Valuation τ sig (Elt Ideal)) : StableHlo.after (hostOps0.drop 6) σ (Proc.devRef .tc main_v4) = σ (Proc.devRef .tc main_v4) := by
  simp only [hostOps0, List.drop]
  after_results
theorem second_cst (σ : Valuation τ sig (Elt Ideal)) : StableHlo.after (hostOps0.drop 6) σ (Proc.devRef .tc main_cst_1) = (constant S_ .f32 0x00000000#32 : FVec Ideal S_ .f32) := by
  simp only [hostOps0, List.drop]
  after_results

theorem third_v29 (σ : Valuation τ sig (Elt Ideal)) : StableHlo.after (hostOps0_1 ++ hostOps0_2) σ (Proc.devRef .tc main_v29)
    = shapeCast S128x18944 (shapeCast S1x128x18944 (select (σ (Proc.devRef .tc main_v26)) (σ (Proc.devRef .tc main_v4) : FVec Ideal S1x128x4736x4 .f32) (broadcastInDim S1x128x4736x4 ![] bcast_S_S1x128x4736x4 (σ (Proc.devRef .tc main_cst_1) : FVec Ideal S_ .f32))) shapeCasts_S1x128x4736x4_S1x128x18944) shapeCasts_S1x128x18944_S128x18944 := by
  simp only [hostOps0_1, hostOps0_2, List.cons_append, List.nil_append]
  after_results
  rfl

theorem entry29 (c : Dev nD) : V m c main_v29 = hpRef (m ((c : Thread nD τ).loc main_arg0)) := by
  have e : V m c main_v29 = StableHlo.after (hostOps0_1 ++ hostOps0_2) (StableHlo.after (hostOps0.drop 6) (StableHlo.after (hostOps0.take 6) (fun b => m (c, b)))) (Proc.devRef .tc main_v29) := by
    rw [← after_two, ← after_two, ← List.append_assoc, List.take_append_drop]
    rfl
  rw [e, third_v29, second_v26, second_v4, second_cst, first_v4]
  rfl

theorem entry30 (c : Dev nD) : V m c main_v30 = shapeCast S1x3584 (m ((c : Thread nD τ).loc main_arg2)) shapeCasts_S3584_S1x3584 := by
  show StableHlo.after (List.flatten [hostOps0, hostOps0_1, hostOps0_2]) (fun b => m (c, b)) (Proc.devRef .tc main_v30) = _
  simp only [hostOps0, hostOps0_1, hostOps0_2, List.flatten_cons, List.flatten_nil, List.append_nil, List.cons_append, List.nil_append]
  after_results
  rfl

/-! The same at an index. -/

theorem rank_at (h : FVec Ideal S1x128x4736x4 .f32) (r : Fin 128) (g : Fin 4736) (l : Fin 4) : rankRef h (ix4 0 r g l)
    = Finset.univ.fold IntOp.addi 0#32 fun x : Fin 4 => BitVec.setWidth 32 (IntOp.ori (BitVec.ofBool (decide (h (ix4 0 r g l) < h (ix4 0 r g x))))
        (IntOp.andi (BitVec.ofBool (decide (h (ix4 0 r g x) = h (ix4 0 r g l)))) (IntOp.cmpi .slt (BitVec.ofNat 32 x.val) (BitVec.ofNat 32 l.val)))) := by
  pointwise [rankRef]

theorem pruned_at (U : FVec Ideal S1x128x18944 .bf16) (r : Fin 128) (o : Fin 18944) : hpRef U (ix2 r o)
    = Scalar.select (IntOp.cmpi .slt (rankRef (shapeCast S1x128x4736x4 (hRef U) shapeCasts_S1x128x18944_S1x128x4736x4) (ix4 0 r ⟨o.val / 4, by omega⟩ ⟨o.val % 4, by omega⟩)) 2#32) (hRef U (ix3 0 r o)) 0 := by
  pointwise [hpRef, prunedRef]

theorem group_at (U : FVec Ideal S1x128x18944 .bf16) (r : Fin 128) (g : Fin 4736) (l : Fin 4) : shapeCast S1x128x4736x4 (hRef U) shapeCasts_S1x128x18944_S1x128x4736x4 (ix4 0 r g l)
    = hRef U (ix3 0 r ⟨g.val * 4 + l.val, by omega⟩) := by
  pointwise []

theorem sq_at (U : FVec Ideal S1x128x18944 .bf16) (r : Fin 128) (o : Fin 18944) : hRef U (ix3 0 r o) = max (U (ix3 0 r o)) 0 * max (U (ix3 0 r o)) 0 := by
  pointwise [hRef]

theorem scale_at (S : FVec Ideal S3584 .f32) (o : Fin 3584) : shapeCast S1x3584 S shapeCasts_S3584_S1x3584 (ix2 0 o) = S (ix1 o) := by
  pointwise []

end Cert.ReferenceIdeal.Hand
end
-- ==== Proof.V.RefRun.lean ====
module

public import proofs.«01_k».proof.Proof.Gen.ReferenceIdeal.Frame
public import Idealize.ShloMosaic.Lib.Pipeline.ValueKit

@[expose] public section

set_option maxRecDepth 16384

noncomputable section

namespace Cert.ReferenceIdeal.Hand

open Cert.ReferenceIdeal Cert.ReferenceIdeal.Gen
open Idealize.ShloMosaic Idealize.ShloMosaic.TcCoe Idealize.SL.Sem
open Idealize.ShloMosaic.Pipeline (Dat)

variable (m : (ℓ : Loc nD τ sig) → Buf (Elt Ideal) ℓ)

/-! What the reference's run leaves in its result arrays: its one region's body, of whole arrays. -/

theorem idx : ∀ t : Fin cfg0.N, win0_0.index t = ![0, 0] ∧ win0_1.index t = ![0, 0] ∧ win0_2.index t = ![0, 0]
    ∧ win0_3.index t = ![0, 0, 0] ∧ win0_4.index t = ![0, 0, 0] ∧ win0_5.index t = ![0, 0] :=
  (by decide +kernel : ∀ t : Fin grid0.N, _)

/-- A block of an operand is its whole array. -/
theorem whole0 (t : Fin cfg0.N) (X : (⟨S128x18944, .f32⟩ : BufTy).Contents (Elt Ideal)) : ((cfg0.win 0).blk t).view.read (Elt Ideal) X = X := by
  funext (x : S128x18944.Idx)
  blk_simp [idx t]
  refine congrArg X (funext fun a => Fin.ext ?_)
  blk_simp [idx t]
  fin_cases a <;> first | rfl | (blk_simp [idx t]; done)
theorem block0 (c : Dev nD) (t : Fin cfg0.N) : iblk m c 0 t = V m c main_v29 := whole0 t (V m c main_v29)
theorem whole1 (t : Fin cfg0.N) (X : (⟨S18944x3584, .fp8e4m3⟩ : BufTy).Contents (Elt Ideal)) : ((cfg0.win 1).blk t).view.read (Elt Ideal) X = X := by
  funext (x : S18944x3584.Idx)
  blk_simp [idx t]
  refine congrArg X (funext fun a => Fin.ext ?_)
  blk_simp [idx t]
  fin_cases a <;> first | rfl | (blk_simp [idx t]; done)
theorem block1 (c : Dev nD) (t : Fin cfg0.N) : iblk m c 1 t = V m c main_arg1 := whole1 t (V m c main_arg1)
theorem whole2 (t : Fin cfg0.N) (X : (⟨S1x3584, .f32⟩ : BufTy).Contents (Elt Ideal)) : ((cfg0.win 2).blk t).view.read (Elt Ideal) X = X := by
  funext (x : S1x3584.Idx)
  blk_simp [idx t]
  refine congrArg X (funext fun a => Fin.ext ?_)
  blk_simp [idx t]
  fin_cases a <;> first | rfl | (blk_simp [idx t]; done)
theorem block2 (c : Dev nD) (t : Fin cfg0.N) : iblk m c 2 t = V m c main_v30 := whole2 t (V m c main_v30)

/-- The result array of window 3 is what the body computes of the arrays at its entry. -/
theorem final3 (c : Dev nD) : (dats m 0 c).arrAt 3 cfg0.N = k0_pay1 (k0_pay8 (V m c main_v29) (V m c main_arg1)) (k0_pay9 (V m c main_v30)) := by
  refine (dats m 0 c).arrAt_eq_of_after_last 3 t0_0 (by decide +kernel) _ fun j => ?_
  blk_simp
  rw [after0_3]
  frame_out
  rw [block0 m c t0_0, block1 m c t0_0, block2 m c t0_0]

/-- The result array of window 4 is what the body computes of the arrays at its entry. -/
theorem final4 (c : Dev nD) : (dats m 0 c).arrAt 4 cfg0.N = k0_pay2 (k0_pay7 (V m c main_v29)) := by
  refine (dats m 0 c).arrAt_eq_of_after_last 4 t0_0 (by decide +kernel) _ fun j => ?_
  blk_simp
  rw [after0_4]
  frame_out
  rw [block0 m c t0_0]

/-- The result array of window 5 is what the body computes of the arrays at its entry. -/
theorem final5 (c : Dev nD) : (dats m 0 c).arrAt 5 cfg0.N = k0_pay3 (k0_pay6 (V m c main_v29)) := by
  refine (dats m 0 c).arrAt_eq_of_after_last 5 t0_0 (by decide +kernel) _ fun j => ?_
  blk_simp
  rw [after0_5]
  frame_out
  rw [block0 m c t0_0]

/-- The reference's run: the results are what its body computes, and the arguments keep their contents. -/
theorem run_results (ρ : Dev nD → PrngReg) : θ_run defs (onTc (τ := τ) (main (F := Ideal))) ⟨m, fun _ => 0, ρ⟩ fun r => ∀ c : Dev nD,
      r.2.mem ((c : Thread nD τ).loc main_v31_0) = k0_pay1 (k0_pay8 (V m c main_v29) (V m c main_arg1)) (k0_pay9 (V m c main_v30))
      ∧ r.2.mem ((c : Thread nD τ).loc main_v31_1) = k0_pay2 (k0_pay7 (V m c main_v29))
      ∧ r.2.mem ((c : Thread nD τ).loc main_v31_2) = k0_pay3 (k0_pay6 (V m c main_v29))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨((h c).1 3).trans (final3 m c), ((h c).1 4).trans (final4 m c), ((h c).1 5).trans (final5 m c),
      ((h c).2 main_arg0 (Pipeline.mem_restRefs_of main_arg0 (by decide) (by decide))).trans (V_main_arg0 m c),
      ((h c).1 1).trans (((dats m 0 c).arrAt_in 1 rfl _).trans ((A_eq m c 1).trans (V_main_arg1 m c))),
      ((h c).2 main_arg2 (Pipeline.mem_restRefs_of main_arg2 (by decide) (by decide))).trans (V_main_arg2 m c)⟩)
    (run_main m ρ)

end Cert.ReferenceIdeal.Hand
end
-- ==== Proof.V.RefVal.lean ====
module

public import proofs.«01_k».proof.Proof.V.RefHost
public import proofs.«01_k».proof.Proof.V.RefRun
public import proofs.«01_k».proof.Proof.V.Spec
public import Idealize.ShloMosaic.Lib.Pipeline.ValueKit
public import Idealize.ShloMosaic.Lib.Pointwise
public import Idealize.ShloMosaic.Lib.Claim

@[expose] public section

set_option maxRecDepth 16384

noncomputable section

namespace Cert.ReferenceIdeal.Hand

open Cert.V Cert.ReferenceIdeal Cert.ReferenceIdeal.Gen
open Idealize.ShloMosaic Idealize.ShloMosaic.TcCoe Idealize.SL.Sem
open Idealize.ShloMosaic.Pipeline (Dat)

/-! The reference's results are the row's scale, codes and product. -/

theorem fold_toNat {ι : Type} [DecidableEq ι] (s : Finset ι) (f : ι → BitVec 32) (n : ι → ℕ) (hf : ∀ i ∈ s, (f i).toNat = n i) (h : ∑ i ∈ s, n i < 2 ^ 32) :
    (s.fold IntOp.addi 0#32 f).toNat = ∑ i ∈ s, n i := by
  induction s using Finset.induction_on with
  | empty => rfl
  | insert a s ha ih =>
    rw [Finset.sum_insert ha] at h ⊢
    rw [Finset.fold_insert ha]
    show (f a + _ : BitVec 32).toNat = _
    rw [BitVec.toNat_add, ih (fun i hi => hf i (Finset.mem_insert_of_mem hi)) (by omega), hf a (Finset.mem_insert_self ..)]
    exact Nat.mod_eq_of_lt h

theorem word_or (p q r : Bool) : (BitVec.setWidth 32 (IntOp.ori (BitVec.ofBool p) (IntOp.andi (BitVec.ofBool q) (BitVec.ofBool r)))).toNat = if p = true ∨ (q = true ∧ r = true) then 1 else 0 := by
  cases p <;> cases q <;> cases r <;> rfl
theorem word_one (p : Bool) : (BitVec.setWidth 32 (BitVec.ofBool p)).toNat = if p = true then 1 else 0 := by cases p <;> rfl

theorem lower : ∀ a b : Fin 4, IntOp.cmpi .slt (BitVec.ofNat 32 a.val) (BitVec.ofNat 32 b.val) = BitVec.ofBool (decide (a < b)) := by decide

theorem few : ∀ n : Fin 5, IntOp.cmpi .slt (BitVec.ofNat 32 n.val) 2#32 = BitVec.ofBool (decide (n.val < 2)) := by decide

/-- Squares of numbers of the range compare as the numbers. -/
theorem sq_lt {a b : EReal} (ha : 0 ≤ a ∧ a ≤ (((2 : ℝ) ^ 64 : ℝ) : EReal)) (hb : 0 ≤ b ∧ b ≤ (((2 : ℝ) ^ 64 : ℝ) : EReal)) : (a * a < b * b ↔ a < b) ∧ (b * b = a * a ↔ b = a) := by
  have hr (z : EReal) (hz : 0 ≤ z ∧ z ≤ (((2 : ℝ) ^ 64 : ℝ) : EReal)) : ∃ y : ℝ, z = (y : EReal) ∧ 0 ≤ y := by
    have h1 : z ≠ ⊤ := (lt_of_le_of_lt hz.2 (EReal.coe_lt_top _)).ne
    have h2 : z ≠ ⊥ := (lt_of_lt_of_le EReal.bot_lt_zero hz.1).ne'
    lift z to ℝ using ⟨h1, h2⟩
    exact ⟨z, rfl, by exact_mod_cast hz.1⟩
  obtain ⟨p, rfl, hp⟩ := hr a ha
  obtain ⟨q, rfl, hq⟩ := hr b hb
  rw [← EReal.coe_mul, ← EReal.coe_mul]
  constructor
  · rw [EReal.coe_lt_coe_iff, EReal.coe_lt_coe_iff]
    exact (mul_self_lt_mul_self_iff hp hq).symm
  · rw [EReal.coe_eq_coe_iff, EReal.coe_eq_coe_iff]
    exact mul_self_inj hq hp

variable (U : FVec Ideal S1x128x18944 .bf16)

/-- An entry after pruning. -/
theorem pruned_eq (r : Fin 128) (hx : InRange (row U r)) (o : Fin 18944) : hpRef U (ix2 r o) = kept (row U r) o := by
  have hg (l : Fin 4) : shapeCast S1x128x4736x4 (hRef U) shapeCasts_S1x128x18944_S1x128x4736x4 (ix4 0 r ⟨o.val / 4, by omega⟩ l) = grp (row U r) o l * grp (row U r) o l :=
    (group_at U r ⟨o.val / 4, by omega⟩ l).trans (sq_at U r _)
  have hn : (rankRef (shapeCast S1x128x4736x4 (hRef U) shapeCasts_S1x128x18944_S1x128x4736x4) (ix4 0 r ⟨o.val / 4, by omega⟩ ⟨o.val % 4, by omega⟩)).toNat
      = ∑ l : Fin 4, if grp (row U r) o (lan o) < grp (row U r) o l ∨ (grp (row U r) o l = grp (row U r) o (lan o) ∧ l < lan o) then 1 else 0 := by
    rw [rank_at]
    refine fold_toNat _ _ _ (fun l _ => ?_) (lt_of_le_of_lt (Finset.sum_le_card_nsmul _ _ 1 fun l _ => by split <;> simp) (by simp))
    rw [lower, word_or, hg, hg]
    have h := sq_lt (a := grp (row U r) o (lan o)) (b := grp (row U r) o l) (hx _) (hx _)
    exact if_congr (or_congr (decide_eq_true_iff.trans h.1) (and_congr (decide_eq_true_iff.trans h.2) decide_eq_true_iff)) rfl rfl
  have hle : (∑ l : Fin 4, if grp (row U r) o (lan o) < grp (row U r) o l ∨ (grp (row U r) o l = grp (row U r) o (lan o) ∧ l < lan o) then 1 else 0) ≤ 4 :=
    (Finset.sum_le_card_nsmul _ _ 1 fun l _ => by split <;> simp).trans (by simp)
  rw [pruned_at, sq_at]
  generalize rankRef (shapeCast S1x128x4736x4 (hRef U) shapeCasts_S1x128x18944_S1x128x4736x4) (ix4 0 r ⟨o.val / 4, by omega⟩ ⟨o.val % 4, by omega⟩) = v at hn
  have hv : v = BitVec.ofNat 32 v.toNat := (BitVec.ofNat_toNat ..).trans (BitVec.setWidth_eq v) |>.symm
  rw [hv, few ⟨v.toNat, by omega⟩]
  unfold kept
  by_cases hk : Keeps (grp (row U r) o) (lan o)
  · rw [if_pos hk]
    have : v.toNat < 2 := by rw [hn]; exact hk
    simp only [this]
    rfl
  · rw [if_neg hk]
    have : ¬ v.toNat < 2 := by rw [hn]; exact hk
    simp only [this]
    rfl

theorem neg_top : Ideal.ofBits .f32 0xFF800000#32 = ⊥ := by
  show Ideal.ieee 8 23 0xFF800000#32 = ⊥
  have a : ((0xFF800000#32).extractLsb' 23 8).toNat = 255 := by decide
  have b : ((0xFF800000#32).extractLsb' 0 23).toNat = 0 := by decide
  have c : ((0xFF800000#32).extractLsb' 31 1 == 1#1) = true := by decide
  simp [Ideal.ieee, a, b, c]

end Cert.ReferenceIdeal.Hand
end
-- ==== Proof.V.RefForms.lean ====
module

public import proofs.«01_k».proof.Proof.Gen.ReferenceIdeal.Frame
public import Idealize.ShloMosaic.Lib.Pipeline.ValueKit
public import Idealize.ShloMosaic.Lib.Pointwise
public import Idealize.ShloMosaic.Lib.Claim

@[expose] public section

set_option maxRecDepth 16384

noncomputable section

namespace Cert.ReferenceIdeal.Hand

open Cert.ReferenceIdeal Cert.ReferenceIdeal.Gen
open Idealize.ShloMosaic Idealize.ShloMosaic.TcCoe Idealize.SL.Sem
open Idealize.ShloMosaic.Pipeline (Dat)

/-! The reference's values at one position, as scalar expressions of the array it reads. -/

variable (X : Vec Ideal S128x18944 .f32)

/-- The rows' greatest entries. -/
def greatestRef (A : FVec Ideal S128x18944 .f32) : FVec Ideal S128 .f32 :=
  multiReduction .maximumf [1] S128 A 0xFF800000#32 reduces_S128x18944_S128 (.inl rfl) rfl

/-- The rows' bounds. -/
def boundsRef (A : FVec Ideal S128 .f32) : FVec Ideal S128x1 .f32 :=
  mulf (shapeCast S128x1 A shapeCasts_S128_S128x1) (broadcast S128x1 (Scalar.ofBits .f32 0x3B124925#32))

/-- For each row and power of two, one if the row's bound reaches it. -/
def reachRef (B : FVec Ideal S128x1 .f32) : IVec S128x254 32 :=
  extui 32 (cmpf .oge (broadcastTo S128x254 B broadcasts_S128x1_S128x254) (broadcastTo S128x254 (exp2 (sitofp .f32 (subi (iota .tc S1x254 32 [1] iota_S1x254_d1_w32) (broadcast S1x254 126#32)))) broadcasts_S1x254_S128x254)) natLt_1_32

/-- The count over the powers. -/
def countRef (B : IVec S128x254 32) : IVec S128x1 32 :=
  shapeCast S128x1 (multiReductionI .add [1] S128 B 0#32 reduces_S128x254_S128 rfl) shapeCasts_S128_S128x1

/-- The exponent of a count. -/
def exponentRef (C : IVec S128x1 32) : IVec S128x1 32 :=
  select (cmpi .eq C (broadcast S128x1 0#32)) (broadcast S128x1 0#32) (subi C (broadcast S128x1 126#32))

theorem pay5_parts : k0_pay5 X = exponentRef (countRef (reachRef (boundsRef (greatestRef (absf (k0_pay4 X)))))) := rfl

theorem entries_at (r : Fin 128) (o : Fin 18944) : absf (k0_pay4 X) (ix2 r o) = FloatOps.absf (F := Ideal) (φ := .f32) (X (ix2 r o)) := by
  pointwise [k0_pay4]

theorem greatest_at (A : FVec Ideal S128x18944 .f32) (r : Fin 128) : greatestRef A (ix1 r) = (Finset.univ.fold max (Ideal.ofBits .f32 0xFF800000#32) fun x : Fin 18944 => (A (ix2 r x) : EReal) : EReal) := by
  pointwise [greatestRef]

theorem bounds_at (A : FVec Ideal S128 .f32) (r : Fin 128) : boundsRef A (ix2 r 0) = ((A (ix1 r) : EReal) * Ideal.ofBits .f32 0x3B124925#32 : EReal) := by
  pointwise [boundsRef]

theorem reach_at (B : FVec Ideal S128x1 .f32) (r : Fin 128) (j : Fin 254) : reachRef B (ix2 r j) = BitVec.setWidth 32 (BitVec.ofBool (decide
    ((FloatOps.exp2 (FloatOps.sitofp .f32 (IntOp.subi (BitVec.ofNat 32 j.val) 126#32) : Ideal .f32) : EReal) ≤ (B (ix2 r 0) : EReal)))) := by
  pointwise [reachRef]

theorem count_at (B : IVec S128x254 32) (r : Fin 128) : countRef B (ix2 r 0) = Finset.univ.fold IntOp.addi 0#32 fun j : Fin 254 => B (ix2 r j) := by
  pointwise [countRef]

theorem exponent_at (C : IVec S128x1 32) (r : Fin 128) : exponentRef C (ix2 r 0) = Scalar.select (IntOp.cmpi .eq (C (ix2 r 0)) 0#32) 0#32 (IntOp.subi (C (ix2 r 0)) 126#32) := by
  pointwise [exponentRef]

theorem pay3_at (r : Fin 128) : k0_pay3 (k0_pay6 X) (ix2 0 r) = FloatOps.exp2 (FloatOps.sitofp .f32 (k0_pay5 X (ix2 r 0))) := by
  pointwise [k0_pay3, k0_pay6]

theorem pay7_at (r : Fin 128) (o : Fin 18944) : k0_pay7 X (ix2 r o) = (min (Ideal.ofBits .f32 1138753536#32) (max (Ideal.ofBits .f32 3286237184#32)
    ((X (ix2 r o) : EReal) * (FloatOps.exp2 (FloatOps.sitofp .f32 (IntOp.subi 0#32 (k0_pay5 X (ix2 r 0))) : Ideal .f32) : EReal))) : EReal) := by
  pointwise [k0_pay7, k0_pay4]

theorem pay2_at (Y : FVec Ideal S128x18944 .fp8e4m3) (r : Fin 128) (o : Fin 18944) : k0_pay2 Y (ix3 0 r o) = Y (ix2 r o) := by
  pointwise [k0_pay2]

theorem pay1_at (W : Vec Ideal S18944x3584 .fp8e4m3) (S : Vec Ideal S1x3584 .f32) (r : Fin 128) (o : Fin 3584) :
    k0_pay1 (k0_pay8 X W) (k0_pay9 S) (ix3 0 r o) = ((∑ k : Fin 18944, (k0_pay7 X (ix2 r k) : EReal) * (W (ix2 k o) : EReal)) * (FloatOps.exp2 (FloatOps.sitofp .f32 (k0_pay5 X (ix2 r 0)) : Ideal .f32) : EReal) * (S (ix2 0 o) : EReal) : EReal) := by
  pointwise [k0_pay1, k0_pay8, k0_pay9, k0_pay6]

end Cert.ReferenceIdeal.Hand
end
-- ==== Proof.V.RefOut.lean ====
module

public import proofs.«01_k».proof.Proof.V.RefVal
public import proofs.«01_k».proof.Proof.V.RefForms
public import proofs.«01_k».proof.Proof.V.RefRun
public import proofs.«01_k».proof.Proof.V.Spec
public import Idealize.ShloMosaic.Lib.Pipeline.ValueKit
public import Idealize.ShloMosaic.Lib.Pointwise
public import Idealize.ShloMosaic.Lib.Claim

@[expose] public section

set_option maxRecDepth 16384

noncomputable section

namespace Cert.ReferenceIdeal.Hand

open Cert.V Cert.ReferenceIdeal Cert.ReferenceIdeal.Gen
open Idealize.ShloMosaic Idealize.ShloMosaic.TcCoe Idealize.SL.Sem
open Idealize.ShloMosaic.Pipeline (Dat)

/-! The reference's results are the row's scale, codes and product. -/

theorem select_word (v : BitVec 32) : Scalar.select (IntOp.cmpi .eq v 0#32) 0#32 (IntOp.subi v 126#32) = expo v := by
  unfold expo
  by_cases h : v = 0#32
  · subst h; rfl
  · rw [if_neg h]
    show Scalar.select (BitVec.ofBool (v == 0#32)) _ _ = _
    rw [beq_false_of_ne h]
    rfl

/-- The count of the powers that a row's bound reaches. -/
theorem count_row {x : Fin 18944 → EReal} (hx : InRange x) (f : Fin 254 → BitVec 32)
    (hf : ∀ j : Fin 254, (f j).toNat = if thr (j.val + 1) ≤ bnd x then 1 else 0) : Finset.univ.fold IntOp.addi 0#32 f = fld x :=
  count_eq (bnd_range hx).1 (bnd_range hx).2 (fold_toNat _ _ _ (fun j _ => hf j) (lt_of_le_of_lt (Finset.sum_le_card_nsmul _ _ 1 fun l _ => by split <;> simp) (by simp)))

theorem amax_fold {x : Fin 18944 → EReal} (hx : InRange x) (f : Fin 18944 → EReal) (hf : ∀ o, f o = kept x o) :
    (Finset.univ.fold max (Ideal.ofBits .f32 0xFF800000#32) fun o => FloatOps.absf (F := Ideal) (φ := .f32) (f o) : EReal) = amax x := by
  rw [neg_top]
  unfold amax
  congr 1
  funext o
  rw [hf o]
  show max (kept x o) (-kept x o) = _
  exact max_eq_left ((EReal.neg_le_zero.mpr (kept_nonneg hx o)).trans (kept_nonneg hx o))

theorem sitofp_word (v : BitVec 32) : (FloatOps.exp2 (FloatOps.sitofp .f32 v : Ideal .f32) : Ideal .f32) = Ideal.exp2 (((v.toInt : ℝ) : EReal)) := rfl

section
variable (H : Vec Ideal S128x18944 .f32) {x : Fin 18944 → EReal} (hx : InRange x) (r : Fin 128) (hH : ∀ o : Fin 18944, H (ix2 r o) = kept x o)
include hx hH

/-- A row's exponent. -/
theorem expo_eq : k0_pay5 H (ix2 r 0) = expo (fld x) := by
  have hb : boundsRef (greatestRef (absf (k0_pay4 H))) (ix2 r 0) = bnd x := by
    unfold bnd
    rw [bounds_at, greatest_at, ← amax_fold hx (fun o => H (ix2 r o)) hH]
    simp only [entries_at]
    rfl
  have hc : countRef (reachRef (boundsRef (greatestRef (absf (k0_pay4 H))))) (ix2 r 0) = fld x := by
    rw [count_at]
    refine count_row hx _ fun j => ?_
    rw [reach_at, hb, word_one]
    refine if_congr (decide_eq_true_iff.trans ?_) rfl rfl
    rw [← power_thr j]
    exact Iff.rfl
  rw [pay5_parts, exponent_at, hc]
  exact select_word _

theorem scale_ref : k0_pay3 (k0_pay6 H) (ix2 0 r) = scl x := by
  rw [pay3_at, expo_eq H hx r hH, sitofp_word]
  unfold scl
  rfl

theorem code_ref (o : Fin 18944) : k0_pay7 H (ix2 r o) = code x o := by
  rw [pay7_at, expo_eq H hx r hH, hH o, sitofp_word]
  unfold code Cert.V.inv
  rfl

theorem codes_ref (o : Fin 18944) : k0_pay2 (k0_pay7 H) (ix3 0 r o) = code x o := by
  rw [pay2_at, code_ref H hx r hH o]

theorem product_ref (W : Vec Ideal S18944x3584 .fp8e4m3) (S : Vec Ideal S1x3584 .f32) (o : Fin 3584) :
    k0_pay1 (k0_pay8 H W) (k0_pay9 S) (ix3 0 r o) = ((∑ k : Fin 18944, code x k * (W (ix2 k o) : EReal)) * scl x * (S (ix2 0 o) : EReal) : EReal) := by
  rw [pay1_at, expo_eq H hx r hH, sitofp_word]
  simp only [code_ref H hx r hH]
  unfold scl
  rfl

end

end Cert.ReferenceIdeal.Hand
end
-- ==== Proof.V.RefRes.lean ====
module

public import proofs.«01_k».proof.Proof.V.RefOut

@[expose] public section

set_option maxRecDepth 16384

noncomputable section

namespace Cert.ReferenceIdeal.Hand

open Cert.V Cert.ReferenceIdeal Cert.ReferenceIdeal.Gen
open Idealize.ShloMosaic Idealize.ShloMosaic.TcCoe Idealize.SL.Sem

/-! The reference's three results, index by index, from the program's arguments. -/

variable (m : (ℓ : Loc nD τ sig) → Buf (Elt Ideal) ℓ) (c : Dev nD)
  (A : S1x128x18944.Idx → EReal) (W : S18944x3584.Idx → EReal) (S : S3584.Idx → EReal)
  (hA : m ((c : Thread nD τ).loc main_arg0) = A) (hW : m ((c : Thread nD τ).loc main_arg1) = W) (hS : m ((c : Thread nD τ).loc main_arg2) = S)
  (r : Fin 128) (hx : InRange (row A r))

include hA hx in
theorem c_at (o : Fin 18944) : (k0_pay2 (k0_pay7 (V m c main_v29)) (ix3 0 r o) : EReal) = code (row A r) o := by
  rw [entry29, hA]
  exact codes_ref (hpRef A) hx r (pruned_eq A r hx) o

include hA hx in
theorem h_at : (k0_pay3 (k0_pay6 (V m c main_v29)) (ix2 0 r) : EReal) = scl (row A r) := by
  rw [entry29, hA]
  exact scale_ref (hpRef A) hx r (pruned_eq A r hx)

include hA hW hS hx in
theorem y_at (o : Fin 3584) : (k0_pay1 (k0_pay8 (V m c main_v29) (V m c main_arg1)) (k0_pay9 (V m c main_v30)) (ix3 0 r o) : EReal)
    = (∑ k : Fin 18944, code (row A r) k * W (ix2 k o)) * scl (row A r) * S (ix1 o) := by
  rw [entry29, entry30, V_main_arg1, hA, hW, hS, ← scale_at S o]
  exact product_ref (hpRef A) hx r (pruned_eq A r hx) W (shapeCast S1x3584 S shapeCasts_S3584_S1x3584) o

end Cert.ReferenceIdeal.Hand
end
-- ==== Proof.V.Range.lean ====
module

public import proofs.«01_k».proof.Pre_values_in_range
public import proofs.«01_k».proof.Proof.V.Spec
public import Idealize.ShloMosaic.Lib.ReduceAll
public import Idealize.ShloMosaic.Lib.Pointwise

@[expose] public section

noncomputable section

namespace Cert.V

open Idealize.ShloMosaic

/-! The precondition, read: no activation is above two to the 64. -/

instance range_facts : Cert.Pre_values_in_range.Facts where
  bitsLt_bf16_f32 := by decide
  bcast_S_S1x128x18944 := by decide
  reducesTo_S1x128x18944_S_d0_1_2 := by decide
  h_S_ := by decide

theorem top_f32 : Ideal.ofBits .f32 0x5F800000#32 = (((2 : ℝ) ^ 64 : ℝ) : EReal) := by
  show Ideal.ieee 8 23 0x5F800000#32 = _
  have a : ((0x5F800000#32).extractLsb' 23 8).toNat = 191 := by decide
  have b : ((0x5F800000#32).extractLsb' 0 23).toNat = 0 := by decide
  have c : ((0x5F800000#32).extractLsb' 31 1 == 1#1) = false := by decide
  unfold Ideal.ieee
  simp only [a, b, c]
  norm_num

theorem inRange_of_pre (A : FVec Ideal Cert.Pre_values_in_range.S1x128x18944 .bf16) (W : FVec Ideal Cert.Pre_values_in_range.S18944x3584 .fp8e4m3) (S : FVec Ideal Cert.Pre_values_in_range.S3584 .f32)
    (h : Cert.Pre_values_in_range.fn (F := Ideal) A W S = fun _ => 1#1) (r : Fin 128) : InRange (row A r) := by
  intro o
  haveI : Subsingleton Cert.Pre_values_in_range.S_.Idx := ⟨fun a b => funext fun i => i.elim0⟩
  have e := Host.reduce_andi_all _ _ _ _ _ (congrFun h (fun i => i.elim0)) (ix3 0 r o)
  have e' : BitVec.ofBool (decide ((A (ix3 0 r o) : EReal) ≤ Ideal.ofBits .f32 0x5F800000#32)) = 1#1 := e
  rw [top_f32] at e'
  have hle : (A (ix3 0 r o) : EReal) ≤ (((2 : ℝ) ^ 64 : ℝ) : EReal) := by
    by_contra hc
    rw [decide_eq_false hc] at e'
    exact absurd e' (by decide)
  exact ⟨le_max_right _ _, max_le hle (by exact_mod_cast (by positivity : (0 : ℝ) ≤ 2 ^ 64))⟩

end Cert.V
end
-- ==== Proof.lean ====
/-
  The proof of `Cert.Claim` (proofs.«01_k».proof.Defs): the frames of the kernel and of the reference, and the equality of
  their three results, read from the two runs index by index.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Frame
public import proofs.«01_k».proof.Proof.KI.Run
public import proofs.«01_k».proof.Proof.V.KRun
public import proofs.«01_k».proof.Proof.V.RefRes
public import proofs.«01_k».proof.Proof.V.Range
public import Idealize.ShloMosaic.Adequacy
public import Idealize.ShloMosaic.Init

@[expose] public section

noncomputable section

namespace Cert.Proof

open Idealize.ShloMosaic Idealize.SL.Sem

/-- The kernel as printed: the same text as its idealized form, so the run proved there for any number format is its run. -/
theorem frame_kernel : Cert.quiescent_Kernel (hKernel := Cert.Kernel.Gen.facts) := fun m g _ => Cert.KernelIdeal.Hand.unchanged (F := Bits) m g

/-- Arrays of one plane that agree at every row and column are equal. -/
theorem ext3 {n : ℕ} {f g : (⟨3, ![1, 128, n]⟩ : Shape).Idx → EReal} (h : ∀ (r : Fin 128) (o : Fin n), f (ix3 0 r o) = g (ix3 0 r o)) : f = g := by
  funext i
  have e : i = ix3 0 (i 1) (i 2) := by
    funext a
    match a with
    | ⟨0, _⟩ => exact Subsingleton.elim (α := Fin 1) _ _
    | ⟨1, _⟩ => rfl
    | ⟨2, _⟩ => rfl
  rw [e]
  exact h _ _
theorem ext2 {f g : (⟨2, ![1, 128]⟩ : Shape).Idx → EReal} (h : ∀ r : Fin 128, f (ix2 0 r) = g (ix2 0 r)) : f = g := by
  funext i
  have e : i = ix2 0 (i 1) := by
    funext a
    match a with
    | ⟨0, _⟩ => exact Subsingleton.elim (α := Fin 1) _ _
    | ⟨1, _⟩ => rfl
  rw [e]
  exact h _

/-- The kernel and the reference end with the same product, codes and scales. -/
theorem algebraic : Cert.algebraic_KernelIdeal_ReferenceIdeal_pre_values_in_range (hKernelIdeal := Cert.KernelIdeal.Gen.facts) (hReferenceIdeal := Cert.ReferenceIdeal.Gen.facts) (hPre_values_in_range := Cert.V.range_facts) := by
  intro m g m' g' hpre hargs
  have hx (c : Dev Cert.KernelIdeal.nD) (r : Fin 128) := Cert.V.inRange_of_pre _ _ _ (hpre c) r
  refine ⟨fun c => Cert.KernelIdeal.Hand.VF m c Cert.KernelIdeal.main_v3, fun c => Cert.KernelIdeal.Hand.VF m c Cert.KernelIdeal.main_v4, fun c => Cert.KernelIdeal.Hand.hRes m c, ?_, ?_⟩
  · exact (θ_run _ _ _).mono (fun r h c => ⟨(h.1 c).1.1, (h.1 c).1.2.1, (h.1 c).1.2.2, (h.1 c).2⟩) (Cert.KernelIdeal.Hand.run_results m g)
  · refine (θ_run _ _ _).mono (fun r h c => ?_) (Cert.ReferenceIdeal.Hand.run_results m' g')
    obtain ⟨h0, h1, h2, hk⟩ := h c
    obtain ⟨a0, a1, a2⟩ := hargs c
    refine ⟨h0.trans (ext3 fun r o => ?_), h1.trans (ext3 fun r o => ?_), h2.trans (ext2 fun r => ?_), hk⟩
    · exact (Cert.ReferenceIdeal.Hand.y_at m' c _ _ _ a0 a1 a2 r (hx c r) o).trans (Cert.KernelIdeal.Hand.y_at m c r (hx c r) o).symm
    · exact (Cert.ReferenceIdeal.Hand.c_at m' c _ a0 r (hx c r) o).trans (Cert.KernelIdeal.Hand.c_at m c r (hx c r) o).symm
    · exact (Cert.ReferenceIdeal.Hand.h_at m' c _ a0 r (hx c r)).trans (Cert.KernelIdeal.Hand.h_at m c r (hx c r)).symm

theorem claim : Cert.Claim := ⟨Cert.Kernel.Gen.facts, Cert.KernelIdeal.Gen.facts, Cert.ReferenceIdeal.Gen.facts, Cert.V.range_facts,
  frame_kernel, fun m g _ => Cert.KernelIdeal.Hand.unchanged (F := Ideal) m g, fun m g _ => Cert.KernelIdeal.Hand.unchanged (F := Ideal) m g,
  fun m g _ => Cert.ReferenceIdeal.Gen.frame m g, fun m g _ => Cert.ReferenceIdeal.Gen.frame m g, trivial, algebraic⟩

end Cert.Proof

end
